-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.bf16_pair.BufferStatement Cert.KernelIdeal.S4480x2x128 Cert.KernelIdeal.S4480x1x128
  ∧ IdealRules.bf16_pair.Statement Cert.KernelIdeal.S64x128 Cert.KernelIdeal.S32x128
  ∧ IdealRules.bf16_pair.Statement Cert.KernelIdeal.S32x2x128 Cert.KernelIdeal.S32x1x128
  ∧ IdealRules.bf16_pair.Statement Cert.KernelIdeal.S112x2x128 Cert.KernelIdeal.S112x1x128
  ∧ IdealRules.bf16_pair.Statement Cert.KernelIdeal.S224x128 Cert.KernelIdeal.S112x128
  ∧ IdealRules.truncf_extf.Statement Cert.KernelIdeal.S8x128 .f32 .bf16
  ∧ IdealRules.bf16_pair.PackStatement Cert.KernelIdeal.S128x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x56x64 : Shape := ⟨4, ![2, 128, 56, 64]⟩
abbrev S2x128x56 : Shape := ⟨3, ![2, 128, 56]⟩
abbrev S2x56x64x64 : Shape := ⟨4, ![2, 56, 64, 64]⟩
abbrev S2x56x64x128 : Shape := ⟨4, ![2, 56, 64, 128]⟩
abbrev S7168x128 : Shape := ⟨2, ![7168, 128]⟩
abbrev S2x56x128 : Shape := ⟨3, ![2, 56, 128]⟩
abbrev S112x128 : Shape := ⟨2, ![112, 128]⟩
abbrev S7168x64 : Shape := ⟨2, ![7168, 64]⟩
abbrev S4480x128 : Shape := ⟨2, ![4480, 128]⟩
abbrev S8192x128 : Shape := ⟨2, ![8192, 128]⟩
abbrev S4096x128 : Shape := ⟨2, ![4096, 128]⟩
abbrev S64x128 : Shape := ⟨2, ![64, 128]⟩
abbrev S32x128 : Shape := ⟨2, ![32, 128]⟩
abbrev S16x128 : Shape := ⟨2, ![16, 128]⟩
abbrev S128x128 : Shape := ⟨2, ![128, 128]⟩
abbrev S112x64 : Shape := ⟨2, ![112, 64]⟩
abbrev S16x64 : Shape := ⟨2, ![16, 64]⟩
abbrev S128x64 : Shape := ⟨2, ![128, 64]⟩
abbrev S8x128 : Shape := ⟨2, ![8, 128]⟩

abbrev nBuf : Space → Nat
  | .hbm => 34
  | .vmem => 23
  | .smem => 0
  | _ => 0

abbrev bufTy : (tb : Table) → Fin (tcTables nBuf tb) → BufTy
  | .hbm, ⟨0, _⟩ => ⟨S2x128x56x64, .fp8e4m3⟩
  | .hbm, ⟨1, _⟩ => ⟨S2x128x56x64, .fp8e4m3⟩
  | .hbm, ⟨2, _⟩ => ⟨S2x128x56x64, .fp8e4m3⟩
  | .hbm, ⟨3, _⟩ => ⟨S2x128x56, .f32⟩
  | .hbm, ⟨4, _⟩ => ⟨S2x128x56, .f32⟩
  | .hbm, ⟨5, _⟩ => ⟨S2x128x56, .f32⟩
  | .hbm, ⟨6, _⟩ => ⟨S2x128x56x64, .bf16⟩
  | .hbm, ⟨7, _⟩ => ⟨S2x128x56x64, .bf16⟩
  | .hbm, ⟨8, _⟩ => ⟨S2x128x56x64, .bf16⟩
  | .hbm, ⟨9, _⟩ => ⟨S2x56x64x64, .f32⟩
  | .hbm, ⟨10, _⟩ => ⟨S2x56x64x128, .fp8e4m3⟩
  | .hbm, ⟨11, _⟩ => ⟨S7168x128, .fp8e4m3⟩
  | .hbm, ⟨12, _⟩ => ⟨S2x56x64x128, .fp8e4m3⟩
  | .hbm, ⟨13, _⟩ => ⟨S7168x128, .fp8e4m3⟩
  | .hbm, ⟨14, _⟩ => ⟨S2x56x64x128, .fp8e4m3⟩
  | .hbm, ⟨15, _⟩ => ⟨S7168x128, .fp8e4m3⟩
  | .hbm, ⟨16, _⟩ => ⟨S2x56x128, .f32⟩
  | .hbm, ⟨17, _⟩ => ⟨S112x128, .f32⟩
  | .hbm, ⟨18, _⟩ => ⟨S2x56x128, .f32⟩
  | .hbm, ⟨19, _⟩ => ⟨S112x128, .f32⟩
  | .hbm, ⟨20, _⟩ => ⟨S2x56x128, .f32⟩
  | .hbm, ⟨21, _⟩ => ⟨S112x128, .f32⟩
  | .hbm, ⟨22, _⟩ => ⟨S2x56x64x128, .bf16⟩
  | .hbm, ⟨23, _⟩ => ⟨S7168x128, .bf16⟩
  | .hbm, ⟨24, _⟩ => ⟨S2x56x64x128, .bf16⟩
  | .hbm, ⟨25, _⟩ => ⟨S7168x128, .bf16⟩
  | .hbm, ⟨26, _⟩ => ⟨S2x56x64x128, .bf16⟩
  | .hbm, ⟨27, _⟩ => ⟨S7168x128, .bf16⟩
  | .hbm, ⟨28, _⟩ => ⟨S7168x64, .f32⟩
  | .hbm, ⟨29, _⟩ => ⟨S7168x128, .bf16⟩
  | .hbm, ⟨30, _⟩ => ⟨S7168x64, .f32⟩
  | .hbm, ⟨31, _⟩ => ⟨S2x56x64x128, .bf16⟩
  | .hbm, ⟨32, _⟩ => ⟨S2x128x56x64, .bf16⟩
  | .hbm, ⟨33, _⟩ => ⟨S2x56x64x64, .f32⟩
  | .local _ .vmem, ⟨0, _⟩ => ⟨S7168x128, .fp8e4m3⟩
  | .local _ .vmem, ⟨1, _⟩ => ⟨S7168x128, .fp8e4m3⟩
  | .local _ .vmem, ⟨2, _⟩ => ⟨S7168x128, .fp8e4m3⟩
  | .local _ .vmem, ⟨3, _⟩ => ⟨S112x128, .f32⟩
  | .local _ .vmem, ⟨4, _⟩ => ⟨S112x128, .f32⟩
  | .local _ .vmem, ⟨5, _⟩ => ⟨S112x128, .f32⟩
  | .local _ .vmem, ⟨6, _⟩ => ⟨S7168x128, .bf16⟩
  | .local _ .vmem, ⟨7, _⟩ => ⟨S7168x128, .bf16⟩
  | .local _ .vmem, ⟨8, _⟩ => ⟨S7168x128, .bf16⟩
  | .local _ .vmem, ⟨9, _⟩ => ⟨S7168x64, .f32⟩
  | .local _ .vmem, ⟨10, _⟩ => ⟨S7168x128, .bf16⟩
  | .local _ .vmem, ⟨11, _⟩ => ⟨S7168x64, .f32⟩
  | .local _ .vmem, ⟨12, _⟩ => ⟨S4480x128, .i32⟩
  | .local _ .vmem, ⟨13, _⟩ => ⟨S4480x128, .i32⟩
  | .local _ .vmem, ⟨14, _⟩ => ⟨S4480x128, .i32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S4096x128, .f32⟩
  | .local _ .vmem, ⟨22, _⟩ => ⟨S8192x128, .f32⟩
  | _, _ => ⟨S2x128x56x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c112_i32 : BitVec 32 := 112#32
  let v0 : BitVec 32 := Scalar.addi c0_i32 c112_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c64_i32_61 : BitVec 32 := 64#32
  let v30 : BitVec 32 := Scalar.muli arg23 c64_i32_61
  v30
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult2 (k0_t1 : Fin k0_t1_loop.trips) : BitVec 32 :=
  let c0_i32 : BitVec 32 := 0#32
  let c1_i32 : BitVec 32 := 1#32
  let arg23 : BitVec 32 := Scf.iv c0_i32 c1_i32 k0_t1
  let c40_i32 : BitVec 32 := 40#32
  let v37 : BitVec 32 := Scalar.muli arg23 c40_i32
  v37
def k0_off2 (k0_t1 : Fin k0_t1_loop.trips) : Fin 2 → Nat :=
  let c0_i32 : BitVec 32 := 0#32
  let c1_i32 : BitVec 32 := 1#32
  let arg23 : BitVec 32 := Scf.iv c0_i32 c1_i32 k0_t1
  let c40_i32 : BitVec 32 := 40#32
  let v37 : BitVec 32 := Scalar.muli arg23 c40_i32
  let v38 : BitVec 32 := v37
  let v39 : Index := Scalar.indexCast v38
  let c0_63 : Index := 0#32
  ![v39.toNat, 0]
@[reducible] def k0_t2_loop : Scf.Loop 32 :=
  let c0_i32_2 : BitVec 32 := 0#32
  let c32_i32 : BitVec 32 := 32#32
  let v6 : BitVec 32 := Scalar.addi c0_i32_2 c32_i32
  let c1_i32_3 : BitVec 32 := 1#32
  ⟨c0_i32_2, v6, c1_i32_3⟩
def k0_off3 (k0_t2 : Fin k0_t2_loop.trips) : Fin 2 → Nat :=
  let c0_i32_2 : BitVec 32 := 0#32
  let c1_i32_3 : BitVec 32 := 1#32
  let arg23 : BitVec 32 := Scf.iv c0_i32_2 c1_i32_3 k0_t2
  let v30 : Index := Scalar.indexCast arg23
  let c0_61 : Index := 0#32
  ![v30.toNat, 0]
def k0_mult3 (k0_t2 : Fin k0_t2_loop.trips) : BitVec 32 :=
  let c2_i32 : BitVec 32 := 2#32
  let c0_i32_2 : BitVec 32 := 0#32
  let c1_i32_3 : BitVec 32 := 1#32
  let arg23 : BitVec 32 := Scf.iv c0_i32_2 c1_i32_3 k0_t2
  let v45 : BitVec 32 := Scalar.muli c2_i32 arg23
  let c128_i32_64 : BitVec 32 := 128#32
  let v46 : BitVec 32 := Scalar.muli v45 c128_i32_64
  v46
def k0_off4 (k0_t2 : Fin k0_t2_loop.trips) : Fin 2 → Nat :=
  let c2_i32 : BitVec 32 := 2#32
  let c0_i32_2 : BitVec 32 := 0#32
  let c1_i32_3 : BitVec 32 := 1#32
  let arg23 : BitVec 32 := Scf.iv c0_i32_2 c1_i32_3 k0_t2
  let v45 : BitVec 32 := Scalar.muli c2_i32 arg23
  let c128_i32_64 : BitVec 32 := 128#32
  let v46 : BitVec 32 := Scalar.muli v45 c128_i32_64
  let v47 : BitVec 32 := v46
  let v48 : Index := Scalar.indexCast v47
  let c0_65 : Index := 0#32
  ![v48.toNat, 0]
def k0_mult4 (k0_t2 : Fin k0_t2_loop.trips) : BitVec 32 :=
  let c2_i32_66 : BitVec 32 := 2#32
  let c0_i32_2 : BitVec 32 := 0#32
  let c1_i32_3 : BitVec 32 := 1#32
  let arg23 : BitVec 32 := Scf.iv c0_i32_2 c1_i32_3 k0_t2
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  v55
def k0_off5 (k0_t2 : Fin k0_t2_loop.trips) : Fin 2 → Nat :=
  let c2_i32_66 : BitVec 32 := 2#32
  let c0_i32_2 : BitVec 32 := 0#32
  let c1_i32_3 : BitVec 32 := 1#32
  let arg23 : BitVec 32 := Scf.iv c0_i32_2 c1_i32_3 k0_t2
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  let v56 : BitVec 32 := v55
  let v57 : Index := Scalar.indexCast v56
  let c0_69 : Index := 0#32
  ![v57.toNat, 0]
@[reducible] def k0_t3_loop : Scf.Loop 32 :=
  let c0_i32_5 : BitVec 32 := 0#32
  let c112_i32_6 : BitVec 32 := 112#32
  let v7 : BitVec 32 := Scalar.addi c0_i32_5 c112_i32_6
  let c1_i32_7 : BitVec 32 := 1#32
  ⟨c0_i32_5, v7, c1_i32_7⟩
def k0_mult5 (k0_t3 : Fin k0_t3_loop.trips) : BitVec 32 :=
  let c0_i32_5 : BitVec 32 := 0#32
  let c1_i32_7 : BitVec 32 := 1#32
  let arg23 : BitVec 32 := Scf.iv c0_i32_5 c1_i32_7 k0_t3
  let c64_i32_61 : BitVec 32 := 64#32
  let v30 : BitVec 32 := Scalar.muli arg23 c64_i32_61
  v30
def k0_off6 (k0_t3 : Fin k0_t3_loop.trips) : Fin 2 → Nat :=
  let c0_i32_5 : BitVec 32 := 0#32
  let c1_i32_7 : BitVec 32 := 1#32
  let arg23 : BitVec 32 := Scf.iv c0_i32_5 c1_i32_7 k0_t3
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult6 (k0_t3 : Fin k0_t3_loop.trips) : BitVec 32 :=
  let c0_i32_5 : BitVec 32 := 0#32
  let c1_i32_7 : BitVec 32 := 1#32
  let arg23 : BitVec 32 := Scf.iv c0_i32_5 c1_i32_7 k0_t3
  let c40_i32 : BitVec 32 := 40#32
  let v37 : BitVec 32 := Scalar.muli arg23 c40_i32
  v37
def k0_off7 (k0_t3 : Fin k0_t3_loop.trips) : Fin 2 → Nat :=
  let c0_i32_5 : BitVec 32 := 0#32
  let c1_i32_7 : BitVec 32 := 1#32
  let arg23 : BitVec 32 := Scf.iv c0_i32_5 c1_i32_7 k0_t3
  let c40_i32 : BitVec 32 := 40#32
  let v37 : BitVec 32 := Scalar.muli arg23 c40_i32
  let v38 : BitVec 32 := v37
  let v39 : Index := Scalar.indexCast v38
  let c0_63 : Index := 0#32
  ![v39.toNat, 0]
@[reducible] def k0_t4_loop : Scf.Loop 32 :=
  let c0_i32_12 : BitVec 32 := 0#32
  let c32_i32_13 : BitVec 32 := 32#32
  let v13 : BitVec 32 := Scalar.addi c0_i32_12 c32_i32_13
  let c1_i32_14 : BitVec 32 := 1#32
  ⟨c0_i32_12, v13, c1_i32_14⟩
def k0_off8 (k0_t4 : Fin k0_t4_loop.trips) : Fin 2 → Nat :=
  let c0_i32_12 : BitVec 32 := 0#32
  let c1_i32_14 : BitVec 32 := 1#32
  let arg23 : BitVec 32 := Scf.iv c0_i32_12 c1_i32_14 k0_t4
  let v30 : Index := Scalar.indexCast arg23
  let c0_61 : Index := 0#32
  ![v30.toNat, 0]
def k0_mult7 (k0_t4 : Fin k0_t4_loop.trips) : BitVec 32 :=
  let c2_i32 : BitVec 32 := 2#32
  let c0_i32_12 : BitVec 32 := 0#32
  let c1_i32_14 : BitVec 32 := 1#32
  let arg23 : BitVec 32 := Scf.iv c0_i32_12 c1_i32_14 k0_t4
  let v45 : BitVec 32 := Scalar.muli c2_i32 arg23
  let c128_i32_64 : BitVec 32 := 128#32
  let v46 : BitVec 32 := Scalar.muli v45 c128_i32_64
  v46
def k0_off9 (k0_t4 : Fin k0_t4_loop.trips) : Fin 2 → Nat :=
  let c2_i32 : BitVec 32 := 2#32
  let c0_i32_12 : BitVec 32 := 0#32
  let c1_i32_14 : BitVec 32 := 1#32
  let arg23 : BitVec 32 := Scf.iv c0_i32_12 c1_i32_14 k0_t4
  let v45 : BitVec 32 := Scalar.muli c2_i32 arg23
  let c128_i32_64 : BitVec 32 := 128#32
  let v46 : BitVec 32 := Scalar.muli v45 c128_i32_64
  let v47 : BitVec 32 := v46
  let v48 : Index := Scalar.indexCast v47
  let c0_65 : Index := 0#32
  ![v48.toNat, 0]
def k0_mult8 (k0_t4 : Fin k0_t4_loop.trips) : BitVec 32 :=
  let c2_i32_66 : BitVec 32 := 2#32
  let c0_i32_12 : BitVec 32 := 0#32
  let c1_i32_14 : BitVec 32 := 1#32
  let arg23 : BitVec 32 := Scf.iv c0_i32_12 c1_i32_14 k0_t4
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  v55
def k0_off10 (k0_t4 : Fin k0_t4_loop.trips) : Fin 2 → Nat :=
  let c2_i32_66 : BitVec 32 := 2#32
  let c0_i32_12 : BitVec 32 := 0#32
  let c1_i32_14 : BitVec 32 := 1#32
  let arg23 : BitVec 32 := Scf.iv c0_i32_12 c1_i32_14 k0_t4
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  let v56 : BitVec 32 := v55
  let v57 : Index := Scalar.indexCast v56
  let c0_69 : Index := 0#32
  ![v57.toNat, 0]
@[reducible] def k0_t5_loop : Scf.Loop 32 :=
  let c0_i32_16 : BitVec 32 := 0#32
  let c112_i32_17 : BitVec 32 := 112#32
  let v14 : BitVec 32 := Scalar.addi c0_i32_16 c112_i32_17
  let c1_i32_18 : BitVec 32 := 1#32
  ⟨c0_i32_16, v14, c1_i32_18⟩
def k0_mult9 (k0_t5 : Fin k0_t5_loop.trips) : BitVec 32 :=
  let c0_i32_16 : BitVec 32 := 0#32
  let c1_i32_18 : BitVec 32 := 1#32
  let arg23 : BitVec 32 := Scf.iv c0_i32_16 c1_i32_18 k0_t5
  let c64_i32_61 : BitVec 32 := 64#32
  let v30 : BitVec 32 := Scalar.muli arg23 c64_i32_61
  v30
def k0_off11 (k0_t5 : Fin k0_t5_loop.trips) : Fin 2 → Nat :=
  let c0_i32_16 : BitVec 32 := 0#32
  let c1_i32_18 : BitVec 32 := 1#32
  let arg23 : BitVec 32 := Scf.iv c0_i32_16 c1_i32_18 k0_t5
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult10 (k0_t5 : Fin k0_t5_loop.trips) : BitVec 32 :=
  let c0_i32_16 : BitVec 32 := 0#32
  let c1_i32_18 : BitVec 32 := 1#32
  let arg23 : BitVec 32 := Scf.iv c0_i32_16 c1_i32_18 k0_t5
  let c40_i32 : BitVec 32 := 40#32
  let v37 : BitVec 32 := Scalar.muli arg23 c40_i32
  v37
def k0_off12 (k0_t5 : Fin k0_t5_loop.trips) : Fin 2 → Nat :=
  let c0_i32_16 : BitVec 32 := 0#32
  let c1_i32_18 : BitVec 32 := 1#32
  let arg23 : BitVec 32 := Scf.iv c0_i32_16 c1_i32_18 k0_t5
  let c40_i32 : BitVec 32 := 40#32
  let v37 : BitVec 32 := Scalar.muli arg23 c40_i32
  let v38 : BitVec 32 := v37
  let v39 : Index := Scalar.indexCast v38
  let c0_63 : Index := 0#32
  ![v39.toNat, 0]
@[reducible] def k0_t6_loop : Scf.Loop 32 :=
  let c0_i32_23 : BitVec 32 := 0#32
  let c32_i32_24 : BitVec 32 := 32#32
  let v20 : BitVec 32 := Scalar.addi c0_i32_23 c32_i32_24
  let c1_i32_25 : BitVec 32 := 1#32
  ⟨c0_i32_23, v20, c1_i32_25⟩
def k0_off13 (k0_t6 : Fin k0_t6_loop.trips) : Fin 2 → Nat :=
  let c0_i32_23 : BitVec 32 := 0#32
  let c1_i32_25 : BitVec 32 := 1#32
  let arg23 : BitVec 32 := Scf.iv c0_i32_23 c1_i32_25 k0_t6
  let v30 : Index := Scalar.indexCast arg23
  let c0_61 : Index := 0#32
  ![v30.toNat, 0]
def k0_mult11 (k0_t6 : Fin k0_t6_loop.trips) : BitVec 32 :=
  let c2_i32 : BitVec 32 := 2#32
  let c0_i32_23 : BitVec 32 := 0#32
  let c1_i32_25 : BitVec 32 := 1#32
  let arg23 : BitVec 32 := Scf.iv c0_i32_23 c1_i32_25 k0_t6
  let v45 : BitVec 32 := Scalar.muli c2_i32 arg23
  let c128_i32_64 : BitVec 32 := 128#32
  let v46 : BitVec 32 := Scalar.muli v45 c128_i32_64
  v46
def k0_off14 (k0_t6 : Fin k0_t6_loop.trips) : Fin 2 → Nat :=
  let c2_i32 : BitVec 32 := 2#32
  let c0_i32_23 : BitVec 32 := 0#32
  let c1_i32_25 : BitVec 32 := 1#32
  let arg23 : BitVec 32 := Scf.iv c0_i32_23 c1_i32_25 k0_t6
  let v45 : BitVec 32 := Scalar.muli c2_i32 arg23
  let c128_i32_64 : BitVec 32 := 128#32
  let v46 : BitVec 32 := Scalar.muli v45 c128_i32_64
  let v47 : BitVec 32 := v46
  let v48 : Index := Scalar.indexCast v47
  let c0_65 : Index := 0#32
  ![v48.toNat, 0]
def k0_mult12 (k0_t6 : Fin k0_t6_loop.trips) : BitVec 32 :=
  let c2_i32_66 : BitVec 32 := 2#32
  let c0_i32_23 : BitVec 32 := 0#32
  let c1_i32_25 : BitVec 32 := 1#32
  let arg23 : BitVec 32 := Scf.iv c0_i32_23 c1_i32_25 k0_t6
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  v55
def k0_off15 (k0_t6 : Fin k0_t6_loop.trips) : Fin 2 → Nat :=
  let c2_i32_66 : BitVec 32 := 2#32
  let c0_i32_23 : BitVec 32 := 0#32
  let c1_i32_25 : BitVec 32 := 1#32
  let arg23 : BitVec 32 := Scf.iv c0_i32_23 c1_i32_25 k0_t6
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  let v56 : BitVec 32 := v55
  let v57 : Index := Scalar.indexCast v56
  let c0_69 : Index := 0#32
  ![v57.toNat, 0]
@[reducible] def k0_t7_loop : Scf.Loop 32 :=
  let c0_i32_27 : BitVec 32 := 0#32
  let c112_i32_28 : BitVec 32 := 112#32
  let v21 : BitVec 32 := Scalar.addi c0_i32_27 c112_i32_28
  let c1_i32_29 : BitVec 32 := 1#32
  ⟨c0_i32_27, v21, c1_i32_29⟩
def k0_mult13 (k0_t7 : Fin k0_t7_loop.trips) : BitVec 32 :=
  let c0_i32_27 : BitVec 32 := 0#32
  let c1_i32_29 : BitVec 32 := 1#32
  let arg23 : BitVec 32 := Scf.iv c0_i32_27 c1_i32_29 k0_t7
  let c64_i32_61 : BitVec 32 := 64#32
  let v30 : BitVec 32 := Scalar.muli arg23 c64_i32_61
  v30
def k0_off16 (k0_t7 : Fin k0_t7_loop.trips) : Fin 2 → Nat :=
  let c0_i32_27 : BitVec 32 := 0#32
  let c1_i32_29 : BitVec 32 := 1#32
  let arg23 : BitVec 32 := Scf.iv c0_i32_27 c1_i32_29 k0_t7
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult14 (k0_t7 : Fin k0_t7_loop.trips) : BitVec 32 :=
  let c0_i32_27 : BitVec 32 := 0#32
  let c1_i32_29 : BitVec 32 := 1#32
  let arg23 : BitVec 32 := Scf.iv c0_i32_27 c1_i32_29 k0_t7
  let c40_i32 : BitVec 32 := 40#32
  let v36 : BitVec 32 := Scalar.muli arg23 c40_i32
  v36
def k0_off17 (k0_t7 : Fin k0_t7_loop.trips) : Fin 2 → Nat :=
  let c0_i32_27 : BitVec 32 := 0#32
  let c1_i32_29 : BitVec 32 := 1#32
  let arg23 : BitVec 32 := Scf.iv c0_i32_27 c1_i32_29 k0_t7
  let c40_i32 : BitVec 32 := 40#32
  let v36 : BitVec 32 := Scalar.muli arg23 c40_i32
  let v37 : BitVec 32 := v36
  let v38 : Index := Scalar.indexCast v37
  let c0_63 : Index := 0#32
  ![v38.toNat, 0]
@[reducible] def k0_t8_loop : Scf.Loop 32 :=
  let c0_i32_31 : BitVec 32 := 0#32
  let c112_i32_32 : BitVec 32 := 112#32
  let v22 : BitVec 32 := Scalar.addi c0_i32_31 c112_i32_32
  let c1_i32_33 : BitVec 32 := 1#32
  ⟨c0_i32_31, v22, c1_i32_33⟩
def k0_mult15 (k0_t8 : Fin k0_t8_loop.trips) : BitVec 32 :=
  let c0_i32_31 : BitVec 32 := 0#32
  let c1_i32_33 : BitVec 32 := 1#32
  let arg23 : BitVec 32 := Scf.iv c0_i32_31 c1_i32_33 k0_t8
  let c64_i32_61 : BitVec 32 := 64#32
  let v30 : BitVec 32 := Scalar.muli arg23 c64_i32_61
  v30
def k0_off18 (k0_t8 : Fin k0_t8_loop.trips) : Fin 2 → Nat :=
  let c0_i32_31 : BitVec 32 := 0#32
  let c1_i32_33 : BitVec 32 := 1#32
  let arg23 : BitVec 32 := Scf.iv c0_i32_31 c1_i32_33 k0_t8
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult16 (k0_t8 : Fin k0_t8_loop.trips) : BitVec 32 :=
  let c0_i32_31 : BitVec 32 := 0#32
  let c1_i32_33 : BitVec 32 := 1#32
  let arg23 : BitVec 32 := Scf.iv c0_i32_31 c1_i32_33 k0_t8
  let c40_i32 : BitVec 32 := 40#32
  let v36 : BitVec 32 := Scalar.muli arg23 c40_i32
  v36
def k0_off19 (k0_t8 : Fin k0_t8_loop.trips) : Fin 2 → Nat :=
  let c0_i32_31 : BitVec 32 := 0#32
  let c1_i32_33 : BitVec 32 := 1#32
  let arg23 : BitVec 32 := Scf.iv c0_i32_31 c1_i32_33 k0_t8
  let c40_i32 : BitVec 32 := 40#32
  let v36 : BitVec 32 := Scalar.muli arg23 c40_i32
  let v37 : BitVec 32 := v36
  let v38 : Index := Scalar.indexCast v37
  let c0_63 : Index := 0#32
  ![v38.toNat, 0]
@[reducible] def k0_t9_loop : Scf.Loop 32 :=
  let c0_i32_35 : BitVec 32 := 0#32
  let c112_i32_36 : BitVec 32 := 112#32
  let v23 : BitVec 32 := Scalar.addi c0_i32_35 c112_i32_36
  let c1_i32_37 : BitVec 32 := 1#32
  ⟨c0_i32_35, v23, c1_i32_37⟩
def k0_mult17 (k0_t9 : Fin k0_t9_loop.trips) : BitVec 32 :=
  let c0_i32_35 : BitVec 32 := 0#32
  let c1_i32_37 : BitVec 32 := 1#32
  let arg23 : BitVec 32 := Scf.iv c0_i32_35 c1_i32_37 k0_t9
  let c64_i32_61 : BitVec 32 := 64#32
  let v30 : BitVec 32 := Scalar.muli arg23 c64_i32_61
  v30
def k0_off20 (k0_t9 : Fin k0_t9_loop.trips) : Fin 2 → Nat :=
  let c0_i32_35 : BitVec 32 := 0#32
  let c1_i32_37 : BitVec 32 := 1#32
  let arg23 : BitVec 32 := Scf.iv c0_i32_35 c1_i32_37 k0_t9
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult18 (k0_t9 : Fin k0_t9_loop.trips) : BitVec 32 :=
  let c0_i32_35 : BitVec 32 := 0#32
  let c1_i32_37 : BitVec 32 := 1#32
  let arg23 : BitVec 32 := Scf.iv c0_i32_35 c1_i32_37 k0_t9
  let c40_i32 : BitVec 32 := 40#32
  let v36 : BitVec 32 := Scalar.muli arg23 c40_i32
  v36
def k0_off21 (k0_t9 : Fin k0_t9_loop.trips) : Fin 2 → Nat :=
  let c0_i32_35 : BitVec 32 := 0#32
  let c1_i32_37 : BitVec 32 := 1#32
  let arg23 : BitVec 32 := Scf.iv c0_i32_35 c1_i32_37 k0_t9
  let c40_i32 : BitVec 32 := 40#32
  let v36 : BitVec 32 := Scalar.muli arg23 c40_i32
  let v37 : BitVec 32 := v36
  let v38 : Index := Scalar.indexCast v37
  let c0_63 : Index := 0#32
  ![v38.toNat, 0]
@[reducible] def k0_t10_loop : Scf.Loop 32 :=
  let c0_i32_39 : BitVec 32 := 0#32
  let c32_i32_40 : BitVec 32 := 32#32
  let v24 : BitVec 32 := Scalar.addi c0_i32_39 c32_i32_40
  let c1_i32_41 : BitVec 32 := 1#32
  ⟨c0_i32_39, v24, c1_i32_41⟩
def k0_off22 (k0_t10 : Fin k0_t10_loop.trips) : Fin 2 → Nat :=
  let c0_i32_39 : BitVec 32 := 0#32
  let c1_i32_41 : BitVec 32 := 1#32
  let arg23 : BitVec 32 := Scf.iv c0_i32_39 c1_i32_41 k0_t10
  let v30 : Index := Scalar.indexCast arg23
  let c0_61 : Index := 0#32
  ![v30.toNat, 0]
def k0_mult19 (k0_t10 : Fin k0_t10_loop.trips) : BitVec 32 :=
  let c2_i32 : BitVec 32 := 2#32
  let c0_i32_39 : BitVec 32 := 0#32
  let c1_i32_41 : BitVec 32 := 1#32
  let arg23 : BitVec 32 := Scf.iv c0_i32_39 c1_i32_41 k0_t10
  let v72 : BitVec 32 := Scalar.muli c2_i32 arg23
  let c0_i32_74 : BitVec 32 := 0#32
  let v73 : BitVec 32 := Scalar.addi v72 c0_i32_74
  let c128_i32_75 : BitVec 32 := 128#32
  let v74 : BitVec 32 := Scalar.muli v73 c128_i32_75
  v74
def k0_off23 (k0_t10 : Fin k0_t10_loop.trips) (c0_i32_74 : BitVec 32) : Fin 2 → Nat :=
  let c2_i32 : BitVec 32 := 2#32
  let c0_i32_39 : BitVec 32 := 0#32
  let c1_i32_41 : BitVec 32 := 1#32
  let arg23 : BitVec 32 := Scf.iv c0_i32_39 c1_i32_41 k0_t10
  let v72 : BitVec 32 := Scalar.muli c2_i32 arg23
  let v73 : BitVec 32 := Scalar.addi v72 c0_i32_74
  let c128_i32_75 : BitVec 32 := 128#32
  let v74 : BitVec 32 := Scalar.muli v73 c128_i32_75
  let v75 : BitVec 32 := v74
  let v80 : Index := Scalar.indexCast v75
  let c0_77 : Index := 0#32
  ![v80.toNat, 0]
def k0_mult20 (k0_t10 : Fin k0_t10_loop.trips) : BitVec 32 :=
  let c2_i32_81 : BitVec 32 := 2#32
  let c0_i32_39 : BitVec 32 := 0#32
  let c1_i32_41 : BitVec 32 := 1#32
  let arg23 : BitVec 32 := Scf.iv c0_i32_39 c1_i32_41 k0_t10
  let v95 : BitVec 32 := Scalar.muli c2_i32_81 arg23
  let c1_i32_82 : BitVec 32 := 1#32
  let v96 : BitVec 32 := Scalar.addi v95 c1_i32_82
  let c128_i32_83 : BitVec 32 := 128#32
  let v97 : BitVec 32 := Scalar.muli v96 c128_i32_83
  v97
@[reducible] def k0_t11_loop : Scf.Loop 32 :=
  let c0_i32_43 : BitVec 32 := 0#32
  let c64_i32 : BitVec 32 := 64#32
  let v25 : BitVec 32 := Scalar.addi c0_i32_43 c64_i32
  let c1_i32_44 : BitVec 32 := 1#32
  ⟨c0_i32_43, v25, c1_i32_44⟩
def k0_off24 (k0_t11 : Fin k0_t11_loop.trips) : Fin 2 → Nat :=
  let c0_i32_43 : BitVec 32 := 0#32
  let c1_i32_44 : BitVec 32 := 1#32
  let arg23 : BitVec 32 := Scf.iv c0_i32_43 c1_i32_44 k0_t11
  let v30 : Index := Scalar.indexCast arg23
  let c0_61 : Index := 0#32
  ![v30.toNat, 0]
def k0_off25 (k0_t11 : Fin k0_t11_loop.trips) : Fin 2 → Nat :=
  let c0_i32_43 : BitVec 32 := 0#32
  let c1_i32_44 : BitVec 32 := 1#32
  let arg23 : BitVec 32 := Scf.iv c0_i32_43 c1_i32_44 k0_t11
  let v36 : Index := Scalar.indexCast arg23
  let c0_63 : Index := 0#32
  ![v36.toNat, 0]
@[reducible] def k0_t12_loop : Scf.Loop 32 :=
  let c0_i32_46 : BitVec 32 := 0#32
  let c128_i32 : BitVec 32 := 128#32
  let v26 : BitVec 32 := Scalar.addi c0_i32_46 c128_i32
  let c1_i32_47 : BitVec 32 := 1#32
  ⟨c0_i32_46, v26, c1_i32_47⟩
def k0_off26 (k0_t12 : Fin k0_t12_loop.trips) (c0_i32_61 : BitVec 32) : Fin 2 → Nat :=
  let c0_i32_46 : BitVec 32 := 0#32
  let c1_i32_47 : BitVec 32 := 1#32
  let arg23 : BitVec 32 := Scf.iv c0_i32_46 c1_i32_47 k0_t12
  let v30 : BitVec 32 := Scalar.addi c0_i32_61 arg23
  let v31 : Index := Scalar.indexCast v30
  let c0_62 : Index := 0#32
  ![v31.toNat, 0]
def k0_off27 (k0_t12 : Fin k0_t12_loop.trips) (c0_i32_384 : BitVec 32) : Fin 2 → Nat :=
  let c0_i32_46 : BitVec 32 := 0#32
  let c1_i32_47 : BitVec 32 := 1#32
  let arg23 : BitVec 32 := Scf.iv c0_i32_46 c1_i32_47 k0_t12
  let v986 : BitVec 32 := Scalar.addi c0_i32_384 arg23
  let v987 : Index := Scalar.indexCast v986
  let c0_385 : Index := 0#32
  ![v987.toNat, 0]
def k0_mult21 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_1928 : BitVec 32 := 64#32
  let v5090 : BitVec 32 := Scalar.muli arg23 c64_i32_1928
  let c0_i32_1929 : BitVec 32 := 0#32
  let v5091 : BitVec 32 := Scalar.addi v5090 c0_i32_1929
  let c0_i32_1930 : BitVec 32 := 0#32
  let v5092 : BitVec 32 := Scalar.addi v5091 c0_i32_1930
  v5092
def k0_off28 (k0_t12 : Fin k0_t12_loop.trips) (c0_i32_1929 : BitVec 32) (c0_i32_1930 : BitVec 32) : Fin 2 → Nat :=
  let c0_i32_46 : BitVec 32 := 0#32
  let c1_i32_47 : BitVec 32 := 1#32
  let arg23 : BitVec 32 := Scf.iv c0_i32_46 c1_i32_47 k0_t12
  let c64_i32_1928 : BitVec 32 := 64#32
  let v5090 : BitVec 32 := Scalar.muli arg23 c64_i32_1928
  let v5091 : BitVec 32 := Scalar.addi v5090 c0_i32_1929
  let v5092 : BitVec 32 := Scalar.addi v5091 c0_i32_1930
  let v5093 : BitVec 32 := v5092
  let v5094 : Index := Scalar.indexCast v5093
  let c0_1931 : Index := 0#32
  ![v5094.toNat, 0]
def k0_mult22 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_1932 : BitVec 32 := 64#32
  let v5098 : BitVec 32 := Scalar.muli arg23 c64_i32_1932
  let c0_i32_1933 : BitVec 32 := 0#32
  let v5099 : BitVec 32 := Scalar.addi v5098 c0_i32_1933
  let c8_i32 : BitVec 32 := 8#32
  let v5100 : BitVec 32 := Scalar.addi v5099 c8_i32
  v5100
def k0_mult23 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_1935 : BitVec 32 := 64#32
  let v5106 : BitVec 32 := Scalar.muli arg23 c64_i32_1935
  let c0_i32_1936 : BitVec 32 := 0#32
  let v5107 : BitVec 32 := Scalar.addi v5106 c0_i32_1936
  let c16_i32 : BitVec 32 := 16#32
  let v5108 : BitVec 32 := Scalar.addi v5107 c16_i32
  v5108
def k0_mult24 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_1938 : BitVec 32 := 64#32
  let v5114 : BitVec 32 := Scalar.muli arg23 c64_i32_1938
  let c0_i32_1939 : BitVec 32 := 0#32
  let v5115 : BitVec 32 := Scalar.addi v5114 c0_i32_1939
  let c24_i32 : BitVec 32 := 24#32
  let v5116 : BitVec 32 := Scalar.addi v5115 c24_i32
  v5116
def k0_mult25 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_3869 : BitVec 32 := 64#32
  let v10182 : BitVec 32 := Scalar.muli arg23 c64_i32_3869
  let c32_i32_3870 : BitVec 32 := 32#32
  let v10183 : BitVec 32 := Scalar.addi v10182 c32_i32_3870
  let c0_i32_3871 : BitVec 32 := 0#32
  let v10184 : BitVec 32 := Scalar.addi v10183 c0_i32_3871
  v10184
def k0_mult26 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_3873 : BitVec 32 := 64#32
  let v10190 : BitVec 32 := Scalar.muli arg23 c64_i32_3873
  let c32_i32_3874 : BitVec 32 := 32#32
  let v10191 : BitVec 32 := Scalar.addi v10190 c32_i32_3874
  let c8_i32_3875 : BitVec 32 := 8#32
  let v10192 : BitVec 32 := Scalar.addi v10191 c8_i32_3875
  v10192
def k0_mult27 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_3877 : BitVec 32 := 64#32
  let v10198 : BitVec 32 := Scalar.muli arg23 c64_i32_3877
  let c32_i32_3878 : BitVec 32 := 32#32
  let v10199 : BitVec 32 := Scalar.addi v10198 c32_i32_3878
  let c16_i32_3879 : BitVec 32 := 16#32
  let v10200 : BitVec 32 := Scalar.addi v10199 c16_i32_3879
  v10200
def k0_mult28 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_3881 : BitVec 32 := 64#32
  let v10206 : BitVec 32 := Scalar.muli arg23 c64_i32_3881
  let c32_i32_3882 : BitVec 32 := 32#32
  let v10207 : BitVec 32 := Scalar.addi v10206 c32_i32_3882
  let c24_i32_3883 : BitVec 32 := 24#32
  let v10208 : BitVec 32 := Scalar.addi v10207 c24_i32_3883
  v10208
@[reducible] def k0_t13_loop : Scf.Loop 32 :=
  let c0_i32_49 : BitVec 32 := 0#32
  let c32_i32_50 : BitVec 32 := 32#32
  let v27 : BitVec 32 := Scalar.addi c0_i32_49 c32_i32_50
  let c1_i32_51 : BitVec 32 := 1#32
  ⟨c0_i32_49, v27, c1_i32_51⟩
def k0_off29 (k0_t13 : Fin k0_t13_loop.trips) (c0_i32_61 : BitVec 32) : Fin 2 → Nat :=
  let c2_i32 : BitVec 32 := 2#32
  let c0_i32_49 : BitVec 32 := 0#32
  let c1_i32_51 : BitVec 32 := 1#32
  let arg23 : BitVec 32 := Scf.iv c0_i32_49 c1_i32_51 k0_t13
  let v30 : BitVec 32 := Scalar.muli c2_i32 arg23
  let v31 : BitVec 32 := Scalar.addi v30 c0_i32_61
  let v32 : Index := Scalar.indexCast v31
  let c0_62 : Index := 0#32
  ![v32.toNat, 0]
def k0_off30 (k0_t13 : Fin k0_t13_loop.trips) : Fin 2 → Nat :=
  let c0_i32_49 : BitVec 32 := 0#32
  let c1_i32_51 : BitVec 32 := 1#32
  let arg23 : BitVec 32 := Scf.iv c0_i32_49 c1_i32_51 k0_t13
  let v42 : Index := Scalar.indexCast arg23
  let c0_66 : Index := 0#32
  ![v42.toNat, 0]
@[reducible] def k0_t14_loop : Scf.Loop 32 :=
  let c0_i32_53 : BitVec 32 := 0#32
  let c112_i32_54 : BitVec 32 := 112#32
  let v28 : BitVec 32 := Scalar.addi c0_i32_53 c112_i32_54
  let c1_i32_55 : BitVec 32 := 1#32
  ⟨c0_i32_53, v28, c1_i32_55⟩
def k0_mult29 (k0_t14 : Fin k0_t14_loop.trips) : BitVec 32 :=
  let c0_i32_53 : BitVec 32 := 0#32
  let c1_i32_55 : BitVec 32 := 1#32
  let arg23 : BitVec 32 := Scf.iv c0_i32_53 c1_i32_55 k0_t14
  let c40_i32 : BitVec 32 := 40#32
  let v30 : BitVec 32 := Scalar.muli arg23 c40_i32
  v30
def k0_off31 (k0_t14 : Fin k0_t14_loop.trips) : Fin 2 → Nat :=
  let c0_i32_53 : BitVec 32 := 0#32
  let c1_i32_55 : BitVec 32 := 1#32
  let arg23 : BitVec 32 := Scf.iv c0_i32_53 c1_i32_55 k0_t14
  let c40_i32 : BitVec 32 := 40#32
  let v30 : BitVec 32 := Scalar.muli arg23 c40_i32
  let v31 : BitVec 32 := v30
  let v32 : Index := Scalar.indexCast v31
  let c0_61 : Index := 0#32
  ![v32.toNat, 0]
def k0_mult30 (k0_t14 : Fin k0_t14_loop.trips) : BitVec 32 :=
  let c0_i32_53 : BitVec 32 := 0#32
  let c1_i32_55 : BitVec 32 := 1#32
  let arg23 : BitVec 32 := Scf.iv c0_i32_53 c1_i32_55 k0_t14
  let c64_i32_62 : BitVec 32 := 64#32
  let v35 : BitVec 32 := Scalar.muli arg23 c64_i32_62
  v35
def k0_off32 (k0_t14 : Fin k0_t14_loop.trips) : Fin 2 → Nat :=
  let c0_i32_53 : BitVec 32 := 0#32
  let c1_i32_55 : BitVec 32 := 1#32
  let arg23 : BitVec 32 := Scf.iv c0_i32_53 c1_i32_55 k0_t14
  let c64_i32_62 : BitVec 32 := 64#32
  let v35 : BitVec 32 := Scalar.muli arg23 c64_i32_62
  let v36 : BitVec 32 := v35
  let v37 : Index := Scalar.indexCast v36
  let c0_63 : Index := 0#32
  ![v37.toNat, 0]
@[reducible] def k0_t15_loop : Scf.Loop 32 :=
  let c0_i32_57 : BitVec 32 := 0#32
  let c64_i32_58 : BitVec 32 := 64#32
  let v29 : BitVec 32 := Scalar.addi c0_i32_57 c64_i32_58
  let c1_i32_59 : BitVec 32 := 1#32
  ⟨c0_i32_57, v29, c1_i32_59⟩
def k0_off33 (k0_t15 : Fin k0_t15_loop.trips) : Fin 2 → Nat :=
  let c0_i32_57 : BitVec 32 := 0#32
  let c1_i32_59 : BitVec 32 := 1#32
  let arg23 : BitVec 32 := Scf.iv c0_i32_57 c1_i32_59 k0_t15
  let v30 : Index := Scalar.indexCast arg23
  let c0_61 : Index := 0#32
  ![v30.toNat, 0]
def k0_off34 (k0_t15 : Fin k0_t15_loop.trips) : Fin 2 → Nat :=
  let c0_i32_57 : BitVec 32 := 0#32
  let c1_i32_59 : BitVec 32 := 1#32
  let arg23 : BitVec 32 := Scf.iv c0_i32_57 c1_i32_59 k0_t15
  let v34 : Index := Scalar.indexCast arg23
  let c0_62 : Index := 0#32
  ![v34.toNat, 0]
abbrev stage0_0 : Fin 1 → Memref sig .tc .vmem S7168x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7168x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7168x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelIdeal.lean ====
abbrev S2x128x56x64 : Shape := ⟨4, ![2, 128, 56, 64]⟩
abbrev S2x128x56 : Shape := ⟨3, ![2, 128, 56]⟩
abbrev S2x56x64x64 : Shape := ⟨4, ![2, 56, 64, 64]⟩
abbrev S2x56x64x128 : Shape := ⟨4, ![2, 56, 64, 128]⟩
abbrev S7168x128 : Shape := ⟨2, ![7168, 128]⟩
abbrev S2x56x128 : Shape := ⟨3, ![2, 56, 128]⟩
abbrev S112x128 : Shape := ⟨2, ![112, 128]⟩
abbrev S7168x64 : Shape := ⟨2, ![7168, 64]⟩
abbrev S4480x128 : Shape := ⟨2, ![4480, 128]⟩
abbrev S4480x2x128 : Shape := ⟨3, ![4480, 2, 128]⟩
abbrev S4480x1x128 : Shape := ⟨3, ![4480, 1, 128]⟩
abbrev S8192x128 : Shape := ⟨2, ![8192, 128]⟩
abbrev S4096x128 : Shape := ⟨2, ![4096, 128]⟩
abbrev S64x128 : Shape := ⟨2, ![64, 128]⟩
abbrev S32x128 : Shape := ⟨2, ![32, 128]⟩
abbrev S32x2x128 : Shape := ⟨3, ![32, 2, 128]⟩
abbrev S32x1x128 : Shape := ⟨3, ![32, 1, 128]⟩
abbrev S16x128 : Shape := ⟨2, ![16, 128]⟩
abbrev S128x128 : Shape := ⟨2, ![128, 128]⟩
abbrev S112x2x128 : Shape := ⟨3, ![112, 2, 128]⟩
abbrev S112x1x128 : Shape := ⟨3, ![112, 1, 128]⟩
abbrev S224x128 : Shape := ⟨2, ![224, 128]⟩
abbrev S112x64 : Shape := ⟨2, ![112, 64]⟩
abbrev S16x64 : Shape := ⟨2, ![16, 64]⟩
abbrev S128x64 : Shape := ⟨2, ![128, 64]⟩
abbrev S8x128 : Shape := ⟨2, ![8, 128]⟩

abbrev nBuf : Space → Nat
  | .hbm => 34
  | .vmem => 23
  | .smem => 0
  | _ => 0

abbrev bufTy : (tb : Table) → Fin (tcTables nBuf tb) → BufTy
  | .hbm, ⟨0, _⟩ => ⟨S2x128x56x64, .fp8e4m3⟩
  | .hbm, ⟨1, _⟩ => ⟨S2x128x56x64, .fp8e4m3⟩
  | .hbm, ⟨2, _⟩ => ⟨S2x128x56x64, .fp8e4m3⟩
  | .hbm, ⟨3, _⟩ => ⟨S2x128x56, .f32⟩
  | .hbm, ⟨4, _⟩ => ⟨S2x128x56, .f32⟩
  | .hbm, ⟨5, _⟩ => ⟨S2x128x56, .f32⟩
  | .hbm, ⟨6, _⟩ => ⟨S2x128x56x64, .bf16⟩
  | .hbm, ⟨7, _⟩ => ⟨S2x128x56x64, .bf16⟩
  | .hbm, ⟨8, _⟩ => ⟨S2x128x56x64, .bf16⟩
  | .hbm, ⟨9, _⟩ => ⟨S2x56x64x64, .f32⟩
  | .hbm, ⟨10, _⟩ => ⟨S2x56x64x128, .fp8e4m3⟩
  | .hbm, ⟨11, _⟩ => ⟨S7168x128, .fp8e4m3⟩
  | .hbm, ⟨12, _⟩ => ⟨S2x56x64x128, .fp8e4m3⟩
  | .hbm, ⟨13, _⟩ => ⟨S7168x128, .fp8e4m3⟩
  | .hbm, ⟨14, _⟩ => ⟨S2x56x64x128, .fp8e4m3⟩
  | .hbm, ⟨15, _⟩ => ⟨S7168x128, .fp8e4m3⟩
  | .hbm, ⟨16, _⟩ => ⟨S2x56x128, .f32⟩
  | .hbm, ⟨17, _⟩ => ⟨S112x128, .f32⟩
  | .hbm, ⟨18, _⟩ => ⟨S2x56x128, .f32⟩
  | .hbm, ⟨19, _⟩ => ⟨S112x128, .f32⟩
  | .hbm, ⟨20, _⟩ => ⟨S2x56x128, .f32⟩
  | .hbm, ⟨21, _⟩ => ⟨S112x128, .f32⟩
  | .hbm, ⟨22, _⟩ => ⟨S2x56x64x128, .bf16⟩
  | .hbm, ⟨23, _⟩ => ⟨S7168x128, .bf16⟩
  | .hbm, ⟨24, _⟩ => ⟨S2x56x64x128, .bf16⟩
  | .hbm, ⟨25, _⟩ => ⟨S7168x128, .bf16⟩
  | .hbm, ⟨26, _⟩ => ⟨S2x56x64x128, .bf16⟩
  | .hbm, ⟨27, _⟩ => ⟨S7168x128, .bf16⟩
  | .hbm, ⟨28, _⟩ => ⟨S7168x64, .f32⟩
  | .hbm, ⟨29, _⟩ => ⟨S7168x128, .bf16⟩
  | .hbm, ⟨30, _⟩ => ⟨S7168x64, .f32⟩
  | .hbm, ⟨31, _⟩ => ⟨S2x56x64x128, .bf16⟩
  | .hbm, ⟨32, _⟩ => ⟨S2x128x56x64, .bf16⟩
  | .hbm, ⟨33, _⟩ => ⟨S2x56x64x64, .f32⟩
  | .local _ .vmem, ⟨0, _⟩ => ⟨S7168x128, .fp8e4m3⟩
  | .local _ .vmem, ⟨1, _⟩ => ⟨S7168x128, .fp8e4m3⟩
  | .local _ .vmem, ⟨2, _⟩ => ⟨S7168x128, .fp8e4m3⟩
  | .local _ .vmem, ⟨3, _⟩ => ⟨S112x128, .f32⟩
  | .local _ .vmem, ⟨4, _⟩ => ⟨S112x128, .f32⟩
  | .local _ .vmem, ⟨5, _⟩ => ⟨S112x128, .f32⟩
  | .local _ .vmem, ⟨6, _⟩ => ⟨S7168x128, .bf16⟩
  | .local _ .vmem, ⟨7, _⟩ => ⟨S7168x128, .bf16⟩
  | .local _ .vmem, ⟨8, _⟩ => ⟨S7168x128, .bf16⟩
  | .local _ .vmem, ⟨9, _⟩ => ⟨S7168x64, .f32⟩
  | .local _ .vmem, ⟨10, _⟩ => ⟨S7168x128, .bf16⟩
  | .local _ .vmem, ⟨11, _⟩ => ⟨S7168x64, .f32⟩
  | .local _ .vmem, ⟨12, _⟩ => ⟨S4480x2x128, .bf16⟩
  | .local _ .vmem, ⟨13, _⟩ => ⟨S4480x2x128, .bf16⟩
  | .local _ .vmem, ⟨14, _⟩ => ⟨S4480x2x128, .bf16⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S4096x128, .f32⟩
  | .local _ .vmem, ⟨22, _⟩ => ⟨S8192x128, .f32⟩
  | _, _ => ⟨S2x128x56x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c112_i32 : BitVec 32 := 112#32
  let v0 : BitVec 32 := Scalar.addi c0_i32 c112_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c64_i32_61 : BitVec 32 := 64#32
  let v30 : BitVec 32 := Scalar.muli arg23 c64_i32_61
  v30
def k0_off1 (k0_t1 : Fin k0_t1_loop.trips) : Fin 2 → Nat :=
  let c0_i32 : BitVec 32 := 0#32
  let c1_i32 : BitVec 32 := 1#32
  let arg23 : BitVec 32 := Scf.iv c0_i32 c1_i32 k0_t1
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult2 (k0_t1 : Fin k0_t1_loop.trips) : BitVec 32 :=
  let c0_i32 : BitVec 32 := 0#32
  let c1_i32 : BitVec 32 := 1#32
  let arg23 : BitVec 32 := Scf.iv c0_i32 c1_i32 k0_t1
  let c40_i32 : BitVec 32 := 40#32
  let v37 : BitVec 32 := Scalar.muli arg23 c40_i32
  v37
def k0_off2 (k0_t1 : Fin k0_t1_loop.trips) : Fin 3 → Nat :=
  let c0_i32 : BitVec 32 := 0#32
  let c1_i32 : BitVec 32 := 1#32
  let arg23 : BitVec 32 := Scf.iv c0_i32 c1_i32 k0_t1
  let c40_i32 : BitVec 32 := 40#32
  let v37 : BitVec 32 := Scalar.muli arg23 c40_i32
  let v38 : BitVec 32 := v37
  let v39 : Index := Scalar.indexCast v38
  let c0_63 : Index := 0#32
  ![v39.toNat, 0, 0]
@[reducible] def k0_t2_loop : Scf.Loop 32 :=
  let c0_i32_2 : BitVec 32 := 0#32
  let c32_i32 : BitVec 32 := 32#32
  let v6 : BitVec 32 := Scalar.addi c0_i32_2 c32_i32
  let c1_i32_3 : BitVec 32 := 1#32
  ⟨c0_i32_2, v6, c1_i32_3⟩
def k0_off3 (k0_t2 : Fin k0_t2_loop.trips) : Fin 3 → Nat :=
  let c0_i32_2 : BitVec 32 := 0#32
  let c1_i32_3 : BitVec 32 := 1#32
  let arg23 : BitVec 32 := Scf.iv c0_i32_2 c1_i32_3 k0_t2
  let v30 : Index := Scalar.indexCast arg23
  let c0_61 : Index := 0#32
  ![v30.toNat, 0, 0]
def k0_mult3 (k0_t2 : Fin k0_t2_loop.trips) : BitVec 32 :=
  let c2_i32 : BitVec 32 := 2#32
  let c0_i32_2 : BitVec 32 := 0#32
  let c1_i32_3 : BitVec 32 := 1#32
  let arg23 : BitVec 32 := Scf.iv c0_i32_2 c1_i32_3 k0_t2
  let v45 : BitVec 32 := Scalar.muli c2_i32 arg23
  let c128_i32_64 : BitVec 32 := 128#32
  let v46 : BitVec 32 := Scalar.muli v45 c128_i32_64
  v46
def k0_off4 (k0_t2 : Fin k0_t2_loop.trips) : Fin 2 → Nat :=
  let c2_i32 : BitVec 32 := 2#32
  let c0_i32_2 : BitVec 32 := 0#32
  let c1_i32_3 : BitVec 32 := 1#32
  let arg23 : BitVec 32 := Scf.iv c0_i32_2 c1_i32_3 k0_t2
  let v45 : BitVec 32 := Scalar.muli c2_i32 arg23
  let c128_i32_64 : BitVec 32 := 128#32
  let v46 : BitVec 32 := Scalar.muli v45 c128_i32_64
  let v47 : BitVec 32 := v46
  let v48 : Index := Scalar.indexCast v47
  let c0_65 : Index := 0#32
  ![v48.toNat, 0]
def k0_mult4 (k0_t2 : Fin k0_t2_loop.trips) : BitVec 32 :=
  let c2_i32_66 : BitVec 32 := 2#32
  let c0_i32_2 : BitVec 32 := 0#32
  let c1_i32_3 : BitVec 32 := 1#32
  let arg23 : BitVec 32 := Scf.iv c0_i32_2 c1_i32_3 k0_t2
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  v55
def k0_off5 (k0_t2 : Fin k0_t2_loop.trips) : Fin 2 → Nat :=
  let c2_i32_66 : BitVec 32 := 2#32
  let c0_i32_2 : BitVec 32 := 0#32
  let c1_i32_3 : BitVec 32 := 1#32
  let arg23 : BitVec 32 := Scf.iv c0_i32_2 c1_i32_3 k0_t2
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  let v56 : BitVec 32 := v55
  let v57 : Index := Scalar.indexCast v56
  let c0_69 : Index := 0#32
  ![v57.toNat, 0]
@[reducible] def k0_t3_loop : Scf.Loop 32 :=
  let c0_i32_5 : BitVec 32 := 0#32
  let c112_i32_6 : BitVec 32 := 112#32
  let v7 : BitVec 32 := Scalar.addi c0_i32_5 c112_i32_6
  let c1_i32_7 : BitVec 32 := 1#32
  ⟨c0_i32_5, v7, c1_i32_7⟩
def k0_mult5 (k0_t3 : Fin k0_t3_loop.trips) : BitVec 32 :=
  let c0_i32_5 : BitVec 32 := 0#32
  let c1_i32_7 : BitVec 32 := 1#32
  let arg23 : BitVec 32 := Scf.iv c0_i32_5 c1_i32_7 k0_t3
  let c64_i32_61 : BitVec 32 := 64#32
  let v30 : BitVec 32 := Scalar.muli arg23 c64_i32_61
  v30
def k0_off6 (k0_t3 : Fin k0_t3_loop.trips) : Fin 2 → Nat :=
  let c0_i32_5 : BitVec 32 := 0#32
  let c1_i32_7 : BitVec 32 := 1#32
  let arg23 : BitVec 32 := Scf.iv c0_i32_5 c1_i32_7 k0_t3
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult6 (k0_t3 : Fin k0_t3_loop.trips) : BitVec 32 :=
  let c0_i32_5 : BitVec 32 := 0#32
  let c1_i32_7 : BitVec 32 := 1#32
  let arg23 : BitVec 32 := Scf.iv c0_i32_5 c1_i32_7 k0_t3
  let c40_i32 : BitVec 32 := 40#32
  let v37 : BitVec 32 := Scalar.muli arg23 c40_i32
  v37
def k0_off7 (k0_t3 : Fin k0_t3_loop.trips) : Fin 3 → Nat :=
  let c0_i32_5 : BitVec 32 := 0#32
  let c1_i32_7 : BitVec 32 := 1#32
  let arg23 : BitVec 32 := Scf.iv c0_i32_5 c1_i32_7 k0_t3
  let c40_i32 : BitVec 32 := 40#32
  let v37 : BitVec 32 := Scalar.muli arg23 c40_i32
  let v38 : BitVec 32 := v37
  let v39 : Index := Scalar.indexCast v38
  let c0_63 : Index := 0#32
  ![v39.toNat, 0, 0]
@[reducible] def k0_t4_loop : Scf.Loop 32 :=
  let c0_i32_12 : BitVec 32 := 0#32
  let c32_i32_13 : BitVec 32 := 32#32
  let v13 : BitVec 32 := Scalar.addi c0_i32_12 c32_i32_13
  let c1_i32_14 : BitVec 32 := 1#32
  ⟨c0_i32_12, v13, c1_i32_14⟩
def k0_off8 (k0_t4 : Fin k0_t4_loop.trips) : Fin 3 → Nat :=
  let c0_i32_12 : BitVec 32 := 0#32
  let c1_i32_14 : BitVec 32 := 1#32
  let arg23 : BitVec 32 := Scf.iv c0_i32_12 c1_i32_14 k0_t4
  let v30 : Index := Scalar.indexCast arg23
  let c0_61 : Index := 0#32
  ![v30.toNat, 0, 0]
def k0_mult7 (k0_t4 : Fin k0_t4_loop.trips) : BitVec 32 :=
  let c2_i32 : BitVec 32 := 2#32
  let c0_i32_12 : BitVec 32 := 0#32
  let c1_i32_14 : BitVec 32 := 1#32
  let arg23 : BitVec 32 := Scf.iv c0_i32_12 c1_i32_14 k0_t4
  let v45 : BitVec 32 := Scalar.muli c2_i32 arg23
  let c128_i32_64 : BitVec 32 := 128#32
  let v46 : BitVec 32 := Scalar.muli v45 c128_i32_64
  v46
def k0_off9 (k0_t4 : Fin k0_t4_loop.trips) : Fin 2 → Nat :=
  let c2_i32 : BitVec 32 := 2#32
  let c0_i32_12 : BitVec 32 := 0#32
  let c1_i32_14 : BitVec 32 := 1#32
  let arg23 : BitVec 32 := Scf.iv c0_i32_12 c1_i32_14 k0_t4
  let v45 : BitVec 32 := Scalar.muli c2_i32 arg23
  let c128_i32_64 : BitVec 32 := 128#32
  let v46 : BitVec 32 := Scalar.muli v45 c128_i32_64
  let v47 : BitVec 32 := v46
  let v48 : Index := Scalar.indexCast v47
  let c0_65 : Index := 0#32
  ![v48.toNat, 0]
def k0_mult8 (k0_t4 : Fin k0_t4_loop.trips) : BitVec 32 :=
  let c2_i32_66 : BitVec 32 := 2#32
  let c0_i32_12 : BitVec 32 := 0#32
  let c1_i32_14 : BitVec 32 := 1#32
  let arg23 : BitVec 32 := Scf.iv c0_i32_12 c1_i32_14 k0_t4
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  v55
def k0_off10 (k0_t4 : Fin k0_t4_loop.trips) : Fin 2 → Nat :=
  let c2_i32_66 : BitVec 32 := 2#32
  let c0_i32_12 : BitVec 32 := 0#32
  let c1_i32_14 : BitVec 32 := 1#32
  let arg23 : BitVec 32 := Scf.iv c0_i32_12 c1_i32_14 k0_t4
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  let v56 : BitVec 32 := v55
  let v57 : Index := Scalar.indexCast v56
  let c0_69 : Index := 0#32
  ![v57.toNat, 0]
@[reducible] def k0_t5_loop : Scf.Loop 32 :=
  let c0_i32_16 : BitVec 32 := 0#32
  let c112_i32_17 : BitVec 32 := 112#32
  let v14 : BitVec 32 := Scalar.addi c0_i32_16 c112_i32_17
  let c1_i32_18 : BitVec 32 := 1#32
  ⟨c0_i32_16, v14, c1_i32_18⟩
def k0_mult9 (k0_t5 : Fin k0_t5_loop.trips) : BitVec 32 :=
  let c0_i32_16 : BitVec 32 := 0#32
  let c1_i32_18 : BitVec 32 := 1#32
  let arg23 : BitVec 32 := Scf.iv c0_i32_16 c1_i32_18 k0_t5
  let c64_i32_61 : BitVec 32 := 64#32
  let v30 : BitVec 32 := Scalar.muli arg23 c64_i32_61
  v30
def k0_off11 (k0_t5 : Fin k0_t5_loop.trips) : Fin 2 → Nat :=
  let c0_i32_16 : BitVec 32 := 0#32
  let c1_i32_18 : BitVec 32 := 1#32
  let arg23 : BitVec 32 := Scf.iv c0_i32_16 c1_i32_18 k0_t5
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult10 (k0_t5 : Fin k0_t5_loop.trips) : BitVec 32 :=
  let c0_i32_16 : BitVec 32 := 0#32
  let c1_i32_18 : BitVec 32 := 1#32
  let arg23 : BitVec 32 := Scf.iv c0_i32_16 c1_i32_18 k0_t5
  let c40_i32 : BitVec 32 := 40#32
  let v37 : BitVec 32 := Scalar.muli arg23 c40_i32
  v37
def k0_off12 (k0_t5 : Fin k0_t5_loop.trips) : Fin 3 → Nat :=
  let c0_i32_16 : BitVec 32 := 0#32
  let c1_i32_18 : BitVec 32 := 1#32
  let arg23 : BitVec 32 := Scf.iv c0_i32_16 c1_i32_18 k0_t5
  let c40_i32 : BitVec 32 := 40#32
  let v37 : BitVec 32 := Scalar.muli arg23 c40_i32
  let v38 : BitVec 32 := v37
  let v39 : Index := Scalar.indexCast v38
  let c0_63 : Index := 0#32
  ![v39.toNat, 0, 0]
@[reducible] def k0_t6_loop : Scf.Loop 32 :=
  let c0_i32_23 : BitVec 32 := 0#32
  let c32_i32_24 : BitVec 32 := 32#32
  let v20 : BitVec 32 := Scalar.addi c0_i32_23 c32_i32_24
  let c1_i32_25 : BitVec 32 := 1#32
  ⟨c0_i32_23, v20, c1_i32_25⟩
def k0_off13 (k0_t6 : Fin k0_t6_loop.trips) : Fin 3 → Nat :=
  let c0_i32_23 : BitVec 32 := 0#32
  let c1_i32_25 : BitVec 32 := 1#32
  let arg23 : BitVec 32 := Scf.iv c0_i32_23 c1_i32_25 k0_t6
  let v30 : Index := Scalar.indexCast arg23
  let c0_61 : Index := 0#32
  ![v30.toNat, 0, 0]
def k0_mult11 (k0_t6 : Fin k0_t6_loop.trips) : BitVec 32 :=
  let c2_i32 : BitVec 32 := 2#32
  let c0_i32_23 : BitVec 32 := 0#32
  let c1_i32_25 : BitVec 32 := 1#32
  let arg23 : BitVec 32 := Scf.iv c0_i32_23 c1_i32_25 k0_t6
  let v45 : BitVec 32 := Scalar.muli c2_i32 arg23
  let c128_i32_64 : BitVec 32 := 128#32
  let v46 : BitVec 32 := Scalar.muli v45 c128_i32_64
  v46
def k0_off14 (k0_t6 : Fin k0_t6_loop.trips) : Fin 2 → Nat :=
  let c2_i32 : BitVec 32 := 2#32
  let c0_i32_23 : BitVec 32 := 0#32
  let c1_i32_25 : BitVec 32 := 1#32
  let arg23 : BitVec 32 := Scf.iv c0_i32_23 c1_i32_25 k0_t6
  let v45 : BitVec 32 := Scalar.muli c2_i32 arg23
  let c128_i32_64 : BitVec 32 := 128#32
  let v46 : BitVec 32 := Scalar.muli v45 c128_i32_64
  let v47 : BitVec 32 := v46
  let v48 : Index := Scalar.indexCast v47
  let c0_65 : Index := 0#32
  ![v48.toNat, 0]
def k0_mult12 (k0_t6 : Fin k0_t6_loop.trips) : BitVec 32 :=
  let c2_i32_66 : BitVec 32 := 2#32
  let c0_i32_23 : BitVec 32 := 0#32
  let c1_i32_25 : BitVec 32 := 1#32
  let arg23 : BitVec 32 := Scf.iv c0_i32_23 c1_i32_25 k0_t6
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  v55
def k0_off15 (k0_t6 : Fin k0_t6_loop.trips) : Fin 2 → Nat :=
  let c2_i32_66 : BitVec 32 := 2#32
  let c0_i32_23 : BitVec 32 := 0#32
  let c1_i32_25 : BitVec 32 := 1#32
  let arg23 : BitVec 32 := Scf.iv c0_i32_23 c1_i32_25 k0_t6
  let v53 : BitVec 32 := Scalar.muli c2_i32_66 arg23
  let c1_i32_67 : BitVec 32 := 1#32
  let v54 : BitVec 32 := Scalar.addi v53 c1_i32_67
  let c128_i32_68 : BitVec 32 := 128#32
  let v55 : BitVec 32 := Scalar.muli v54 c128_i32_68
  let v56 : BitVec 32 := v55
  let v57 : Index := Scalar.indexCast v56
  let c0_69 : Index := 0#32
  ![v57.toNat, 0]
@[reducible] def k0_t7_loop : Scf.Loop 32 :=
  let c0_i32_27 : BitVec 32 := 0#32
  let c112_i32_28 : BitVec 32 := 112#32
  let v21 : BitVec 32 := Scalar.addi c0_i32_27 c112_i32_28
  let c1_i32_29 : BitVec 32 := 1#32
  ⟨c0_i32_27, v21, c1_i32_29⟩
def k0_mult13 (k0_t7 : Fin k0_t7_loop.trips) : BitVec 32 :=
  let c0_i32_27 : BitVec 32 := 0#32
  let c1_i32_29 : BitVec 32 := 1#32
  let arg23 : BitVec 32 := Scf.iv c0_i32_27 c1_i32_29 k0_t7
  let c64_i32_61 : BitVec 32 := 64#32
  let v30 : BitVec 32 := Scalar.muli arg23 c64_i32_61
  v30
def k0_off16 (k0_t7 : Fin k0_t7_loop.trips) : Fin 2 → Nat :=
  let c0_i32_27 : BitVec 32 := 0#32
  let c1_i32_29 : BitVec 32 := 1#32
  let arg23 : BitVec 32 := Scf.iv c0_i32_27 c1_i32_29 k0_t7
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult14 (k0_t7 : Fin k0_t7_loop.trips) : BitVec 32 :=
  let c0_i32_27 : BitVec 32 := 0#32
  let c1_i32_29 : BitVec 32 := 1#32
  let arg23 : BitVec 32 := Scf.iv c0_i32_27 c1_i32_29 k0_t7
  let c40_i32 : BitVec 32 := 40#32
  let v36 : BitVec 32 := Scalar.muli arg23 c40_i32
  v36
def k0_off17 (k0_t7 : Fin k0_t7_loop.trips) : Fin 3 → Nat :=
  let c0_i32_27 : BitVec 32 := 0#32
  let c1_i32_29 : BitVec 32 := 1#32
  let arg23 : BitVec 32 := Scf.iv c0_i32_27 c1_i32_29 k0_t7
  let c40_i32 : BitVec 32 := 40#32
  let v36 : BitVec 32 := Scalar.muli arg23 c40_i32
  let v37 : BitVec 32 := v36
  let v38 : Index := Scalar.indexCast v37
  let c0_63 : Index := 0#32
  ![v38.toNat, 0, 0]
@[reducible] def k0_t8_loop : Scf.Loop 32 :=
  let c0_i32_31 : BitVec 32 := 0#32
  let c112_i32_32 : BitVec 32 := 112#32
  let v22 : BitVec 32 := Scalar.addi c0_i32_31 c112_i32_32
  let c1_i32_33 : BitVec 32 := 1#32
  ⟨c0_i32_31, v22, c1_i32_33⟩
def k0_mult15 (k0_t8 : Fin k0_t8_loop.trips) : BitVec 32 :=
  let c0_i32_31 : BitVec 32 := 0#32
  let c1_i32_33 : BitVec 32 := 1#32
  let arg23 : BitVec 32 := Scf.iv c0_i32_31 c1_i32_33 k0_t8
  let c64_i32_61 : BitVec 32 := 64#32
  let v30 : BitVec 32 := Scalar.muli arg23 c64_i32_61
  v30
def k0_off18 (k0_t8 : Fin k0_t8_loop.trips) : Fin 2 → Nat :=
  let c0_i32_31 : BitVec 32 := 0#32
  let c1_i32_33 : BitVec 32 := 1#32
  let arg23 : BitVec 32 := Scf.iv c0_i32_31 c1_i32_33 k0_t8
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult16 (k0_t8 : Fin k0_t8_loop.trips) : BitVec 32 :=
  let c0_i32_31 : BitVec 32 := 0#32
  let c1_i32_33 : BitVec 32 := 1#32
  let arg23 : BitVec 32 := Scf.iv c0_i32_31 c1_i32_33 k0_t8
  let c40_i32 : BitVec 32 := 40#32
  let v36 : BitVec 32 := Scalar.muli arg23 c40_i32
  v36
def k0_off19 (k0_t8 : Fin k0_t8_loop.trips) : Fin 3 → Nat :=
  let c0_i32_31 : BitVec 32 := 0#32
  let c1_i32_33 : BitVec 32 := 1#32
  let arg23 : BitVec 32 := Scf.iv c0_i32_31 c1_i32_33 k0_t8
  let c40_i32 : BitVec 32 := 40#32
  let v36 : BitVec 32 := Scalar.muli arg23 c40_i32
  let v37 : BitVec 32 := v36
  let v38 : Index := Scalar.indexCast v37
  let c0_63 : Index := 0#32
  ![v38.toNat, 0, 0]
@[reducible] def k0_t9_loop : Scf.Loop 32 :=
  let c0_i32_35 : BitVec 32 := 0#32
  let c112_i32_36 : BitVec 32 := 112#32
  let v23 : BitVec 32 := Scalar.addi c0_i32_35 c112_i32_36
  let c1_i32_37 : BitVec 32 := 1#32
  ⟨c0_i32_35, v23, c1_i32_37⟩
def k0_mult17 (k0_t9 : Fin k0_t9_loop.trips) : BitVec 32 :=
  let c0_i32_35 : BitVec 32 := 0#32
  let c1_i32_37 : BitVec 32 := 1#32
  let arg23 : BitVec 32 := Scf.iv c0_i32_35 c1_i32_37 k0_t9
  let c64_i32_61 : BitVec 32 := 64#32
  let v30 : BitVec 32 := Scalar.muli arg23 c64_i32_61
  v30
def k0_off20 (k0_t9 : Fin k0_t9_loop.trips) : Fin 2 → Nat :=
  let c0_i32_35 : BitVec 32 := 0#32
  let c1_i32_37 : BitVec 32 := 1#32
  let arg23 : BitVec 32 := Scf.iv c0_i32_35 c1_i32_37 k0_t9
  let c64_i32_61 : BitVec 32 := 64#32
  let v30 : BitVec 32 := Scalar.muli arg23 c64_i32_61
  let v31 : BitVec 32 := v30
  let v32 : Index := Scalar.indexCast v31
  let c0_62 : Index := 0#32
  ![v32.toNat, 0]
def k0_mult18 (k0_t9 : Fin k0_t9_loop.trips) : BitVec 32 :=
  let c0_i32_35 : BitVec 32 := 0#32
  let c1_i32_37 : BitVec 32 := 1#32
  let arg23 : BitVec 32 := Scf.iv c0_i32_35 c1_i32_37 k0_t9
  let c40_i32 : BitVec 32 := 40#32
  let v36 : BitVec 32 := Scalar.muli arg23 c40_i32
  v36
def k0_off21 (k0_t9 : Fin k0_t9_loop.trips) : Fin 3 → Nat :=
  let c0_i32_35 : BitVec 32 := 0#32
  let c1_i32_37 : BitVec 32 := 1#32
  let arg23 : BitVec 32 := Scf.iv c0_i32_35 c1_i32_37 k0_t9
  let c40_i32 : BitVec 32 := 40#32
  let v36 : BitVec 32 := Scalar.muli arg23 c40_i32
  let v37 : BitVec 32 := v36
  let v38 : Index := Scalar.indexCast v37
  let c0_63 : Index := 0#32
  ![v38.toNat, 0, 0]
@[reducible] def k0_t10_loop : Scf.Loop 32 :=
  let c0_i32_39 : BitVec 32 := 0#32
  let c32_i32_40 : BitVec 32 := 32#32
  let v24 : BitVec 32 := Scalar.addi c0_i32_39 c32_i32_40
  let c1_i32_41 : BitVec 32 := 1#32
  ⟨c0_i32_39, v24, c1_i32_41⟩
def k0_off22 (k0_t10 : Fin k0_t10_loop.trips) : Fin 3 → Nat :=
  let c0_i32_39 : BitVec 32 := 0#32
  let c1_i32_41 : BitVec 32 := 1#32
  let arg23 : BitVec 32 := Scf.iv c0_i32_39 c1_i32_41 k0_t10
  let v30 : Index := Scalar.indexCast arg23
  let c0_61 : Index := 0#32
  ![v30.toNat, 0, 0]
def k0_mult19 (k0_t10 : Fin k0_t10_loop.trips) : BitVec 32 :=
  let c2_i32 : BitVec 32 := 2#32
  let c0_i32_39 : BitVec 32 := 0#32
  let c1_i32_41 : BitVec 32 := 1#32
  let arg23 : BitVec 32 := Scf.iv c0_i32_39 c1_i32_41 k0_t10
  let v72 : BitVec 32 := Scalar.muli c2_i32 arg23
  let c0_i32_74 : BitVec 32 := 0#32
  let v73 : BitVec 32 := Scalar.addi v72 c0_i32_74
  let c128_i32_75 : BitVec 32 := 128#32
  let v74 : BitVec 32 := Scalar.muli v73 c128_i32_75
  v74
def k0_off23 (k0_t10 : Fin k0_t10_loop.trips) (c0_i32_74 : BitVec 32) : Fin 2 → Nat :=
  let c2_i32 : BitVec 32 := 2#32
  let c0_i32_39 : BitVec 32 := 0#32
  let c1_i32_41 : BitVec 32 := 1#32
  let arg23 : BitVec 32 := Scf.iv c0_i32_39 c1_i32_41 k0_t10
  let v72 : BitVec 32 := Scalar.muli c2_i32 arg23
  let v73 : BitVec 32 := Scalar.addi v72 c0_i32_74
  let c128_i32_75 : BitVec 32 := 128#32
  let v74 : BitVec 32 := Scalar.muli v73 c128_i32_75
  let v75 : BitVec 32 := v74
  let v80 : Index := Scalar.indexCast v75
  let c0_77 : Index := 0#32
  ![v80.toNat, 0]
def k0_mult20 (k0_t10 : Fin k0_t10_loop.trips) : BitVec 32 :=
  let c2_i32_81 : BitVec 32 := 2#32
  let c0_i32_39 : BitVec 32 := 0#32
  let c1_i32_41 : BitVec 32 := 1#32
  let arg23 : BitVec 32 := Scf.iv c0_i32_39 c1_i32_41 k0_t10
  let v95 : BitVec 32 := Scalar.muli c2_i32_81 arg23
  let c1_i32_82 : BitVec 32 := 1#32
  let v96 : BitVec 32 := Scalar.addi v95 c1_i32_82
  let c128_i32_83 : BitVec 32 := 128#32
  let v97 : BitVec 32 := Scalar.muli v96 c128_i32_83
  v97
@[reducible] def k0_t11_loop : Scf.Loop 32 :=
  let c0_i32_43 : BitVec 32 := 0#32
  let c64_i32 : BitVec 32 := 64#32
  let v25 : BitVec 32 := Scalar.addi c0_i32_43 c64_i32
  let c1_i32_44 : BitVec 32 := 1#32
  ⟨c0_i32_43, v25, c1_i32_44⟩
def k0_off24 (k0_t11 : Fin k0_t11_loop.trips) : Fin 2 → Nat :=
  let c0_i32_43 : BitVec 32 := 0#32
  let c1_i32_44 : BitVec 32 := 1#32
  let arg23 : BitVec 32 := Scf.iv c0_i32_43 c1_i32_44 k0_t11
  let v30 : Index := Scalar.indexCast arg23
  let c0_61 : Index := 0#32
  ![v30.toNat, 0]
def k0_off25 (k0_t11 : Fin k0_t11_loop.trips) : Fin 2 → Nat :=
  let c0_i32_43 : BitVec 32 := 0#32
  let c1_i32_44 : BitVec 32 := 1#32
  let arg23 : BitVec 32 := Scf.iv c0_i32_43 c1_i32_44 k0_t11
  let v36 : Index := Scalar.indexCast arg23
  let c0_63 : Index := 0#32
  ![v36.toNat, 0]
@[reducible] def k0_t12_loop : Scf.Loop 32 :=
  let c0_i32_46 : BitVec 32 := 0#32
  let c128_i32 : BitVec 32 := 128#32
  let v26 : BitVec 32 := Scalar.addi c0_i32_46 c128_i32
  let c1_i32_47 : BitVec 32 := 1#32
  ⟨c0_i32_46, v26, c1_i32_47⟩
def k0_off26 (k0_t12 : Fin k0_t12_loop.trips) (c0_i32_61 : BitVec 32) : Fin 2 → Nat :=
  let c0_i32_46 : BitVec 32 := 0#32
  let c1_i32_47 : BitVec 32 := 1#32
  let arg23 : BitVec 32 := Scf.iv c0_i32_46 c1_i32_47 k0_t12
  let v30 : BitVec 32 := Scalar.addi c0_i32_61 arg23
  let v31 : Index := Scalar.indexCast v30
  let c0_62 : Index := 0#32
  ![v31.toNat, 0]
def k0_off27 (k0_t12 : Fin k0_t12_loop.trips) (c0_i32_384 : BitVec 32) : Fin 2 → Nat :=
  let c0_i32_46 : BitVec 32 := 0#32
  let c1_i32_47 : BitVec 32 := 1#32
  let arg23 : BitVec 32 := Scf.iv c0_i32_46 c1_i32_47 k0_t12
  let v986 : BitVec 32 := Scalar.addi c0_i32_384 arg23
  let v987 : Index := Scalar.indexCast v986
  let c0_385 : Index := 0#32
  ![v987.toNat, 0]
def k0_mult21 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_1928 : BitVec 32 := 64#32
  let v5090 : BitVec 32 := Scalar.muli arg23 c64_i32_1928
  let c0_i32_1929 : BitVec 32 := 0#32
  let v5091 : BitVec 32 := Scalar.addi v5090 c0_i32_1929
  let c0_i32_1930 : BitVec 32 := 0#32
  let v5092 : BitVec 32 := Scalar.addi v5091 c0_i32_1930
  v5092
def k0_off28 (k0_t12 : Fin k0_t12_loop.trips) (c0_i32_1929 : BitVec 32) (c0_i32_1930 : BitVec 32) : Fin 2 → Nat :=
  let c0_i32_46 : BitVec 32 := 0#32
  let c1_i32_47 : BitVec 32 := 1#32
  let arg23 : BitVec 32 := Scf.iv c0_i32_46 c1_i32_47 k0_t12
  let c64_i32_1928 : BitVec 32 := 64#32
  let v5090 : BitVec 32 := Scalar.muli arg23 c64_i32_1928
  let v5091 : BitVec 32 := Scalar.addi v5090 c0_i32_1929
  let v5092 : BitVec 32 := Scalar.addi v5091 c0_i32_1930
  let v5093 : BitVec 32 := v5092
  let v5094 : Index := Scalar.indexCast v5093
  let c0_1931 : Index := 0#32
  ![v5094.toNat, 0]
def k0_mult22 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_1932 : BitVec 32 := 64#32
  let v5098 : BitVec 32 := Scalar.muli arg23 c64_i32_1932
  let c0_i32_1933 : BitVec 32 := 0#32
  let v5099 : BitVec 32 := Scalar.addi v5098 c0_i32_1933
  let c8_i32 : BitVec 32 := 8#32
  let v5100 : BitVec 32 := Scalar.addi v5099 c8_i32
  v5100
def k0_mult23 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_1935 : BitVec 32 := 64#32
  let v5106 : BitVec 32 := Scalar.muli arg23 c64_i32_1935
  let c0_i32_1936 : BitVec 32 := 0#32
  let v5107 : BitVec 32 := Scalar.addi v5106 c0_i32_1936
  let c16_i32 : BitVec 32 := 16#32
  let v5108 : BitVec 32 := Scalar.addi v5107 c16_i32
  v5108
def k0_mult24 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_1938 : BitVec 32 := 64#32
  let v5114 : BitVec 32 := Scalar.muli arg23 c64_i32_1938
  let c0_i32_1939 : BitVec 32 := 0#32
  let v5115 : BitVec 32 := Scalar.addi v5114 c0_i32_1939
  let c24_i32 : BitVec 32 := 24#32
  let v5116 : BitVec 32 := Scalar.addi v5115 c24_i32
  v5116
def k0_mult25 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_3869 : BitVec 32 := 64#32
  let v10182 : BitVec 32 := Scalar.muli arg23 c64_i32_3869
  let c32_i32_3870 : BitVec 32 := 32#32
  let v10183 : BitVec 32 := Scalar.addi v10182 c32_i32_3870
  let c0_i32_3871 : BitVec 32 := 0#32
  let v10184 : BitVec 32 := Scalar.addi v10183 c0_i32_3871
  v10184
def k0_mult26 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_3873 : BitVec 32 := 64#32
  let v10190 : BitVec 32 := Scalar.muli arg23 c64_i32_3873
  let c32_i32_3874 : BitVec 32 := 32#32
  let v10191 : BitVec 32 := Scalar.addi v10190 c32_i32_3874
  let c8_i32_3875 : BitVec 32 := 8#32
  let v10192 : BitVec 32 := Scalar.addi v10191 c8_i32_3875
  v10192
def k0_mult27 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_3877 : BitVec 32 := 64#32
  let v10198 : BitVec 32 := Scalar.muli arg23 c64_i32_3877
  let c32_i32_3878 : BitVec 32 := 32#32
  let v10199 : BitVec 32 := Scalar.addi v10198 c32_i32_3878
  let c16_i32_3879 : BitVec 32 := 16#32
  let v10200 : BitVec 32 := Scalar.addi v10199 c16_i32_3879
  v10200
def k0_mult28 (k0_t12 : Fin k0_t12_loop.trips) : BitVec 32 :=
  let c0_i32_46 : BitVec 32 := 0#32
  let c1_i32_47 : BitVec 32 := 1#32
  let arg23 : BitVec 32 := Scf.iv c0_i32_46 c1_i32_47 k0_t12
  let c64_i32_3881 : BitVec 32 := 64#32
  let v10206 : BitVec 32 := Scalar.muli arg23 c64_i32_3881
  let c32_i32_3882 : BitVec 32 := 32#32
  let v10207 : BitVec 32 := Scalar.addi v10206 c32_i32_3882
  let c24_i32_3883 : BitVec 32 := 24#32
  let v10208 : BitVec 32 := Scalar.addi v10207 c24_i32_3883
  v10208
@[reducible] def k0_t13_loop : Scf.Loop 32 :=
  let c0_i32_49 : BitVec 32 := 0#32
  let c32_i32_50 : BitVec 32 := 32#32
  let v27 : BitVec 32 := Scalar.addi c0_i32_49 c32_i32_50
  let c1_i32_51 : BitVec 32 := 1#32
  ⟨c0_i32_49, v27, c1_i32_51⟩
def k0_off29 (k0_t13 : Fin k0_t13_loop.trips) (c0_i32_61 : BitVec 32) : Fin 2 → Nat :=
  let c2_i32 : BitVec 32 := 2#32
  let c0_i32_49 : BitVec 32 := 0#32
  let c1_i32_51 : BitVec 32 := 1#32
  let arg23 : BitVec 32 := Scf.iv c0_i32_49 c1_i32_51 k0_t13
  let v30 : BitVec 32 := Scalar.muli c2_i32 arg23
  let v31 : BitVec 32 := Scalar.addi v30 c0_i32_61
  let v32 : Index := Scalar.indexCast v31
  let c0_62 : Index := 0#32
  ![v32.toNat, 0]
def k0_off30 (k0_t13 : Fin k0_t13_loop.trips) : Fin 3 → Nat :=
  let c0_i32_49 : BitVec 32 := 0#32
  let c1_i32_51 : BitVec 32 := 1#32
  let arg23 : BitVec 32 := Scf.iv c0_i32_49 c1_i32_51 k0_t13
  let v42 : Index := Scalar.indexCast arg23
  let c0_66 : Index := 0#32
  ![v42.toNat, 0, 0]
@[reducible] def k0_t14_loop : Scf.Loop 32 :=
  let c0_i32_53 : BitVec 32 := 0#32
  let c112_i32_54 : BitVec 32 := 112#32
  let v28 : BitVec 32 := Scalar.addi c0_i32_53 c112_i32_54
  let c1_i32_55 : BitVec 32 := 1#32
  ⟨c0_i32_53, v28, c1_i32_55⟩
def k0_mult29 (k0_t14 : Fin k0_t14_loop.trips) : BitVec 32 :=
  let c0_i32_53 : BitVec 32 := 0#32
  let c1_i32_55 : BitVec 32 := 1#32
  let arg23 : BitVec 32 := Scf.iv c0_i32_53 c1_i32_55 k0_t14
  let c40_i32 : BitVec 32 := 40#32
  let v30 : BitVec 32 := Scalar.muli arg23 c40_i32
  v30
def k0_off31 (k0_t14 : Fin k0_t14_loop.trips) : Fin 3 → Nat :=
  let c0_i32_53 : BitVec 32 := 0#32
  let c1_i32_55 : BitVec 32 := 1#32
  let arg23 : BitVec 32 := Scf.iv c0_i32_53 c1_i32_55 k0_t14
  let c40_i32 : BitVec 32 := 40#32
  let v30 : BitVec 32 := Scalar.muli arg23 c40_i32
  let v31 : BitVec 32 := v30
  let v32 : Index := Scalar.indexCast v31
  let c0_61 : Index := 0#32
  ![v32.toNat, 0, 0]
def k0_mult30 (k0_t14 : Fin k0_t14_loop.trips) : BitVec 32 :=
  let c0_i32_53 : BitVec 32 := 0#32
  let c1_i32_55 : BitVec 32 := 1#32
  let arg23 : BitVec 32 := Scf.iv c0_i32_53 c1_i32_55 k0_t14
  let c64_i32_62 : BitVec 32 := 64#32
  let v35 : BitVec 32 := Scalar.muli arg23 c64_i32_62
  v35
def k0_off32 (k0_t14 : Fin k0_t14_loop.trips) : Fin 2 → Nat :=
  let c0_i32_53 : BitVec 32 := 0#32
  let c1_i32_55 : BitVec 32 := 1#32
  let arg23 : BitVec 32 := Scf.iv c0_i32_53 c1_i32_55 k0_t14
  let c64_i32_62 : BitVec 32 := 64#32
  let v35 : BitVec 32 := Scalar.muli arg23 c64_i32_62
  let v36 : BitVec 32 := v35
  let v37 : Index := Scalar.indexCast v36
  let c0_63 : Index := 0#32
  ![v37.toNat, 0]
@[reducible] def k0_t15_loop : Scf.Loop 32 :=
  let c0_i32_57 : BitVec 32 := 0#32
  let c64_i32_58 : BitVec 32 := 64#32
  let v29 : BitVec 32 := Scalar.addi c0_i32_57 c64_i32_58
  let c1_i32_59 : BitVec 32 := 1#32
  ⟨c0_i32_57, v29, c1_i32_59⟩
def k0_off33 (k0_t15 : Fin k0_t15_loop.trips) : Fin 2 → Nat :=
  let c0_i32_57 : BitVec 32 := 0#32
  let c1_i32_59 : BitVec 32 := 1#32
  let arg23 : BitVec 32 := Scf.iv c0_i32_57 c1_i32_59 k0_t15
  let v30 : Index := Scalar.indexCast arg23
  let c0_61 : Index := 0#32
  ![v30.toNat, 0]
def k0_off34 (k0_t15 : Fin k0_t15_loop.trips) : Fin 2 → Nat :=
  let c0_i32_57 : BitVec 32 := 0#32
  let c1_i32_59 : BitVec 32 := 1#32
  let arg23 : BitVec 32 := Scf.iv c0_i32_57 c1_i32_59 k0_t15
  let v34 : Index := Scalar.indexCast arg23
  let c0_62 : Index := 0#32
  ![v34.toNat, 0]
abbrev stage0_0 : Fin 1 → Memref sig .tc .vmem S7168x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7168x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7168x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S7168x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S7168x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S7168x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7168x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7168x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S2x128x56x64 : Shape := ⟨4, ![2, 128, 56, 64]⟩
abbrev S2x128x56 : Shape := ⟨3, ![2, 128, 56]⟩
abbrev S2x56x64x64 : Shape := ⟨4, ![2, 56, 64, 64]⟩
abbrev S2x1x56x64 : Shape := ⟨4, ![2, 1, 56, 64]⟩
abbrev S2x56x64 : Shape := ⟨3, ![2, 56, 64]⟩
abbrev S2x1x56 : Shape := ⟨3, ![2, 1, 56]⟩
abbrev S2x56 : Shape := ⟨2, ![2, 56]⟩
abbrev S2x56x1 : Shape := ⟨3, ![2, 56, 1]⟩
abbrev S2x56x64x1 : Shape := ⟨4, ![2, 56, 64, 1]⟩
abbrev S2x56x1x64 : Shape := ⟨4, ![2, 56, 1, 64]⟩

abbrev nBuf : Space → Nat
  | .hbm => 12
  | .vmem => 12
  | .smem => 0
  | _ => 0

abbrev bufTy : (tb : Table) → Fin (tcTables nBuf tb) → BufTy
  | .hbm, ⟨0, _⟩ => ⟨S2x128x56x64, .fp8e4m3⟩
  | .hbm, ⟨1, _⟩ => ⟨S2x128x56x64, .fp8e4m3⟩
  | .hbm, ⟨2, _⟩ => ⟨S2x128x56x64, .fp8e4m3⟩
  | .hbm, ⟨3, _⟩ => ⟨S2x128x56, .f32⟩
  | .hbm, ⟨4, _⟩ => ⟨S2x128x56, .f32⟩
  | .hbm, ⟨5, _⟩ => ⟨S2x128x56, .f32⟩
  | .hbm, ⟨6, _⟩ => ⟨S2x128x56x64, .bf16⟩
  | .hbm, ⟨7, _⟩ => ⟨S2x128x56x64, .bf16⟩
  | .hbm, ⟨8, _⟩ => ⟨S2x128x56x64, .bf16⟩
  | .hbm, ⟨9, _⟩ => ⟨S2x56x64x64, .f32⟩
  | .hbm, ⟨10, _⟩ => ⟨S2x128x56x64, .bf16⟩
  | .hbm, ⟨11, _⟩ => ⟨S2x56x64x64, .f32⟩
  | .local _ .vmem, ⟨0, _⟩ => ⟨S2x128x56x64, .fp8e4m3⟩
  | .local _ .vmem, ⟨1, _⟩ => ⟨S2x128x56x64, .fp8e4m3⟩
  | .local _ .vmem, ⟨2, _⟩ => ⟨S2x128x56x64, .fp8e4m3⟩
  | .local _ .vmem, ⟨3, _⟩ => ⟨S2x128x56, .f32⟩
  | .local _ .vmem, ⟨4, _⟩ => ⟨S2x128x56, .f32⟩
  | .local _ .vmem, ⟨5, _⟩ => ⟨S2x128x56, .f32⟩
  | .local _ .vmem, ⟨6, _⟩ => ⟨S2x128x56x64, .bf16⟩
  | .local _ .vmem, ⟨7, _⟩ => ⟨S2x128x56x64, .bf16⟩
  | .local _ .vmem, ⟨8, _⟩ => ⟨S2x128x56x64, .bf16⟩
  | .local _ .vmem, ⟨9, _⟩ => ⟨S2x56x64x64, .f32⟩
  | .local _ .vmem, ⟨10, _⟩ => ⟨S2x128x56x64, .bf16⟩
  | .local _ .vmem, ⟨11, _⟩ => ⟨S2x56x64x64, .f32⟩
  | _, _ => ⟨S2x128x56x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v2 : BitVec 32 := Scalar.addi c0_i32 c128_i32
  let c1_i32 : BitVec 32 := 1#32
  ⟨c0_i32, v2, c1_i32⟩
def k0_off1 (k0_t1 : Fin k0_t1_loop.trips) : Fin 4 → Nat :=
  let c0_8 : Index := 0#32
  let c0_i32 : BitVec 32 := 0#32
  let c1_i32 : BitVec 32 := 1#32
  let arg12 : BitVec 32 := Scf.iv c0_i32 c1_i32 k0_t1
  let v6 : Index := Scalar.indexCast arg12
  let c0_9 : Index := 0#32
  let c0_10 : Index := 0#32
  ![0, v6.toNat, 0, 0]
def k0_off2 (k0_t1 : Fin k0_t1_loop.trips) : Fin 3 → Nat :=
  let c0_11 : Index := 0#32
  let c0_i32 : BitVec 32 := 0#32
  let c1_i32 : BitVec 32 := 1#32
  let arg12 : BitVec 32 := Scf.iv c0_i32 c1_i32 k0_t1
  let v10 : Index := Scalar.indexCast arg12
  let c0_12 : Index := 0#32
  ![0, v10.toNat, 0]
abbrev stage0_0 : Fin 1 → Memref sig .tc .vmem S2x128x56x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x56x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x56x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x56x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x56x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x56x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x56x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128x56x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x56x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Walk.lean ====
/-
  Walking a kernel body one memory operation at a time. Two ways are given. The first holds a resource `R` that owns
  every buffer at some contents and keeps `R` across each load and store: it shows that a body runs, and says nothing of
  values. The second (`Acc`) holds each buffer at named contents and says what a load reads and what a store leaves.
-/
module

public import Idealize.ShloMosaic.Lib.Tactic
public import Idealize.ShloMosaic.Lib.Scf
public import Idealize.ShloMosaic.Lib.Pipeline.FrameBody

@[expose] public section

noncomputable section

namespace Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {c : Thread nD τ} {bd : Option 𝒱.V} {E : Set Name}
variable {α : Type} {Q : α → sProp (MT nD τ sig Ix Val Name U Lvl)}
variable {sp : Space} {s : Shape} {e : EltTy}

/-- Some contents of a memref, owned in full. -/
def anyOf (c : Thread nD τ) (m : Memref sig c.2.kind sp s e) : sProp (MT nD τ sig Ix Val Name U Lvl) :=
  iprop(∃ X, owns c m fullShare X)

/-- `R` owns the memref `m` at contents `X`, and gives `H' Y` when the memref comes back at contents `Y`. -/
class Acc (R : sProp (MT nD τ sig Ix Val Name U Lvl)) (m : Memref sig c.2.kind sp s e) (X : outParam (s.Idx → Val e))
    (H' : outParam ((s.Idx → Val e) → sProp (MT nD τ sig Ix Val Name U Lvl))) : Prop where
  out : R ⊢ iprop(owns c m fullShare X ∗ (∀ Y, owns c m fullShare Y -∗ H' Y))

/-- `R` owns the memref `m` at some contents, whatever contents it comes back at. -/
class AccW (R : sProp (MT nD τ sig Ix Val Name U Lvl)) (m : Memref sig c.2.kind sp s e) : Prop where
  out : R ⊢ iprop(anyOf c m ∗ (anyOf c m -∗ R))

instance accW_here (m : Memref sig c.2.kind sp s e) (R : sProp 𝕄) : AccW iprop(anyOf c m ∗ R) m where
  out := by
    iintro ⟨H, HR⟩
    isplitl [H]; · iexact H
    iintro H
    isplitl [H]; · iexact H
    iexact HR

instance accW_last (m : Memref sig c.2.kind sp s e) : AccW (anyOf c m : sProp 𝕄) m where
  out := by
    iintro H
    isplitl [H]; · iexact H
    iintro H
    iexact H

instance accW_there {A R : sProp 𝕄} (m : Memref sig c.2.kind sp s e) [h : AccW R m] : AccW iprop(A ∗ R) m where
  out := by
    iintro ⟨HA, HR⟩
    ihave ⟨H, HK⟩ := h.out $$ HR
    isplitl [H]; · iexact H
    iintro H
    isplitl [HA]; · iexact HA
    iapply HK
    iexact H

instance acc_here (m : Memref sig c.2.kind sp s e) (R : sProp 𝕄) (X : s.Idx → Val e) :
    Acc iprop(owns c m fullShare X ∗ R) m X (fun Y => iprop(owns c m fullShare Y ∗ R)) where
  out := by
    iintro ⟨H, HR⟩
    isplitl [H]; · iexact H
    iintro %Y H
    isplitl [H]; · iexact H
    iexact HR

instance acc_last (m : Memref sig c.2.kind sp s e) (X : s.Idx → Val e) :
    Acc (owns c m fullShare X : sProp 𝕄) m X (fun Y => owns c m fullShare Y) where
  out := by
    iintro H
    isplitl [H]; · iexact H
    iintro %Y H
    iexact H

instance acc_there {A R : sProp 𝕄} (m : Memref sig c.2.kind sp s e) {X : s.Idx → Val e} {H' : (s.Idx → Val e) → sProp 𝕄}
    [h : Acc R m X H'] : Acc iprop(A ∗ R) m X (fun Y => iprop(A ∗ H' Y)) where
  out := by
    iintro ⟨HA, HR⟩
    ihave ⟨H, HK⟩ := h.out $$ HR
    isplitl [H]; · iexact H
    iintro %Y H
    isplitl [HA]; · iexact HA
    iapply HK
    iexact H

/-- What a store through a rectangle leaves a memref reading. -/
theorem read_store (m : Memref sig c.2.kind sp s e) (r : Rect s) (f : m.view.ty.Contents Val) (w : r.shape.Idx → Val e) :
    m.view.read Val ((m.access r).write Val f w Finset.univ) = r.overlay (m.view.read Val f) w := by
  funext j
  by_cases hj : j ∈ r.set
  · obtain ⟨i, rfl⟩ := r.exists_idx_of_mem hj
    change m.view.read Val _ (r.emb i) = r.overlay _ w (r.emb i)
    rw [Rect.overlay_emb]
    exact View.read_slice_write_emb _ _ _ (Finset.mem_univ i)
  · rw [Rect.overlay_of_not_mem _ _ _ hj]
    refine View.read_slice_write_of_not_mem _ _ _ _ ?_
    rw [r.map_emb_univ]
    exact hj

section Weak

variable {cs : CoreSpace}

/-- A load, keeping `R`: the rest runs whatever was read. -/
theorem load_w {R : sProp 𝕄} {m : Memref sig c.2.kind cs s e} {r : LoadRect s} {hl : m.view.LoadsAt r}
    {k : (r.shape.Idx → Val e) → Prog (TpuEff nD τ sig Val Λ c.2) α} [h : AccW R m]
    (hk : ∀ x, R ⊢ wp frame (wpE defs 𝒱 c bd) E (k x) Q) :
    R ⊢ wp frame (wpE defs 𝒱 c bd) E (Prog.lift (.load m r hl) >>= k) Q := by
  show R ⊢ wp frame (wpE defs 𝒱 c bd) E (.op (.load m r hl) k) Q
  iintro HR
  ihave ⟨H, HK⟩ := h.out $$ HR
  unfold anyOf
  icases H with ⟨%X, H⟩
  ihave H := (show owns c m fullShare X ⊢ iprop(∃ f, ⌜m.view.read Val f = X⌝ ∗ (m.view.loc c ↦[m.view.set]{fullShare} f)) from .rfl) $$ H
  icases H with ⟨%f, %hf, H⟩
  iapply (wp_load 𝒱 c bd E (m := m) (r := r) (hl := hl) (k := k) (f := f) (m.view.setOn_subset_set r.set)) $$ H
  iintro H
  iapply (hk _)
  iapply HK
  iexists (m.view.read Val f)
  iapply (owns_intro c m fullShare f)
  iexact H

/-- A store, keeping `R`. -/
theorem store_w {R : sProp 𝕄} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} [h : AccW R m]
    (hk : R ⊢ wp frame (wpE defs 𝒱 c bd) E (k ⟨⟩) Q) :
    R ⊢ wp frame (wpE defs 𝒱 c bd) E (Prog.lift (.store m r w Finset.univ hx hm) >>= k) Q := by
  show R ⊢ wp frame (wpE defs 𝒱 c bd) E (.op (.store m r w Finset.univ hx hm) k) Q
  iintro HR
  ihave ⟨H, HK⟩ := h.out $$ HR
  unfold anyOf
  icases H with ⟨%X, H⟩
  ihave H := (show owns c m fullShare X ⊢ iprop(∃ f, ⌜m.view.read Val f = X⌝ ∗ (m.view.loc c ↦[m.view.set]{fullShare} f)) from .rfl) $$ H
  icases H with ⟨%f, %hf, H⟩
  iapply (wp_store 𝒱 c bd E (m := m) (r := r) (w := w) (Mk := Finset.univ) (hx := hx) (hm := hm) (k := k) (f := f)
    (Memref.setOn_access_subset m r Finset.univ)) $$ H
  iintro H
  iapply hk
  iapply HK
  iexists (m.view.read Val _)
  iapply (owns_intro c m fullShare _)
  iexact H

/-- A counted loop at the head of a program, keeping `R`. -/
theorem loop_w {w : Nat} {σ : Type} {R : sProp 𝕄} (l : Scf.Loop w) (hok : l.OK) (init : σ)
    (body : Fin l.trips → σ → Prog (TpuEff nD τ sig Val Λ c.2) σ) {k : σ → Prog (TpuEff nD τ sig Val Λ c.2) α}
    (hb : ∀ t acc, R ⊢ wp frame (wpE defs 𝒱 c bd) E (body t acc) (fun _ => R))
    (hk : ∀ acc, R ⊢ wp frame (wpE defs 𝒱 c bd) E (k acc) Q) :
    R ⊢ wp frame (wpE defs 𝒱 c bd) E (Scf.Loop.for l hok init body >>= k) Q := by
  have h := Scf.wp_for_bind frame (wpE defs 𝒱 c bd) E l.lb l.ub l.st hok init body (fun _ _ => R) hb (kk := k) (Q := Q)
  iintro HR
  iapply h $$ HR
  iintro %acc HR
  iapply (hk acc)
  iexact HR

/-- A window of a body at the head of the rest: it keeps `R`, and the rest runs whatever it returns. -/
theorem part_w {β : Type} {R : sProp 𝕄} {p : Prog (TpuEff nD τ sig Val Λ c.2) β} {k : β → Prog (TpuEff nD τ sig Val Λ c.2) α}
    (hp : R ⊢ wp frame (wpE defs 𝒱 c bd) E p (fun _ => R))
    (hk : ∀ a, R ⊢ wp frame (wpE defs 𝒱 c bd) E (k a) Q) :
    R ⊢ wp frame (wpE defs 𝒱 c bd) E (p >>= k) Q := by
  rw [wp_bind]
  exact hp.trans (wp_mono _ _ _ hk)

/-- The end of a window. -/
theorem pure_w {R : sProp 𝕄} (a : α) (h : R ⊢ Q a) :
    R ⊢ wp frame (wpE defs 𝒱 c bd) E (pure a : Prog (TpuEff nD τ sig Val Λ c.2) α) Q :=
  h.trans (le_wp_ret _ _ _ a Q)

/-- A statement about every pair, by parts. -/
theorem forall_psigma {A : Type} {B : A → Type} {p : (Σ' a, B a) → Prop} (h : ∀ a b, p ⟨a, b⟩) : ∀ x, p x :=
  fun ⟨a, b⟩ => h a b

end Weak

section Tc

variable {c : Dev nD} {bd : Option 𝒱.V} {R : sProp (MT nD τ sig Ix Val Name U Lvl)} {cs : CoreSpace}

/-- `p`, run on the TensorCore of device `c` from the resource `R`, ends in `Q`. -/
@[irreducible] def Go (defs : Defs nD τ sig Val Λ) (𝒱 : Variants) (bd : Option 𝒱.V) (E : Set Name) (c : Dev nD)
    (R : sProp (MT nD τ sig Ix Val Name U Lvl)) (p : Prog (TpuEff nD τ sig Val Λ .tc) α) (Q : α → sProp (MT nD τ sig Ix Val Name U Lvl)) : Prop :=
  R ⊢ wp frame (wpE defs 𝒱 (c : Thread nD τ) bd) E p Q

/-- `Go`, spelt out. -/
theorem go_iff {p : Prog (TpuEff nD τ sig Val Λ .tc) α} :
    Go defs 𝒱 bd E c R p Q ↔ (R ⊢ wp frame (wpE defs 𝒱 (c : Thread nD τ) bd) E p Q) := by
  unfold Go; exact Iff.rfl

/-- A load, keeping `R`. -/
theorem Go.load {m : Memref sig .tc cs s e} {r : LoadRect s} {hl : m.view.LoadsAt r}
    {k : (r.shape.Idx → Val e) → Prog (TpuEff nD τ sig Val Λ .tc) α} [h : AccW (c := (c : Thread nD τ)) R m]
    (hk : ∀ x, Go defs 𝒱 bd E c R (k x) Q) : Go defs 𝒱 bd E c R (Prog.lift (.load m r hl) >>= k) Q := by
  unfold Go at *
  exact load_w (c := (c : Thread nD τ)) hk

/-- A store, keeping `R`. -/
theorem Go.store {m : Memref sig .tc cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) α} [h : AccW (c := (c : Thread nD τ)) R m]
    (hk : Go defs 𝒱 bd E c R (k ⟨⟩) Q) : Go defs 𝒱 bd E c R (Prog.lift (.store m r w Finset.univ hx hm) >>= k) Q := by
  unfold Go at *
  exact store_w (c := (c : Thread nD τ)) hk

/-- A loop, keeping `R`. -/
theorem Go.loop {w : Nat} {σ : Type} {l : Scf.Loop w} {hok : l.OK} {init : σ}
    {body : Fin l.trips → σ → Prog (TpuEff nD τ sig Val Λ .tc) σ} {k : σ → Prog (TpuEff nD τ sig Val Λ .tc) α}
    (hb : ∀ t acc, Go defs 𝒱 bd E c R (body t acc) (fun _ => R)) (hk : ∀ acc, Go defs 𝒱 bd E c R (k acc) Q) :
    Go defs 𝒱 bd E c R (Scf.Loop.for l hok init body >>= k) Q := by
  unfold Go at *
  exact loop_w (c := (c : Thread nD τ)) l hok init body hb hk

/-- A window of a body, keeping `R`. -/
theorem Go.part {β : Type} {p : Prog (TpuEff nD τ sig Val Λ .tc) β} {k : β → Prog (TpuEff nD τ sig Val Λ .tc) α}
    (hp : Go defs 𝒱 bd E c R p (fun _ => R)) (hk : ∀ a, Go defs 𝒱 bd E c R (k a) Q) :
    Go defs 𝒱 bd E c R (p >>= k) Q := by
  unfold Go at *
  exact part_w (c := (c : Thread nD τ)) hp hk

/-- The end of a window. -/
theorem Go.ret {a : α} (h : R ⊢ Q a) : Go defs 𝒱 bd E c R (pure a) Q := by
  unfold Go at *
  exact pure_w (c := (c : Thread nD τ)) _ h

end Tc

end Walk
-- ==== Proof.RunK.lean ====
/-
  The kernel's body runs: from any resource that owns its 23 buffers, each at some contents, it comes back to that
  resource. Nothing is said here of the values it leaves.
-/
module

public import proofs.«01_k».proof.Proof.Gen.Kernel.Frame
public import proofs.«01_k».proof.Proof.Walk

@[expose] public section

set_option maxRecDepth 16384

noncomputable section

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Walk

variable {F : FTy → Type} [BitOps F]

local notation "𝕄" => MT nD τ sig Unit (Elt F) ℕ (UR sig nD τ) ℕ

set_option maxHeartbeats 0 in
/-- The body keeps every resource that owns its buffers. -/
theorem body_runs {c : Dev nD} {R : sProp 𝕄} {arg0 : Memref sig .tc .vmem S7168x128 .fp8e4m3} {arg1 : Memref sig .tc .vmem S7168x128 .fp8e4m3} {arg2 : Memref sig .tc .vmem S7168x128 .fp8e4m3} {arg3 : Memref sig .tc .vmem S112x128 .f32} {arg4 : Memref sig .tc .vmem S112x128 .f32} {arg5 : Memref sig .tc .vmem S112x128 .f32} {arg6 : Memref sig .tc .vmem S7168x128 .bf16} {arg7 : Memref sig .tc .vmem S7168x128 .bf16} {arg8 : Memref sig .tc .vmem S7168x128 .bf16} {arg9 : Memref sig .tc .vmem S7168x64 .f32} {arg10 : Memref sig .tc .vmem S7168x128 .bf16} {arg11 : Memref sig .tc .vmem S7168x64 .f32} {arg12 : Memref sig .tc .vmem S4480x128 .i32} {arg13 : Memref sig .tc .vmem S4480x128 .i32} {arg14 : Memref sig .tc .vmem S4480x128 .i32} {arg15 : Memref sig .tc .vmem S8192x128 .f32} {arg16 : Memref sig .tc .vmem S8192x128 .f32} {arg17 : Memref sig .tc .vmem S8192x128 .f32} {arg18 : Memref sig .tc .vmem S8192x128 .f32} {arg19 : Memref sig .tc .vmem S8192x128 .f32} {arg20 : Memref sig .tc .vmem S8192x128 .f32} {arg21 : Memref sig .tc .vmem S4096x128 .f32} {arg22 : Memref sig .tc .vmem S8192x128 .f32}
  (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole)
  [AccW (c := (c : Thread nD τ)) R arg0] [AccW (c := (c : Thread nD τ)) R arg1] [AccW (c := (c : Thread nD τ)) R arg2] [AccW (c := (c : Thread nD τ)) R arg3] [AccW (c := (c : Thread nD τ)) R arg4] [AccW (c := (c : Thread nD τ)) R arg5] [AccW (c := (c : Thread nD τ)) R arg6] [AccW (c := (c : Thread nD τ)) R arg7] [AccW (c := (c : Thread nD τ)) R arg8] [AccW (c := (c : Thread nD τ)) R arg9] [AccW (c := (c : Thread nD τ)) R arg10] [AccW (c := (c : Thread nD τ)) R arg11] [AccW (c := (c : Thread nD τ)) R arg12] [AccW (c := (c : Thread nD τ)) R arg13] [AccW (c := (c : Thread nD τ)) R arg14] [AccW (c := (c : Thread nD τ)) R arg15] [AccW (c := (c : Thread nD τ)) R arg16] [AccW (c := (c : Thread nD τ)) R arg17] [AccW (c := (c : Thread nD τ)) R arg18] [AccW (c := (c : Thread nD τ)) R arg19] [AccW (c := (c : Thread nD τ)) R arg20] [AccW (c := (c : Thread nD τ)) R arg21] [AccW (c := (c : Thread nD τ)) R arg22] :
    Go (defs₀ (F := F)) Variants.none none Set.univ c R
    (cc0_rwkv7_sequential arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => R) := by
  delta cc0_rwkv7_sequential
  repeat' (first
    | (with_reducible refine Go.load ?_; intro _)
    | with_reducible refine Go.store ?_
    | (with_reducible refine Go.loop ?_ ?_)
    | (with_reducible refine Go.part ?_ ?_)
    | (with_reducible exact Go.ret .rfl)
    | (refine forall_psigma ?_; intro _)
    | intro _
    | delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180 k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209 k0_part210 k0_part211 k0_part212 k0_part213 k0_part214 k0_part215 k0_part216 k0_part217 k0_part218 k0_part219 k0_part220 k0_part221 k0_part222 k0_part223 k0_part224 k0_part225 k0_part226 k0_part227 k0_part228 k0_part229 k0_part230 k0_part231 k0_part232 k0_part233 k0_part234 k0_part235 k0_part236 k0_part237 k0_part238 k0_part239 k0_part240 k0_part241 k0_part242 k0_part243 k0_part244 k0_part245 k0_part246 k0_part247 k0_part248 k0_part249 k0_part250 k0_part251 k0_part252 k0_part253 k0_part254 k0_part255 k0_part256 k0_part257 k0_part258 k0_part259)

end Cert.Kernel.Run
-- ==== Proof.FrameK.lean ====
/-
  From the body's run to the frame: every run of the program ends, its ten arguments as they were and every semaphore
  counter at zero. What the pipeline's windows hold afterwards is left unsaid here.
-/
module

public import proofs.«01_k».proof.Proof.RunK

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Walk

variable {F : FTy → Type} [BitOps F]

local notation "𝕄" => MT nD τ sig Unit (Elt F) ℕ (UR sig nD τ) ℕ

variable (m : (ℓ : Loc nD τ sig) → Buf (Elt F) ℓ) (ρ : Dev nD → PrngReg)

/-- No window's contents are stated. -/
def unstated : Fin cfg0.W → Bool := fun _ => true

/-- The proof data on core `c`: the arrays as the region finds them, the windows' contents unnamed. -/
def datsW (_ : Fin 1) (c : Dev nD) : Dat τ (Elt F) Unit ℕ (UR sig nD τ) ℕ cfg0 c where
  A w := V m c (Pipeline.arrRef spec0 w)
  after w t := Dat.unnamed (cfg := cfg0) w t
  Φ _ := ΦA spec0 c
  q _ := fullShare
  owed _ := 0

/-- A scratch buffer at some contents is its memref owned at some contents. -/
theorem scratch_any (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  refine congrArg _ (funext fun f => ?_)
  exact (owns_whole (c : Thread nD τ) b fullShare f).symm

/-- The body's run with the 23 buffers listed: each at some contents before and after. -/
theorem body_any {c : Dev nD} {arg0 : Memref sig .tc .vmem S7168x128 .fp8e4m3} {arg1 : Memref sig .tc .vmem S7168x128 .fp8e4m3} {arg2 : Memref sig .tc .vmem S7168x128 .fp8e4m3} {arg3 : Memref sig .tc .vmem S112x128 .f32} {arg4 : Memref sig .tc .vmem S112x128 .f32} {arg5 : Memref sig .tc .vmem S112x128 .f32} {arg6 : Memref sig .tc .vmem S7168x128 .bf16} {arg7 : Memref sig .tc .vmem S7168x128 .bf16} {arg8 : Memref sig .tc .vmem S7168x128 .bf16} {arg9 : Memref sig .tc .vmem S7168x64 .f32} {arg10 : Memref sig .tc .vmem S7168x128 .bf16} {arg11 : Memref sig .tc .vmem S7168x64 .f32} {arg12 : Memref sig .tc .vmem S4480x128 .i32} {arg13 : Memref sig .tc .vmem S4480x128 .i32} {arg14 : Memref sig .tc .vmem S4480x128 .i32} {arg15 : Memref sig .tc .vmem S8192x128 .f32} {arg16 : Memref sig .tc .vmem S8192x128 .f32} {arg17 : Memref sig .tc .vmem S8192x128 .f32} {arg18 : Memref sig .tc .vmem S8192x128 .f32} {arg19 : Memref sig .tc .vmem S8192x128 .f32} {arg20 : Memref sig .tc .vmem S8192x128 .f32} {arg21 : Memref sig .tc .vmem S4096x128 .f32} {arg22 : Memref sig .tc .vmem S8192x128 .f32}
    (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) :
    (iprop((∃ X, owns (c : Thread nD τ) arg0 fullShare X) ∗ (∃ X, owns (c : Thread nD τ) arg1 fullShare X) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X)) : sProp 𝕄)
      ⊢ wp frame (wpE (defs₀ (F := F)) Variants.none (c : Thread nD τ) none) Set.univ
          (cc0_rwkv7_sequential arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => iprop((∃ X, owns (c : Thread nD τ) arg0 fullShare X) ∗ (∃ X, owns (c : Thread nD τ) arg1 fullShare X) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X))) :=
  show (iprop(anyOf (c : Thread nD τ) arg0 ∗ anyOf (c : Thread nD τ) arg1 ∗ anyOf (c : Thread nD τ) arg2 ∗ anyOf (c : Thread nD τ) arg3 ∗ anyOf (c : Thread nD τ) arg4 ∗ anyOf (c : Thread nD τ) arg5 ∗ anyOf (c : Thread nD τ) arg6 ∗ anyOf (c : Thread nD τ) arg7 ∗ anyOf (c : Thread nD τ) arg8 ∗ anyOf (c : Thread nD τ) arg9 ∗ anyOf (c : Thread nD τ) arg10 ∗ anyOf (c : Thread nD τ) arg11 ∗ anyOf (c : Thread nD τ) arg12 ∗ anyOf (c : Thread nD τ) arg13 ∗ anyOf (c : Thread nD τ) arg14 ∗ anyOf (c : Thread nD τ) arg15 ∗ anyOf (c : Thread nD τ) arg16 ∗ anyOf (c : Thread nD τ) arg17 ∗ anyOf (c : Thread nD τ) arg18 ∗ anyOf (c : Thread nD τ) arg19 ∗ anyOf (c : Thread nD τ) arg20 ∗ anyOf (c : Thread nD τ) arg21 ∗ anyOf (c : Thread nD τ) arg22) : sProp 𝕄)
      ⊢ wp frame (wpE (defs₀ (F := F)) Variants.none (c : Thread nD τ) none) Set.univ
          (cc0_rwkv7_sequential arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => iprop(anyOf (c : Thread nD τ) arg0 ∗ anyOf (c : Thread nD τ) arg1 ∗ anyOf (c : Thread nD τ) arg2 ∗ anyOf (c : Thread nD τ) arg3 ∗ anyOf (c : Thread nD τ) arg4 ∗ anyOf (c : Thread nD τ) arg5 ∗ anyOf (c : Thread nD τ) arg6 ∗ anyOf (c : Thread nD τ) arg7 ∗ anyOf (c : Thread nD τ) arg8 ∗ anyOf (c : Thread nD τ) arg9 ∗ anyOf (c : Thread nD τ) arg10 ∗ anyOf (c : Thread nD τ) arg11 ∗ anyOf (c : Thread nD τ) arg12 ∗ anyOf (c : Thread nD τ) arg13 ∗ anyOf (c : Thread nD τ) arg14 ∗ anyOf (c : Thread nD τ) arg15 ∗ anyOf (c : Thread nD τ) arg16 ∗ anyOf (c : Thread nD τ) arg17 ∗ anyOf (c : Thread nD τ) arg18 ∗ anyOf (c : Thread nD τ) arg19 ∗ anyOf (c : Thread nD τ) arg20 ∗ anyOf (c : Thread nD τ) arg21 ∗ anyOf (c : Thread nD τ) arg22)) from go_iff.mp (body_runs harg0 harg1 harg2 harg3 harg4 harg5 harg6 harg7 harg8 harg9 harg10 harg11 harg12 harg13 harg14 harg15 harg16 harg17 harg18 harg19 harg20 harg21 harg22)

/-- The scratch buffers, listed. -/
theorem scratches (c : Dev nD) : (Pipeline.scopedRest (Ix := Unit) (Name := ℕ) (U := UR sig nD τ) (Lvl := ℕ) (Val := Elt F) spec0 c : sProp 𝕄)
    = iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X) ∗ (∃ X, owns (c : Thread nD τ) (Memref.whole cc0_scratch9) fullShare X) ∗ (∃ X, owns (c : Thread nD τ) (Memref.whole cc0_scratch10) fullShare X)) := by
  rw [scopedRest0_eq]
  simp only [scratch_any]

/-- The body's run at the pipeline's one point, its windows and scratch buffers at any contents before and after. -/
theorem body_obligation_w (c : Dev nD) :
    BodyObligation (datsW (F := F) m 0 c) (defs₀ (F := F)) Variants.none () Set.univ unstated := fun t => by
  rw [bigSep_W0, bigSep_W0]
  sl_whnfR [defs₀, Defs.onTc]
  simp only [unstated]
  rw [show (datsW m 0 c).Φ t.succ = (datsW m 0 c).Φ t.castSucc from rfl,
    show (datsW m 0 c).owesAt () t.succ = (datsW m 0 c).owesAt () t.castSucc from rfl,
    show (datsW m 0 c).Φ t.castSucc = ΦA spec0 c from rfl]
  unfold ΦA
  rw [scratches]
  iintro ⟨⟨⟨H12, H13, H14, H15, H16, H17, H18, H19, H20, H21, H22⟩, Hg⟩, Ho, H0, H1, H2, H3, H4, H5, H6, H7, H8, H9, H10, H11⟩
  iapply (wp_wand_r frame (wpE (defs₀ (F := F)) Variants.none (c : Thread nD τ) none) Set.univ)
  isplitl [H0 H1 H2 H3 H4 H5 H6 H7 H8 H9 H10 H11 H12 H13 H14 H15 H16 H17 H18 H19 H20 H21 H22]
  · iapply (body_any (c := c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %_ ⟨H0, H1, H2, H3, H4, H5, H6, H7, H8, H9, H10, H11, H12, H13, H14, H15, H16, H17, H18, H19, H20, H21, H22⟩
  isplitl [H12 H13 H14 H15 H16 H17 H18 H19 H20 H21 H22 Hg]
  · isplitr [Hg]; swap; · iexact Hg
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The buffers the host lines after the region write. -/
def written : Finset (Ref sig .tc) := {main_v20, main_v21, main_v22}

/-- The host lines after the region write those buffers alone. -/
theorem sfx_written : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  rcases hop with rfl | rfl | rfl <;>
    simp only [StableHlo.unary_writes, StableHlo.reshape_writes, Finset.mem_singleton] at hb <;>
    (have hb' := Proc.devRef_injective _ hb; subst hb'; decide)

set_option backward.isDefEq.respectTransparency.types false in
/-- Every run of @main ends, with every buffer that is no window's array and that no later host line writes as the
    region found it, and every semaphore counter at zero. -/
theorem run_main_w : θ_run defs (onTc (τ := τ) (main (F := F))) (s₀ m ρ)
    (fun r => Pipeline.RDat.FramePostR cfg0 (fun c => (datsW m 0 c).toRForget unstated) written (fun c b => V0 m c (Proc.devRef .tc b)) r
      ∧ r.2.sem = fun _ => 0) :=
  Pipeline.θ_run_frame_around_T_forget (Q' := _) cfgs (datsW m) (0 : Fin 1) launch0 defs₀ Variants.none unstated written m ρ main
    (hbody := fun c => (body_obligation_w m c).loose) (hshare := fun c => (datsW m 0 c).share_full fun _ => rfl)
    (howed := fun _ _ => rfl) (V₀ := V0 m) (opss := [hostOps1]) (hsub := sfx_sub) (hfresh := sfx_fresh) (hkeep := sfx_keeps)
    (hT := sfx_written) (hmain := hmain m Variants.none) (hA := fun _ _ => rfl) (hΦ := fun _ _ => rfl)

/-- An argument array no host line writes and no window stages ends as it was launched. -/
theorem arg_kept {r : PUnit × MemSt nD τ sig (Elt F)} (c : Dev nD) (b : Ref sig .tc) (hs : b.isScoped = false)
    (ha : ∀ w, (spec0 w).arr.view.ref ≠ b) (hw : b ∉ written) (hV : V m c b = m ((c : Thread nD τ).loc b))
    (h : Pipeline.RDat.FramePostR cfg0 (fun c => (datsW m 0 c).toRForget unstated) written (fun c b => V0 m c (Proc.devRef .tc b)) r) :
    r.2.mem ((c : Thread nD τ).loc b) = m ((c : Thread nD τ).loc b) :=
  ((h c).2 b (Finset.mem_sdiff.mpr ⟨Pipeline.mem_restRefs_of b hs ha, hw⟩)).trans hV

/-- Every run of the program ends with its ten arguments as they were and every semaphore counter at zero. -/
theorem frame_w : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨arg_kept m c main_arg0 (by decide) (by decide) (by decide) (V_main_arg0 m c) h.1, arg_kept m c main_arg1 (by decide) (by decide) (by decide) (V_main_arg1 m c) h.1, arg_kept m c main_arg2 (by decide) (by decide) (by decide) (V_main_arg2 m c) h.1, arg_kept m c main_arg3 (by decide) (by decide) (by decide) (V_main_arg3 m c) h.1, arg_kept m c main_arg4 (by decide) (by decide) (by decide) (V_main_arg4 m c) h.1, arg_kept m c main_arg5 (by decide) (by decide) (by decide) (V_main_arg5 m c) h.1, arg_kept m c main_arg6 (by decide) (by decide) (by decide) (V_main_arg6 m c) h.1, arg_kept m c main_arg7 (by decide) (by decide) (by decide) (V_main_arg7 m c) h.1, arg_kept m c main_arg8 (by decide) (by decide) (by decide) (V_main_arg8 m c) h.1, arg_kept m c main_arg9 (by decide) (by decide) (by decide) (V_main_arg9 m c) h.1⟩, h.2⟩) (run_main_w m ρ)

end Cert.Kernel.Run
-- ==== Proof.RunI.lean ====
/-
  The kernel's body runs: from any resource that owns its 23 buffers, each at some contents, it comes back to that
  resource. Nothing is said here of the values it leaves.
-/
module

public import proofs.«01_k».proof.Proof.Gen.KernelIdeal.Frame
public import proofs.«01_k».proof.Proof.Walk

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Walk

variable {F : FTy → Type} [FloatOps F]

local notation "𝕄" => MT nD τ sig Unit (Elt F) ℕ (UR sig nD τ) ℕ

set_option maxHeartbeats 0 in
/-- The body keeps every resource that owns its buffers. -/
theorem body_runs {c : Dev nD} {R : sProp 𝕄} {arg0 : Memref sig .tc .vmem S7168x128 .fp8e4m3} {arg1 : Memref sig .tc .vmem S7168x128 .fp8e4m3} {arg2 : Memref sig .tc .vmem S7168x128 .fp8e4m3} {arg3 : Memref sig .tc .vmem S112x128 .f32} {arg4 : Memref sig .tc .vmem S112x128 .f32} {arg5 : Memref sig .tc .vmem S112x128 .f32} {arg6 : Memref sig .tc .vmem S7168x128 .bf16} {arg7 : Memref sig .tc .vmem S7168x128 .bf16} {arg8 : Memref sig .tc .vmem S7168x128 .bf16} {arg9 : Memref sig .tc .vmem S7168x64 .f32} {arg10 : Memref sig .tc .vmem S7168x128 .bf16} {arg11 : Memref sig .tc .vmem S7168x64 .f32} {arg12 : Memref sig .tc .vmem S4480x2x128 .bf16} {arg13 : Memref sig .tc .vmem S4480x2x128 .bf16} {arg14 : Memref sig .tc .vmem S4480x2x128 .bf16} {arg15 : Memref sig .tc .vmem S8192x128 .f32} {arg16 : Memref sig .tc .vmem S8192x128 .f32} {arg17 : Memref sig .tc .vmem S8192x128 .f32} {arg18 : Memref sig .tc .vmem S8192x128 .f32} {arg19 : Memref sig .tc .vmem S8192x128 .f32} {arg20 : Memref sig .tc .vmem S8192x128 .f32} {arg21 : Memref sig .tc .vmem S4096x128 .f32} {arg22 : Memref sig .tc .vmem S8192x128 .f32}
  (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole)
  [AccW (c := (c : Thread nD τ)) R arg0] [AccW (c := (c : Thread nD τ)) R arg1] [AccW (c := (c : Thread nD τ)) R arg2] [AccW (c := (c : Thread nD τ)) R arg3] [AccW (c := (c : Thread nD τ)) R arg4] [AccW (c := (c : Thread nD τ)) R arg5] [AccW (c := (c : Thread nD τ)) R arg6] [AccW (c := (c : Thread nD τ)) R arg7] [AccW (c := (c : Thread nD τ)) R arg8] [AccW (c := (c : Thread nD τ)) R arg9] [AccW (c := (c : Thread nD τ)) R arg10] [AccW (c := (c : Thread nD τ)) R arg11] [AccW (c := (c : Thread nD τ)) R arg12] [AccW (c := (c : Thread nD τ)) R arg13] [AccW (c := (c : Thread nD τ)) R arg14] [AccW (c := (c : Thread nD τ)) R arg15] [AccW (c := (c : Thread nD τ)) R arg16] [AccW (c := (c : Thread nD τ)) R arg17] [AccW (c := (c : Thread nD τ)) R arg18] [AccW (c := (c : Thread nD τ)) R arg19] [AccW (c := (c : Thread nD τ)) R arg20] [AccW (c := (c : Thread nD τ)) R arg21] [AccW (c := (c : Thread nD τ)) R arg22] :
    Go (defs₀ (F := F)) Variants.none none Set.univ c R
    (cc0_rwkv7_sequential arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => R) := by
  delta cc0_rwkv7_sequential
  repeat' (first
    | (with_reducible refine Go.load ?_; intro _)
    | with_reducible refine Go.store ?_
    | (with_reducible refine Go.loop ?_ ?_)
    | (with_reducible refine Go.part ?_ ?_)
    | (with_reducible exact Go.ret .rfl)
    | (refine forall_psigma ?_; intro _)
    | intro _
    | delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180 k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209 k0_part210 k0_part211 k0_part212 k0_part213 k0_part214 k0_part215 k0_part216 k0_part217 k0_part218 k0_part219 k0_part220 k0_part221 k0_part222 k0_part223 k0_part224 k0_part225 k0_part226 k0_part227 k0_part228 k0_part229 k0_part230 k0_part231 k0_part232 k0_part233 k0_part234 k0_part235 k0_part236 k0_part237 k0_part238 k0_part239 k0_part240 k0_part241 k0_part242 k0_part243 k0_part244 k0_part245 k0_part246 k0_part247 k0_part248 k0_part249 k0_part250 k0_part251 k0_part252 k0_part253 k0_part254 k0_part255 k0_part256 k0_part257 k0_part258 k0_part259)

end Cert.KernelIdeal.Run
-- ==== Proof.FrameI.lean ====
/-
  From the body's run to the frame: every run of the program ends, its ten arguments as they were and every semaphore
  counter at zero. What the pipeline's windows hold afterwards is left unsaid here.
-/
module

public import proofs.«01_k».proof.Proof.RunI

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Walk

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No window's contents are stated. -/
def unstated : Fin cfg0.W → Bool := fun _ => true

/-- The proof data on core `c`: the arrays as the region finds them, the windows' contents unnamed. -/
def datsW (_ : Fin 1) (c : Dev nD) : Dat τ (Elt F) Unit ℕ (UR sig nD τ) ℕ cfg0 c where
  A w := V m c (Pipeline.arrRef spec0 w)
  after w t := Dat.unnamed (cfg := cfg0) w t
  Φ _ := ΦA spec0 c
  q _ := fullShare
  owed _ := 0

/-- A scratch buffer at some contents is its memref owned at some contents. -/
theorem scratch_any (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  refine congrArg _ (funext fun f => ?_)
  exact (owns_whole (c : Thread nD τ) b fullShare f).symm

/-- The body's run with the 23 buffers listed: each at some contents before and after. -/
theorem body_any {c : Dev nD} {arg0 : Memref sig .tc .vmem S7168x128 .fp8e4m3} {arg1 : Memref sig .tc .vmem S7168x128 .fp8e4m3} {arg2 : Memref sig .tc .vmem S7168x128 .fp8e4m3} {arg3 : Memref sig .tc .vmem S112x128 .f32} {arg4 : Memref sig .tc .vmem S112x128 .f32} {arg5 : Memref sig .tc .vmem S112x128 .f32} {arg6 : Memref sig .tc .vmem S7168x128 .bf16} {arg7 : Memref sig .tc .vmem S7168x128 .bf16} {arg8 : Memref sig .tc .vmem S7168x128 .bf16} {arg9 : Memref sig .tc .vmem S7168x64 .f32} {arg10 : Memref sig .tc .vmem S7168x128 .bf16} {arg11 : Memref sig .tc .vmem S7168x64 .f32} {arg12 : Memref sig .tc .vmem S4480x2x128 .bf16} {arg13 : Memref sig .tc .vmem S4480x2x128 .bf16} {arg14 : Memref sig .tc .vmem S4480x2x128 .bf16} {arg15 : Memref sig .tc .vmem S8192x128 .f32} {arg16 : Memref sig .tc .vmem S8192x128 .f32} {arg17 : Memref sig .tc .vmem S8192x128 .f32} {arg18 : Memref sig .tc .vmem S8192x128 .f32} {arg19 : Memref sig .tc .vmem S8192x128 .f32} {arg20 : Memref sig .tc .vmem S8192x128 .f32} {arg21 : Memref sig .tc .vmem S4096x128 .f32} {arg22 : Memref sig .tc .vmem S8192x128 .f32}
    (harg0 : arg0.IsWhole) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole) (harg19 : arg19.IsWhole) (harg20 : arg20.IsWhole) (harg21 : arg21.IsWhole) (harg22 : arg22.IsWhole) :
    (iprop((∃ X, owns (c : Thread nD τ) arg0 fullShare X) ∗ (∃ X, owns (c : Thread nD τ) arg1 fullShare X) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X)) : sProp 𝕄)
      ⊢ wp frame (wpE (defs₀ (F := F)) Variants.none (c : Thread nD τ) none) Set.univ
          (cc0_rwkv7_sequential arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => iprop((∃ X, owns (c : Thread nD τ) arg0 fullShare X) ∗ (∃ X, owns (c : Thread nD τ) arg1 fullShare X) ∗ (∃ X, owns (c : Thread nD τ) arg2 fullShare X) ∗ (∃ X, owns (c : Thread nD τ) arg3 fullShare X) ∗ (∃ X, owns (c : Thread nD τ) arg4 fullShare X) ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X))) :=
  show (iprop(anyOf (c : Thread nD τ) arg0 ∗ anyOf (c : Thread nD τ) arg1 ∗ anyOf (c : Thread nD τ) arg2 ∗ anyOf (c : Thread nD τ) arg3 ∗ anyOf (c : Thread nD τ) arg4 ∗ anyOf (c : Thread nD τ) arg5 ∗ anyOf (c : Thread nD τ) arg6 ∗ anyOf (c : Thread nD τ) arg7 ∗ anyOf (c : Thread nD τ) arg8 ∗ anyOf (c : Thread nD τ) arg9 ∗ anyOf (c : Thread nD τ) arg10 ∗ anyOf (c : Thread nD τ) arg11 ∗ anyOf (c : Thread nD τ) arg12 ∗ anyOf (c : Thread nD τ) arg13 ∗ anyOf (c : Thread nD τ) arg14 ∗ anyOf (c : Thread nD τ) arg15 ∗ anyOf (c : Thread nD τ) arg16 ∗ anyOf (c : Thread nD τ) arg17 ∗ anyOf (c : Thread nD τ) arg18 ∗ anyOf (c : Thread nD τ) arg19 ∗ anyOf (c : Thread nD τ) arg20 ∗ anyOf (c : Thread nD τ) arg21 ∗ anyOf (c : Thread nD τ) arg22) : sProp 𝕄)
      ⊢ wp frame (wpE (defs₀ (F := F)) Variants.none (c : Thread nD τ) none) Set.univ
          (cc0_rwkv7_sequential arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
          (fun _ => iprop(anyOf (c : Thread nD τ) arg0 ∗ anyOf (c : Thread nD τ) arg1 ∗ anyOf (c : Thread nD τ) arg2 ∗ anyOf (c : Thread nD τ) arg3 ∗ anyOf (c : Thread nD τ) arg4 ∗ anyOf (c : Thread nD τ) arg5 ∗ anyOf (c : Thread nD τ) arg6 ∗ anyOf (c : Thread nD τ) arg7 ∗ anyOf (c : Thread nD τ) arg8 ∗ anyOf (c : Thread nD τ) arg9 ∗ anyOf (c : Thread nD τ) arg10 ∗ anyOf (c : Thread nD τ) arg11 ∗ anyOf (c : Thread nD τ) arg12 ∗ anyOf (c : Thread nD τ) arg13 ∗ anyOf (c : Thread nD τ) arg14 ∗ anyOf (c : Thread nD τ) arg15 ∗ anyOf (c : Thread nD τ) arg16 ∗ anyOf (c : Thread nD τ) arg17 ∗ anyOf (c : Thread nD τ) arg18 ∗ anyOf (c : Thread nD τ) arg19 ∗ anyOf (c : Thread nD τ) arg20 ∗ anyOf (c : Thread nD τ) arg21 ∗ anyOf (c : Thread nD τ) arg22)) from go_iff.mp (body_runs harg0 harg1 harg2 harg3 harg4 harg5 harg6 harg7 harg8 harg9 harg10 harg11 harg12 harg13 harg14 harg15 harg16 harg17 harg18 harg19 harg20 harg21 harg22)

/-- The scratch buffers, listed. -/
theorem scratches (c : Dev nD) : (Pipeline.scopedRest (Ix := Unit) (Name := ℕ) (U := UR sig nD τ) (Lvl := ℕ) (Val := Elt F) spec0 c : sProp 𝕄)
    = iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X) ∗ (∃ X, owns (c : Thread nD τ) (Memref.whole cc0_scratch9) fullShare X) ∗ (∃ X, owns (c : Thread nD τ) (Memref.whole cc0_scratch10) fullShare X)) := by
  rw [scopedRest0_eq]
  simp only [scratch_any]

/-- The body's run at the pipeline's one point, its windows and scratch buffers at any contents before and after. -/
theorem body_obligation_w (c : Dev nD) :
    BodyObligation (datsW (F := F) m 0 c) (defs₀ (F := F)) Variants.none () Set.univ unstated := fun t => by
  rw [bigSep_W0, bigSep_W0]
  sl_whnfR [defs₀, Defs.onTc]
  simp only [unstated]
  rw [show (datsW m 0 c).Φ t.succ = (datsW m 0 c).Φ t.castSucc from rfl,
    show (datsW m 0 c).owesAt () t.succ = (datsW m 0 c).owesAt () t.castSucc from rfl,
    show (datsW m 0 c).Φ t.castSucc = ΦA spec0 c from rfl]
  unfold ΦA
  rw [scratches]
  iintro ⟨⟨⟨H12, H13, H14, H15, H16, H17, H18, H19, H20, H21, H22⟩, Hg⟩, Ho, H0, H1, H2, H3, H4, H5, H6, H7, H8, H9, H10, H11⟩
  iapply (wp_wand_r frame (wpE (defs₀ (F := F)) Variants.none (c : Thread nD τ) none) Set.univ)
  isplitl [H0 H1 H2 H3 H4 H5 H6 H7 H8 H9 H10 H11 H12 H13 H14 H15 H16 H17 H18 H19 H20 H21 H22]
  · iapply (body_any (c := c))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  iintro %_ ⟨H0, H1, H2, H3, H4, H5, H6, H7, H8, H9, H10, H11, H12, H13, H14, H15, H16, H17, H18, H19, H20, H21, H22⟩
  isplitl [H12 H13 H14 H15 H16 H17 H18 H19 H20 H21 H22 Hg]
  · isplitr [Hg]; swap; · iexact Hg
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The buffers the host lines after the region write. -/
def written : Finset (Ref sig .tc) := {main_v20, main_v21, main_v22}

/-- The host lines after the region write those buffers alone. -/
theorem sfx_written : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  rcases hops with rfl
  simp only [hostOps1, List.mem_cons, List.mem_nil_iff, or_false] at hop
  rcases hop with rfl | rfl | rfl <;>
    simp only [StableHlo.unary_writes, StableHlo.reshape_writes, Finset.mem_singleton] at hb <;>
    (have hb' := Proc.devRef_injective _ hb; subst hb'; decide)

set_option backward.isDefEq.respectTransparency.types false in
/-- Every run of @main ends, with every buffer that is no window's array and that no later host line writes as the
    region found it, and every semaphore counter at zero. -/
theorem run_main_w : θ_run defs (onTc (τ := τ) (main (F := F))) (s₀ m ρ)
    (fun r => Pipeline.RDat.FramePostR cfg0 (fun c => (datsW m 0 c).toRForget unstated) written (fun c b => V0 m c (Proc.devRef .tc b)) r
      ∧ r.2.sem = fun _ => 0) :=
  Pipeline.θ_run_frame_around_T_forget (Q' := _) cfgs (datsW m) (0 : Fin 1) launch0 defs₀ Variants.none unstated written m ρ main
    (hbody := fun c => (body_obligation_w m c).loose) (hshare := fun c => (datsW m 0 c).share_full fun _ => rfl)
    (howed := fun _ _ => rfl) (V₀ := V0 m) (opss := [hostOps1]) (hsub := sfx_sub) (hfresh := sfx_fresh) (hkeep := sfx_keeps)
    (hT := sfx_written) (hmain := hmain m Variants.none) (hA := fun _ _ => rfl) (hΦ := fun _ _ => rfl)

/-- An argument array no host line writes and no window stages ends as it was launched. -/
theorem arg_kept {r : PUnit × MemSt nD τ sig (Elt F)} (c : Dev nD) (b : Ref sig .tc) (hs : b.isScoped = false)
    (ha : ∀ w, (spec0 w).arr.view.ref ≠ b) (hw : b ∉ written) (hV : V m c b = m ((c : Thread nD τ).loc b))
    (h : Pipeline.RDat.FramePostR cfg0 (fun c => (datsW m 0 c).toRForget unstated) written (fun c b => V0 m c (Proc.devRef .tc b)) r) :
    r.2.mem ((c : Thread nD τ).loc b) = m ((c : Thread nD τ).loc b) :=
  ((h c).2 b (Finset.mem_sdiff.mpr ⟨Pipeline.mem_restRefs_of b hs ha, hw⟩)).trans hV

/-- Every run of the program ends with its ten arguments as they were and every semaphore counter at zero. -/
theorem frame_w : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨arg_kept m c main_arg0 (by decide) (by decide) (by decide) (V_main_arg0 m c) h.1, arg_kept m c main_arg1 (by decide) (by decide) (by decide) (V_main_arg1 m c) h.1, arg_kept m c main_arg2 (by decide) (by decide) (by decide) (V_main_arg2 m c) h.1, arg_kept m c main_arg3 (by decide) (by decide) (by decide) (V_main_arg3 m c) h.1, arg_kept m c main_arg4 (by decide) (by decide) (by decide) (V_main_arg4 m c) h.1, arg_kept m c main_arg5 (by decide) (by decide) (by decide) (V_main_arg5 m c) h.1, arg_kept m c main_arg6 (by decide) (by decide) (by decide) (V_main_arg6 m c) h.1, arg_kept m c main_arg7 (by decide) (by decide) (by decide) (V_main_arg7 m c) h.1, arg_kept m c main_arg8 (by decide) (by decide) (by decide) (V_main_arg8 m c) h.1, arg_kept m c main_arg9 (by decide) (by decide) (by decide) (V_main_arg9 m c) h.1⟩, h.2⟩) (run_main_w m ρ)

end Cert.KernelIdeal.Run
-- ==== Proof.Val.lean ====
/-
  Running a kernel body with the values it computes: `Run R p v R'` says that `p`, run from the resource `R`, returns `v`
  and leaves `R'`. A resource owns each buffer at named contents; a load reads the contents through its rectangle and a
  store lays its payload over them.
-/
module

public import proofs.«01_k».proof.Proof.Walk
public import Idealize.ShloMosaic.Lib.Pipeline.Value

@[expose] public section

noncomputable section

namespace Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {bd : Option 𝒱.V} {E : Set Name}
variable {α β : Type}
variable {sp : Space} {s : Shape} {e : EltTy}

section Classes
variable {c : Thread nD τ}

/-- `R` owns the memref `m` at contents `X`, and comes back when the memref does unchanged. -/
class AccR (R : sProp (MT nD τ sig Ix Val Name U Lvl)) (m : Memref sig c.2.kind sp s e) (X : outParam (s.Idx → Val e)) : Prop where
  out : R ⊢ iprop(owns c m fullShare X ∗ (owns c m fullShare X -∗ R))

instance accR_here (m : Memref sig c.2.kind sp s e) (R : sProp 𝕄) (X : s.Idx → Val e) :
    AccR iprop(owns c m fullShare X ∗ R) m X where
  out := by
    iintro ⟨H, HR⟩
    isplitl [H]; · iexact H
    iintro H
    isplitl [H]; · iexact H
    iexact HR

instance accR_last (m : Memref sig c.2.kind sp s e) (X : s.Idx → Val e) :
    AccR (owns c m fullShare X : sProp 𝕄) m X where
  out := by
    iintro H
    isplitl [H]; · iexact H
    iintro H
    iexact H

instance accR_there {A R : sProp 𝕄} (m : Memref sig c.2.kind sp s e) {X : s.Idx → Val e}
    [h : AccR R m X] : AccR iprop(A ∗ R) m X where
  out := by
    iintro ⟨HA, HR⟩
    ihave ⟨H, HK⟩ := h.out $$ HR
    isplitl [H]; · iexact H
    iintro H
    isplitl [HA]; · iexact HA
    iapply HK
    iexact H

end Classes

variable {c : Dev nD} {cs : CoreSpace}

/-- `p`, run on the TensorCore of device `c` from `R`, returns `v` and leaves `R'`. -/
@[irreducible] def Run (defs : Defs nD τ sig Val Λ) (𝒱 : Variants) (bd : Option 𝒱.V) (E : Set Name) (c : Dev nD)
    (R : sProp (MT nD τ sig Ix Val Name U Lvl)) (p : Prog (TpuEff nD τ sig Val Λ .tc) α) (v : α)
    (R' : sProp (MT nD τ sig Ix Val Name U Lvl)) : Prop :=
  ∀ Q : α → sProp (MT nD τ sig Ix Val Name U Lvl), (R' ⊢ Q v) → R ⊢ wp frame (wpE defs 𝒱 (c : Thread nD τ) bd) E p Q

/-- `Run`, spelt out. -/
theorem run_iff {R R' : sProp 𝕄} {p : Prog (TpuEff nD τ sig Val Λ .tc) α} {v : α} :
    Run defs 𝒱 bd E c R p v R' ↔
      ∀ Q : α → sProp 𝕄, (R' ⊢ Q v) → R ⊢ wp frame (wpE defs 𝒱 (c : Thread nD τ) bd) E p Q := by
  unfold Run; exact Iff.rfl

/-- The end of a program. -/
theorem Run.ret {R : sProp 𝕄} {a : α} : Run defs 𝒱 bd E c R (pure a) a R := by
  unfold Run
  exact fun Q h => h.trans (le_wp_ret _ _ _ a Q)

/-- One program after another. -/
theorem Run.bind {R R₁ R₂ : sProp 𝕄} {p : Prog (TpuEff nD τ sig Val Λ .tc) α} {k : α → Prog (TpuEff nD τ sig Val Λ .tc) β}
    {v : α} {u : β} (hp : Run defs 𝒱 bd E c R p v R₁) (hk : Run defs 𝒱 bd E c R₁ (k v) u R₂) :
    Run defs 𝒱 bd E c R (p >>= k) u R₂ := by
  unfold Run at *
  intro Q h
  rw [wp_bind]
  exact hp _ (hk Q h)

/-- The resource a program starts from and the one it leaves may be spelt otherwise. -/
theorem Run.conv {R R' R₁ R₁' : sProp 𝕄} {p : Prog (TpuEff nD τ sig Val Λ .tc) α} {v v' : α}
    (hp : Run defs 𝒱 bd E c R p v R₁) (h : R' ⊢ R) (hv : v = v') (h₁ : R₁ ⊢ R₁') : Run defs 𝒱 bd E c R' p v' R₁' := by
  unfold Run at *
  intro Q hQ
  subst hv
  exact h.trans (hp Q (h₁.trans hQ))

/-- A load reads the contents through its rectangle. -/
theorem Run.load {R R' : sProp 𝕄} {m : Memref sig .tc cs s e} {r : LoadRect s} {hl : m.view.LoadsAt r} {X : s.Idx → Val e}
    {k : (r.shape.Idx → Val e) → Prog (TpuEff nD τ sig Val Λ .tc) α} {u : α} [h : AccR (c := (c : Thread nD τ)) R m X]
    (hk : Run defs 𝒱 bd E c R (k (fun x => X (r.idx x))) u R') :
    Run defs 𝒱 bd E c R (Prog.lift (.load m r hl) >>= k) u R' := by
  unfold Run at *
  intro Q hQ
  have hk := hk Q hQ
  show R ⊢ wp frame (wpE defs 𝒱 (c : Thread nD τ) bd) E (.op (.load m r hl) k) Q
  iintro HR
  ihave ⟨H, HK⟩ := h.out $$ HR
  ihave H := (show owns (c : Thread nD τ) m fullShare X ⊢ iprop(∃ f, ⌜m.view.read Val f = X⌝ ∗ (m.view.loc (c : Thread nD τ) ↦[m.view.set]{fullShare} f)) from .rfl) $$ H
  icases H with ⟨%f, %hf, H⟩
  subst hf
  iapply (wp_load 𝒱 (c : Thread nD τ) bd E (m := m) (r := r) (hl := hl) (k := k) (f := f) (m.view.setOn_subset_set r.set)) $$ H
  iintro H
  iapply hk
  iapply HK
  iapply (owns_intro (c : Thread nD τ) m fullShare f)
  iexact H

/-- A load whose value is not wanted. -/
theorem Run.load_skip {R R' : sProp 𝕄} {m : Memref sig .tc cs s e} {r : LoadRect s} {hl : m.view.LoadsAt r} {X : s.Idx → Val e}
    {p : Prog (TpuEff nD τ sig Val Λ .tc) α} {u : α} [h : AccR (c := (c : Thread nD τ)) R m X]
    (hk : Run defs 𝒱 bd E c R p u R') :
    Run defs 𝒱 bd E c R (Prog.lift (.load m r hl) >>= fun _ => p) u R' :=
  Run.load hk

/-- A store lays its payload over the contents. -/
theorem Run.store {R R' : sProp 𝕄} {m : Memref sig .tc cs s e} {r : Rect s} {w : r.shape.Idx → Val e}
    {hx : (m.access r).Stores Finset.univ} {hm : (Finset.univ : Finset r.shape.Idx) = Finset.univ ∨ ∀ a, r.stride a = 1}
    {X : s.Idx → Val e} {H' : (s.Idx → Val e) → sProp 𝕄}
    {k : PUnit → Prog (TpuEff nD τ sig Val Λ .tc) α} {u : α} [h : Acc (c := (c : Thread nD τ)) R m X H']
    (hk : Run defs 𝒱 bd E c (H' (r.overlay X w)) (k ⟨⟩) u R') :
    Run defs 𝒱 bd E c R (Prog.lift (.store m r w Finset.univ hx hm) >>= k) u R' := by
  unfold Run at *
  intro Q hQ
  have hk := hk Q hQ
  show R ⊢ wp frame (wpE defs 𝒱 (c : Thread nD τ) bd) E (.op (.store m r w Finset.univ hx hm) k) Q
  iintro HR
  ihave ⟨H, HK⟩ := h.out $$ HR
  ihave H := (show owns (c : Thread nD τ) m fullShare X ⊢ iprop(∃ f, ⌜m.view.read Val f = X⌝ ∗ (m.view.loc (c : Thread nD τ) ↦[m.view.set]{fullShare} f)) from .rfl) $$ H
  icases H with ⟨%f, %hf, H⟩
  subst hf
  iapply (wp_store 𝒱 (c : Thread nD τ) bd E (m := m) (r := r) (w := w) (Mk := Finset.univ) (hx := hx) (hm := hm) (k := k) (f := f)
    (Memref.setOn_access_subset m r Finset.univ)) $$ H
  iintro H
  iapply hk
  iapply HK
  iapply (show (m.view.loc (c : Thread nD τ) ↦[m.view.set]{fullShare} (m.access r).write Val f w Finset.univ : sProp 𝕄)
    ⊢ owns (c : Thread nD τ) m fullShare (r.overlay (m.view.read Val f) w) from by
      rw [← read_store (c := (c : Thread nD τ)) m r f w]; exact owns_intro (c : Thread nD τ) m fullShare _)
  iexact H

/-- A counted loop whose trips take the resource `I k` to `I (k + 1)`. -/
theorem Run.loop {w : Nat} {σ : Type} {l : Scf.Loop w} {hok : l.OK} {init : σ}
    {body : Fin l.trips → σ → Prog (TpuEff nD τ sig Val Λ .tc) σ} {k : σ → Prog (TpuEff nD τ sig Val Λ .tc) α}
    {u : α} {R' : sProp 𝕄} (I : Nat → sProp 𝕄) (V : Nat → σ) (h0 : V 0 = init)
    (hb : ∀ t : Fin l.trips, Run defs 𝒱 bd E c (I t) (body t (V t)) (V (t + 1)) (I (t + 1)))
    (hk : Run defs 𝒱 bd E c (I l.trips) (k (V l.trips)) u R') :
    Run defs 𝒱 bd E c (I 0) (Scf.Loop.for l hok init body >>= k) u R' := by
  unfold Run at *
  intro Q hQ
  have hi : ∀ (n : Nat) (v : σ), v = V n → (I n ⊢ iprop(⌜v = V n⌝ ∗ I n)) := fun n v hv => by
    iintro H
    isplitr
    · ipureintro; exact hv
    · iexact H
  have h := Scf.wp_for_bind frame (wpE defs 𝒱 (c : Thread nD τ) bd) E l.lb l.ub l.st hok init body
    (fun n v => iprop(⌜v = V n⌝ ∗ I n)) (fun t acc => by
      iintro ⟨%hv, H⟩
      subst hv
      iapply (hb t _ (hi _ _ rfl))
      iexact H) (kk := k) (Q := Q)
  iintro HR
  ihave HR := (hi _ _ h0.symm) $$ HR
  iapply h $$ HR
  iintro %acc ⟨%hv, HR⟩
  subst hv
  iapply (hk Q hQ)
  iexact HR

/-- Contents with a payload laid over them, at a place of the payload. -/
theorem overlay_at {sh : Shape} {A : Type} (r : Rect sh) (X : sh.Idx → A) (w : r.shape.Idx → A) {p : sh.Idx} (x : r.shape.Idx)
    (h : ∀ a, (p a : Nat) = r.off a + r.stride a * x a) : r.overlay X w p = w x := by
  have hp : p = r.emb x := funext fun a => Fin.ext (h a)
  rw [hp, Rect.overlay_emb]

/-- Contents with a payload laid over them, at a place that is off the payload's places along one axis. -/
theorem overlay_out {sh : Shape} {A : Type} (r : Rect sh) (X : sh.Idx → A) (w : r.shape.Idx → A) {p : sh.Idx} (a : Fin sh.rank)
    (h : ∀ n, n < r.size a → (p a : Nat) ≠ r.off a + r.stride a * n) : r.overlay X w p = X p := by
  refine Rect.overlay_of_not_mem _ _ _ fun hp => ?_
  obtain ⟨i, rfl⟩ := r.exists_idx_of_mem hp
  exact h (i a) (i a).isLt rfl

/-- The contents after `n` of a loop's trips, each of which changes them by `f`. -/
def iter {N : Nat} {X : Type} (f : Fin N → X → X) : Nat → X → X
  | 0, x => x
  | n + 1, x => if h : n < N then f ⟨n, h⟩ (iter f n x) else iter f n x

/-- One more trip. -/
theorem iter_succ {N : Nat} {X : Type} (f : Fin N → X → X) (t : Fin N) (x : X) : iter f (t + 1) x = f t (iter f t x) := by
  show (if h : (t : Nat) < N then f ⟨t, h⟩ (iter f t x) else iter f t x) = _
  rw [dif_pos t.isLt]

end Walk
-- ==== Proof.TokSpec.lean ====
/-
  One token of the kernel, as formulas over whole buffers: what the step makes of the state, and the output rows it
  writes. The buffers are read by row and lane; row `128 * j + t` of an operand is token `t` of its column `j`, row
  `64 * j + i` of the state is its entry `i` of column `j`, and the lane is the head.
-/
module

public import proofs.«01_k».proof.Proof.Gen.KernelIdeal.Frame
public import proofs.«01_k».proof.Proof.Val

@[expose] public section

set_option maxRecDepth 16384

noncomputable section

namespace Cert.KernelIdeal.Tok

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Walk

variable {F : FTy → Type} [FloatOps F]

/-- Contents of a buffer of rows, from its entries by row and lane. -/
def ofRows {n l : Nat} {α : Type} (A : Nat → Nat → α) : (⟨2, ![n, l]⟩ : Shape).Idx → α := fun p => A (p 0) (p 1)

/-- Eight rows from row `o` on. -/
def blkOf {α : Type} (A : Nat → Nat → α) (o : Nat) : S8x128.Idx → α := fun x => A (o + x 0) (x 1)

/-- One row, eight times. -/
def rowOf {α : Type} (A : Nat → Nat → α) (q : Nat) : S8x128.Idx → α := fun x => A q (x 1)

/-- Eight rows, 128 apart. -/
def colOf {α : Type} (A : Nat → Nat → α) (q : Nat) : S8x128.Idx → α := fun x => A (q + 128 * x 0) (x 1)

section Spec

variable (t : Fin k0_t12_loop.trips) (rr kr vr wr ar br st : Nat → Nat → F .f32)

/-- The row of an operand that holds the token's column `j`. -/
def row (j : Nat) : Nat := k0_off26 t (BitVec.ofNat 32 (128 * j)) 0

/-- The first of the eight rows that hold the token's value entries from `8 * i` on. -/
def vrow (i : Nat) : Nat := k0_off27 t (BitVec.ofNat 32 (1024 * i)) 0

/-- Block `i` of the products of the state's column `j` with the removal key. -/
def prod (i j : Nat) : FVec F S8x128 .f32 := mulf (blkOf st (64 * j + 8 * i)) (rowOf ar (row t j))

/-- The products of every eighth column from `s` on, added up. -/
def rem8 (i s : Nat) : FVec F S8x128 .f32 :=
  addf (addf (addf (addf (addf (addf (addf (prod t ar st i s) (prod t ar st i (s + 8))) (prod t ar st i (s + 16)))
    (prod t ar st i (s + 24))) (prod t ar st i (s + 32))) (prod t ar st i (s + 40))) (prod t ar st i (s + 48)))
    (prod t ar st i (s + 56))

/-- All 64 products, added up. -/
def removed (i : Nat) : FVec F S8x128 .f32 :=
  addf (addf (addf (rem8 t ar st i 0) (rem8 t ar st i 4)) (addf (rem8 t ar st i 2) (rem8 t ar st i 6)))
    (addf (addf (rem8 t ar st i 1) (rem8 t ar st i 5)) (addf (rem8 t ar st i 3) (rem8 t ar st i 7)))

/-- Block `i` of the new state's column `j`. -/
def newB (i j : Nat) : FVec F S8x128 .f32 :=
  addf (addf (mulf (blkOf st (64 * j + 8 * i)) (rowOf wr (row t j))) (mulf (rowOf br (row t j)) (removed t ar st i)))
    (mulf (rowOf kr (row t j)) (colOf vr (vrow t i)))

/-- Block `i` of the output, over the columns up to `j`. -/
def outB (i : Nat) : Nat → FVec F S8x128 .f32
  | 0 => mulf (newB t kr vr wr ar br st i 0) (rowOf rr (row t 0))
  | j + 1 => addf (outB i j) (mulf (newB t kr vr wr ar br st i (j + 1)) (rowOf rr (row t (j + 1))))

/-- A place in an eight-row block. -/
def at8 (x l : Nat) : S8x128.Idx := Shape.pair ⟨x % 8, Nat.mod_lt _ (by decide)⟩ ⟨l % 128, Nat.mod_lt _ (by decide)⟩

/-- The new state, by row and lane. -/
def new (p l : Nat) : F .f32 := newB t kr vr wr ar br st ((p % 64) / 8) (p / 64) (at8 p l)

/-- The output of the token, by row within the token and lane. -/
def out (p l : Nat) : F .f32 := outB t rr kr vr wr ar br st (p / 8) 63 (at8 p l)

end Spec

/-- When the step writes a row of the state: the order of its stores. -/
def ord (p : Nat) : Nat := ((p % 64) / 32) * 256 + (p / 64) * 4 + (p % 32) / 8

/-- The state after the first `n` stores of the step. -/
def Led {α : Type} (old new : Nat → Nat → α) (n : Nat) (p l : Nat) : α := if ord p < n then new p l else old p l

/-- The step's output rows, laid over the output buffer: eight rows from row `8 * i` of the token on. -/
def putOut (t : Fin k0_t12_loop.trips) (w : Nat → FVec F S8x128 .f32) (ib : Fin 2) (i : Fin 4) (Y : Vec F S8192x128 .f32) :
    Vec F S8192x128 .f32 :=
  (Rect.unit (s := S8192x128) (k0_off28 t (BitVec.ofNat 32 (32 * ib.val)) (BitVec.ofNat 32 (8 * i.val))) S8x128.size
    (k0_off28_inb t ib i)).overlay Y (w (4 * ib + i))

theorem at8_self (x : S8x128.Idx) (o : Nat) (h : o % 8 = 0) : at8 (o + x 0) (x 1) = x := by
  have h0 : (x 0 : Nat) < 8 := (x 0).isLt
  have h1 : (x 1 : Nat) < 128 := (x 1).isLt
  funext a
  refine Fin.cases ?_ (fun a => Fin.cases ?_ (fun a => a.elim0) a) a
  · apply Fin.ext
    show (o + (x 0 : Nat)) % 8 = (x 0 : Nat)
    omega
  · apply Fin.ext
    show (x 1 : Nat) % 128 = (x 1 : Nat)
    omega

/-- The new state's rows are its blocks. -/
theorem blkOf_new (t : Fin k0_t12_loop.trips) (kr vr wr ar br st : Nat → Nat → F .f32) (o : Nat) (h : o % 8 = 0) :
    blkOf (new t kr vr wr ar br st) o = newB t kr vr wr ar br st ((o % 64) / 8) (o / 64) := by
  funext x
  have h0 : (x 0 : Nat) < 8 := (x 0).isLt
  show newB t kr vr wr ar br st (((o + x 0) % 64) / 8) ((o + x 0) / 64) (at8 (o + x 0) (x 1)) = _
  rw [at8_self x o h, show ((o + (x 0 : Nat)) % 64) / 8 = (o % 64) / 8 by omega, show (o + (x 0 : Nat)) / 64 = o / 64 by omega]

theorem ord_blk {o x : Nat} (h : o % 8 = 0) (hx : x < 8) : ord (o + x) = ord o := by
  unfold ord
  omega

/-- Every row is written by the end. -/
theorem led_end {α : Type} (old new : Nat → Nat → α) : (ofRows (Led old new 512) : S4096x128.Idx → α) = ofRows new := by
  funext p
  have h0 : (p 0 : Nat) < 4096 := (p 0).isLt
  refine if_pos ?_
  unfold ord
  omega

/-- No row is written at the start. -/
theorem led_zero {α : Type} (old new : Nat → Nat → α) : (ofRows (Led old new 0) : S4096x128.Idx → α) = ofRows old := by
  funext p
  show Led old new 0 (p 0) (p 1) = old (p 0) (p 1)
  unfold Led
  exact if_neg (Nat.not_lt_zero _)

/-- The store that comes next. -/
theorem led_store {α : Type} (old new : Nat → Nat → α) {o : Nat} (h : o % 8 = 0)
    (inb : ∀ a, (![o, 0] : Fin 2 → Nat) a + S8x128.size a ≤ S4096x128.size a) :
    (Rect.unit (s := S4096x128) ![o, 0] S8x128.size inb).overlay (ofRows (Led old new (ord o))) (blkOf new o) =
      ofRows (Led old new (ord o + 1)) := by
  funext p
  have h0 : (p 0 : Nat) < 4096 := (p 0).isLt
  by_cases hp : o ≤ (p 0 : Nat) ∧ (p 0 : Nat) < o + 8
  · have hx : (p 0 : Nat) - o < 8 := by omega
    rw [overlay_at (Rect.unit (s := S4096x128) ![o, 0] S8x128.size inb) _ _ (Shape.pair ⟨(p 0 : Nat) - o, hx⟩ (p 1)) (by
      intro a
      refine Fin.cases ?_ (fun a => Fin.cases ?_ (fun a => a.elim0) a) a
      · show (p 0 : Nat) = o + 1 * ((p 0 : Nat) - o)
        omega
      · show (p 1 : Nat) = 0 + 1 * (p 1 : Nat)
        omega)]
    show new (o + ((p 0 : Nat) - o)) (p 1) = if ord (p 0) < ord o + 1 then new (p 0) (p 1) else _
    have e : o + ((p 0 : Nat) - o) = p 0 := by omega
    have e' : ord (p 0) = ord o := by rw [← e]; exact ord_blk h hx
    rw [e, e', if_pos (Nat.lt_succ_self _)]
  · rw [overlay_out _ _ _ 0 (by
      intro n hn
      have hn : n < 8 := hn
      show (p 0 : Nat) ≠ o + 1 * n
      omega)]
    show Led old new (ord o) (p 0) (p 1) = Led old new (ord o + 1) (p 0) (p 1)
    have hb : o + 8 ≤ 4096 := inb 0
    have hne : ord (p 0) ≠ ord o := by
      unfold ord
      omega
    unfold Led
    have : ord (p 0) < ord o + 1 ↔ ord (p 0) < ord o := by omega
    simp only [this]

end Cert.KernelIdeal.Tok
-- ==== Proof.TokRun.lean ====
/-
  One token of the kernel, run: every load, product, sum and store of the unrolled step, in order, leaves the buffers as
  the formulas of `TokSpec` say.
-/
module

public import proofs.«01_k».proof.Proof.TokSpec

@[expose] public section

set_option maxRecDepth 16384

noncomputable section

namespace Cert.KernelIdeal.Tok

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Walk

variable {F : FTy → Type} [FloatOps F]

local notation "𝕄" => MT nD τ sig Unit (Elt F) ℕ (UR sig nD τ) ℕ

section Rules

/-- A load of one row, eight times. -/
theorem load_row {c : Dev nD} {R R' : sProp 𝕄} {α : Type} {u : α} {m : Memref sig .tc .vmem S8192x128 .f32} {A : Nat → Nat → F .f32} {off : Fin 2 → Nat} {h}
    {hl : m.view.LoadsAt ⟨off, S8x128.size, ![0, 1], h⟩} {k : Vec F S8x128 .f32 → Prog (TpuEff nD τ sig (Elt F) Λ₀ .tc) α}
    [hR : AccR (c := (c : Thread nD τ)) R m (ofRows A : S8192x128.Idx → F .f32)] (h1 : off 1 = 0)
    (hk : Run (defs₀ (F := F)) Variants.none none Set.univ c R (k (rowOf A (off 0))) u R') :
    Run (defs₀ (F := F)) Variants.none none Set.univ c R
      (Prog.lift (.load m (⟨off, S8x128.size, ![0, 1], h⟩ : LoadRect S8192x128) hl) >>= k) u R' := by
  refine Run.load (X := (ofRows A : S8192x128.Idx → F .f32)) ?_
  have e : (fun x => (ofRows A : S8192x128.Idx → F .f32) ((⟨off, S8x128.size, ![0, 1], h⟩ : LoadRect S8192x128).idx x)) = rowOf A (off 0) := by
    funext x
    show A (off 0 + 0 * x 0) (off 1 + 1 * x 1) = A (off 0) (x 1)
    rw [h1, Nat.zero_mul, Nat.one_mul, Nat.zero_add, Nat.add_zero]
  exact e ▸ hk

/-- A load of eight rows, 128 apart. -/
theorem load_col {c : Dev nD} {R R' : sProp 𝕄} {α : Type} {u : α} {m : Memref sig .tc .vmem S8192x128 .f32} {A : Nat → Nat → F .f32} {off : Fin 2 → Nat} {h}
    {hl : m.view.LoadsAt ⟨off, S8x128.size, ![128, 1], h⟩} {k : Vec F S8x128 .f32 → Prog (TpuEff nD τ sig (Elt F) Λ₀ .tc) α}
    [hR : AccR (c := (c : Thread nD τ)) R m (ofRows A : S8192x128.Idx → F .f32)] (h1 : off 1 = 0)
    (hk : Run (defs₀ (F := F)) Variants.none none Set.univ c R (k (colOf A (off 0))) u R') :
    Run (defs₀ (F := F)) Variants.none none Set.univ c R
      (Prog.lift (.load m (⟨off, S8x128.size, ![128, 1], h⟩ : LoadRect S8192x128) hl) >>= k) u R' := by
  refine Run.load (X := (ofRows A : S8192x128.Idx → F .f32)) ?_
  have e : (fun x => (ofRows A : S8192x128.Idx → F .f32) ((⟨off, S8x128.size, ![128, 1], h⟩ : LoadRect S8192x128).idx x)) = colOf A (off 0) := by
    funext x
    show A (off 0 + 128 * x 0) (off 1 + 1 * x 1) = A (off 0 + 128 * x 0) (x 1)
    rw [h1, Nat.one_mul, Nat.zero_add]
  exact e ▸ hk

/-- A load of eight rows of the state that the step has not written yet. -/
theorem load_st {c : Dev nD} {R R' : sProp 𝕄} {α : Type} {u : α} {m : Memref sig .tc .vmem S4096x128 .f32} {old new : Nat → Nat → F .f32} {n o : Nat} {h}
    {hl : m.view.LoadsAt (Rect.unit (s := S4096x128) ![o, 0] S8x128.size h).toLoadRect}
    {k : Vec F S8x128 .f32 → Prog (TpuEff nD τ sig (Elt F) Λ₀ .tc) α}
    (ho : o % 8 = 0) (hn : Nat.ble n (ord o) = true)
    (hk : Run (defs₀ (F := F)) Variants.none none Set.univ c
      iprop(owns (c : Thread nD τ) m fullShare (ofRows (Led old new n) : S4096x128.Idx → F .f32) ∗ R) (k (blkOf old o)) u R') :
    Run (defs₀ (F := F)) Variants.none none Set.univ c
      iprop(owns (c : Thread nD τ) m fullShare (ofRows (Led old new n) : S4096x128.Idx → F .f32) ∗ R)
      (Prog.lift (.load m (Rect.unit (s := S4096x128) ![o, 0] S8x128.size h).toLoadRect hl) >>= k) u R' := by
  refine Run.load (X := (ofRows (Led old new n) : S4096x128.Idx → F .f32)) ?_
  have e : (fun x => (ofRows (Led old new n) : S4096x128.Idx → F .f32) ((Rect.unit (s := S4096x128) ![o, 0] S8x128.size h).toLoadRect.idx x)) = blkOf old o := by
    funext x
    have h0 : (x 0 : Nat) < 8 := (x 0).isLt
    show Led old new n (o + 1 * x 0) (0 + 1 * x 1) = old (o + x 0) (x 1)
    unfold Led
    rw [Nat.one_mul, Nat.one_mul, Nat.zero_add, ord_blk ho h0, if_neg (Nat.not_lt.mpr (Nat.le_of_ble_eq_true hn))]
  exact e ▸ hk

/-- The step's next store to the state. -/
theorem store_st {c : Dev nD} {R R' : sProp 𝕄} {α : Type} {u : α} {m : Memref sig .tc .vmem S4096x128 .f32} {old new : Nat → Nat → F .f32} {n o : Nat} {h}
    {w : Vec F S8x128 .f32} {hc : S8x128.ShapeCasts S8x128}
    {hx : (m.access (Rect.unit (s := S4096x128) ![o, 0] S8x128.size h)).Stores Finset.univ} {hm}
    {k : PUnit → Prog (TpuEff nD τ sig (Elt F) Λ₀ .tc) α}
    (ho : o % 8 = 0) (hn : n = ord o) (hw : blkOf new o = w)
    (hk : Run (defs₀ (F := F)) Variants.none none Set.univ c
      iprop(owns (c : Thread nD τ) m fullShare (ofRows (Led old new (ord o + 1)) : S4096x128.Idx → F .f32) ∗ R) (k ⟨⟩) u R') :
    Run (defs₀ (F := F)) Variants.none none Set.univ c
      iprop(owns (c : Thread nD τ) m fullShare (ofRows (Led old new n) : S4096x128.Idx → F .f32) ∗ R)
      (Prog.lift (.store m (Rect.unit (s := S4096x128) ![o, 0] S8x128.size h) (shapeCast S8x128 w hc) Finset.univ hx hm) >>= k) u R' := by
  refine Run.store ?_
  subst hn hw
  rw [shapeCast_self, led_store old new ho h]
  exact hk

/-- A store of eight output rows. -/
theorem store_out {c : Dev nD} {R R' : sProp 𝕄} {α : Type} {u : α} {m : Memref sig .tc .vmem S8192x128 .f32} {Y : Vec F S8192x128 .f32} {off : Fin 2 → Nat} {h}
    {w : Vec F S8x128 .f32} {hc : S8x128.ShapeCasts S8x128} {H' : Vec F S8192x128 .f32 → sProp 𝕄}
    {hx : (m.access (Rect.unit (s := S8192x128) off S8x128.size h)).Stores Finset.univ} {hm}
    {k : PUnit → Prog (TpuEff nD τ sig (Elt F) Λ₀ .tc) α} [hA : Acc (c := (c : Thread nD τ)) R m Y H']
    (hk : Run (defs₀ (F := F)) Variants.none none Set.univ c (H' ((Rect.unit (s := S8192x128) off S8x128.size h).overlay Y w)) (k ⟨⟩) u R') :
    Run (defs₀ (F := F)) Variants.none none Set.univ c R
      (Prog.lift (.store m (Rect.unit (s := S8192x128) off S8x128.size h) (shapeCast S8x128 w hc) Finset.univ hx hm) >>= k) u R' := by
  refine Run.store ?_
  rw [shapeCast_self]
  exact hk

end Rules

/-- What a token's step owns: the six operands by row and lane, the state and the output buffer. -/
def tokR (c : Dev nD) (arg15 arg16 arg17 arg18 arg19 arg20 : Memref sig .tc .vmem S8192x128 .f32) (arg21 : Memref sig .tc .vmem S4096x128 .f32)
    (arg22 : Memref sig .tc .vmem S8192x128 .f32) (rr kr vr wr ar br st : Nat → Nat → F .f32) (Y : Vec F S8192x128 .f32) : sProp 𝕄 :=
  iprop(owns (c : Thread nD τ) arg21 fullShare (ofRows st : S4096x128.Idx → F .f32) ∗
    owns (c : Thread nD τ) arg19 fullShare (ofRows ar : S8192x128.Idx → F .f32) ∗
    owns (c : Thread nD τ) arg18 fullShare (ofRows wr : S8192x128.Idx → F .f32) ∗
    owns (c : Thread nD τ) arg20 fullShare (ofRows br : S8192x128.Idx → F .f32) ∗
    owns (c : Thread nD τ) arg16 fullShare (ofRows kr : S8192x128.Idx → F .f32) ∗
    owns (c : Thread nD τ) arg15 fullShare (ofRows rr : S8192x128.Idx → F .f32) ∗
    owns (c : Thread nD τ) arg17 fullShare (ofRows vr : S8192x128.Idx → F .f32) ∗
    owns (c : Thread nD τ) arg22 fullShare Y)

/-- The step's eight stores of output rows, in order. -/
def outRows (t : Fin k0_t12_loop.trips) (w : Nat → FVec F S8x128 .f32) (Y : Vec F S8192x128 .f32) : Vec F S8192x128 .f32 :=
  putOut t w 1 3 (putOut t w 1 2 (putOut t w 1 1 (putOut t w 1 0 (putOut t w 0 3 (putOut t w 0 2 (putOut t w 0 1 (putOut t w 0 0 Y)))))))

set_option maxHeartbeats 0 in
/-- The step, from any state and any output buffer. -/
theorem token_run {c : Dev nD} {arg0 : Memref sig .tc .vmem S7168x128 .fp8e4m3} {harg0 : arg0.IsWhole} {arg1 : Memref sig .tc .vmem S7168x128 .fp8e4m3} {harg1 : arg1.IsWhole} {arg2 : Memref sig .tc .vmem S7168x128 .fp8e4m3} {harg2 : arg2.IsWhole} {arg3 : Memref sig .tc .vmem S112x128 .f32} {harg3 : arg3.IsWhole} {arg4 : Memref sig .tc .vmem S112x128 .f32} {harg4 : arg4.IsWhole} {arg5 : Memref sig .tc .vmem S112x128 .f32} {harg5 : arg5.IsWhole} {arg6 : Memref sig .tc .vmem S7168x128 .bf16} {harg6 : arg6.IsWhole} {arg7 : Memref sig .tc .vmem S7168x128 .bf16} {harg7 : arg7.IsWhole} {arg8 : Memref sig .tc .vmem S7168x128 .bf16} {harg8 : arg8.IsWhole} {arg9 : Memref sig .tc .vmem S7168x64 .f32} {harg9 : arg9.IsWhole} {arg10 : Memref sig .tc .vmem S7168x128 .bf16} {harg10 : arg10.IsWhole} {arg11 : Memref sig .tc .vmem S7168x64 .f32} {harg11 : arg11.IsWhole} {arg12 : Memref sig .tc .vmem S4480x2x128 .bf16} {harg12 : arg12.IsWhole} {arg13 : Memref sig .tc .vmem S4480x2x128 .bf16} {harg13 : arg13.IsWhole} {arg14 : Memref sig .tc .vmem S4480x2x128 .bf16} {harg14 : arg14.IsWhole} {arg15 : Memref sig .tc .vmem S8192x128 .f32} {harg15 : arg15.IsWhole} {arg16 : Memref sig .tc .vmem S8192x128 .f32} {harg16 : arg16.IsWhole} {arg17 : Memref sig .tc .vmem S8192x128 .f32} {harg17 : arg17.IsWhole} {arg18 : Memref sig .tc .vmem S8192x128 .f32} {harg18 : arg18.IsWhole} {arg19 : Memref sig .tc .vmem S8192x128 .f32} {harg19 : arg19.IsWhole} {arg20 : Memref sig .tc .vmem S8192x128 .f32} {harg20 : arg20.IsWhole} {arg21 : Memref sig .tc .vmem S4096x128 .f32} {harg21 : arg21.IsWhole} {arg22 : Memref sig .tc .vmem S8192x128 .f32} {harg22 : arg22.IsWhole}
    (c0 c1 : BitVec 32) (t : Fin k0_t12_loop.trips) (rr kr vr wr ar br st : Nat → Nat → F .f32) (Y : Vec F S8192x128 .f32) :
    Run (defs₀ (F := F)) Variants.none none Set.univ c
      (tokR c arg15 arg16 arg17 arg18 arg19 arg20 arg21 arg22 rr kr vr wr ar br (Led st (new t kr vr wr ar br st) 0) Y)
      (k0_part258 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0 c1 t) ⟨⟩
      (tokR c arg15 arg16 arg17 arg18 arg19 arg20 arg21 arg22 rr kr vr wr ar br (Led st (new t kr vr wr ar br st) 512)
        (outRows t (fun i => outB t rr kr vr wr ar br st i 63) Y)) := by
  delta tokR
  repeat' (first
    | ((with_reducible apply load_st); (case ho => exact rfl); (case hn => exact rfl))
    | ((with_reducible apply load_row); (case h1 => exact rfl))
    | ((with_reducible apply store_st); (case ho => exact rfl); (case hn => exact rfl); (case hw => exact (blkOf_new _ _ _ _ _ _ _ _ rfl).trans rfl))
    | ((with_reducible apply load_col); (case h1 => exact rfl))
    | with_reducible apply store_out
    | (with_reducible apply Run.load)
    | with_reducible apply Run.bind
    | with_reducible exact Run.ret
    | exact Run.ret
    | delta k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180 k0_part181 k0_part182 k0_part183 k0_part184 k0_part185 k0_part186 k0_part187 k0_part188 k0_part189 k0_part190 k0_part191 k0_part192 k0_part193 k0_part194 k0_part195 k0_part196 k0_part197 k0_part198 k0_part199 k0_part200 k0_part201 k0_part202 k0_part203 k0_part204 k0_part205 k0_part206 k0_part207 k0_part208 k0_part209 k0_part210 k0_part211 k0_part212 k0_part213 k0_part214 k0_part215 k0_part216 k0_part217 k0_part218 k0_part219 k0_part220 k0_part221 k0_part222 k0_part223 k0_part224 k0_part225 k0_part226 k0_part227 k0_part228 k0_part229 k0_part230 k0_part231 k0_part232 k0_part233 k0_part234 k0_part235 k0_part236 k0_part237 k0_part238 k0_part239 k0_part240 k0_part241 k0_part242 k0_part243 k0_part244 k0_part245 k0_part246 k0_part247 k0_part248 k0_part249 k0_part250 k0_part251 k0_part252 k0_part253 k0_part254 k0_part255 k0_part256 k0_part257 k0_part258)

end Cert.KernelIdeal.Tok
-- ==== Proof.Off.lean ====
/-
  The kernel's loops in numbers: how many trips each makes, and where the loads and stores of each trip lie.
-/
module

public import proofs.«01_k».proof.Proof.TokSpec

@[expose] public section

noncomputable section

namespace Cert.KernelIdeal.Off

open Cert.KernelIdeal Cert.KernelIdeal.Gen
open Idealize.ShloMosaic

/-! The loops' trips. -/

theorem trips1 : k0_t1_loop.trips = 112 := by
  decide +kernel

theorem trips2 : k0_t2_loop.trips = 32 := by
  decide +kernel

theorem trips3 : k0_t3_loop.trips = 112 := by
  decide +kernel

theorem trips4 : k0_t4_loop.trips = 32 := by
  decide +kernel

theorem trips5 : k0_t5_loop.trips = 112 := by
  decide +kernel

theorem trips6 : k0_t6_loop.trips = 32 := by
  decide +kernel

theorem trips7 : k0_t7_loop.trips = 112 := by
  decide +kernel

theorem trips8 : k0_t8_loop.trips = 112 := by
  decide +kernel

theorem trips9 : k0_t9_loop.trips = 112 := by
  decide +kernel

theorem trips10 : k0_t10_loop.trips = 32 := by
  decide +kernel

theorem trips11 : k0_t11_loop.trips = 64 := by
  decide +kernel

theorem trips12 : k0_t12_loop.trips = 128 := by
  decide +kernel

theorem trips13 : k0_t13_loop.trips = 32 := by
  decide +kernel

theorem trips14 : k0_t14_loop.trips = 112 := by
  decide +kernel

theorem trips15 : k0_t15_loop.trips = 64 := by
  decide +kernel

/-! The places of their loads and stores. -/

/-- Where the loads of the loop go, by trip. -/
theorem off1 : ∀ t : Fin k0_t1_loop.trips, k0_off1 t = ![64 * t.val, 0] := by
  decide +kernel

/-- Where the stores of the loop go, by trip. -/
theorem off2 : ∀ t : Fin k0_t1_loop.trips, k0_off2 t = ![40 * t.val, 0, 0] := by
  decide +kernel

/-- Where the loads of the loop go, by trip. -/
theorem off3 : ∀ t : Fin k0_t2_loop.trips, k0_off3 t = ![t.val, 0, 0] := by
  decide +kernel

/-- Where the stores of the loop go, by trip. -/
theorem off4 : ∀ t : Fin k0_t2_loop.trips, k0_off4 t = ![128 * (2 * t.val), 0] := by
  decide +kernel

/-- Where the stores of the loop go, by trip. -/
theorem off5 : ∀ t : Fin k0_t2_loop.trips, k0_off5 t = ![128 * (2 * t.val + 1), 0] := by
  decide +kernel

/-- Where the loads of the loop go, by trip. -/
theorem off6 : ∀ t : Fin k0_t3_loop.trips, k0_off6 t = ![64 * t.val, 0] := by
  decide +kernel

/-- Where the stores of the loop go, by trip. -/
theorem off7 : ∀ t : Fin k0_t3_loop.trips, k0_off7 t = ![40 * t.val, 0, 0] := by
  decide +kernel

/-- Where the loads of the loop go, by trip. -/
theorem off8 : ∀ t : Fin k0_t4_loop.trips, k0_off8 t = ![t.val, 0, 0] := by
  decide +kernel

/-- Where the stores of the loop go, by trip. -/
theorem off9 : ∀ t : Fin k0_t4_loop.trips, k0_off9 t = ![128 * (2 * t.val), 0] := by
  decide +kernel

/-- Where the stores of the loop go, by trip. -/
theorem off10 : ∀ t : Fin k0_t4_loop.trips, k0_off10 t = ![128 * (2 * t.val + 1), 0] := by
  decide +kernel

/-- Where the loads of the loop go, by trip. -/
theorem off11 : ∀ t : Fin k0_t5_loop.trips, k0_off11 t = ![64 * t.val, 0] := by
  decide +kernel

/-- Where the stores of the loop go, by trip. -/
theorem off12 : ∀ t : Fin k0_t5_loop.trips, k0_off12 t = ![40 * t.val, 0, 0] := by
  decide +kernel

/-- Where the loads of the loop go, by trip. -/
theorem off13 : ∀ t : Fin k0_t6_loop.trips, k0_off13 t = ![t.val, 0, 0] := by
  decide +kernel

/-- Where the stores of the loop go, by trip. -/
theorem off14 : ∀ t : Fin k0_t6_loop.trips, k0_off14 t = ![128 * (2 * t.val), 0] := by
  decide +kernel

/-- Where the stores of the loop go, by trip. -/
theorem off15 : ∀ t : Fin k0_t6_loop.trips, k0_off15 t = ![128 * (2 * t.val + 1), 0] := by
  decide +kernel

/-- Where the loads of the loop go, by trip. -/
theorem off16 : ∀ t : Fin k0_t7_loop.trips, k0_off16 t = ![64 * t.val, 0] := by
  decide +kernel

/-- Where the stores of the loop go, by trip. -/
theorem off17 : ∀ t : Fin k0_t7_loop.trips, k0_off17 t = ![40 * t.val, 0, 0] := by
  decide +kernel

/-- Where the loads of the loop go, by trip. -/
theorem off18 : ∀ t : Fin k0_t8_loop.trips, k0_off18 t = ![64 * t.val, 0] := by
  decide +kernel

/-- Where the stores of the loop go, by trip. -/
theorem off19 : ∀ t : Fin k0_t8_loop.trips, k0_off19 t = ![40 * t.val, 0, 0] := by
  decide +kernel

/-- Where the loads of the loop go, by trip. -/
theorem off20 : ∀ t : Fin k0_t9_loop.trips, k0_off20 t = ![64 * t.val, 0] := by
  decide +kernel

/-- Where the stores of the loop go, by trip. -/
theorem off21 : ∀ t : Fin k0_t9_loop.trips, k0_off21 t = ![40 * t.val, 0, 0] := by
  decide +kernel

/-- Where the loads of the loop go, by trip. -/
theorem off22 : ∀ t : Fin k0_t10_loop.trips, k0_off22 t = ![t.val, 0, 0] := by
  decide +kernel

/-- Where the loads of the loop go, by trip. -/
theorem off24 : ∀ t : Fin k0_t11_loop.trips, k0_off24 t = ![t.val, 0] := by
  decide +kernel

/-- Where the stores of the loop go, by trip. -/
theorem off25 : ∀ t : Fin k0_t11_loop.trips, k0_off25 t = ![t.val, 0] := by
  decide +kernel

/-- Where the stores of the loop go, by trip. -/
theorem off30 : ∀ t : Fin k0_t13_loop.trips, k0_off30 t = ![t.val, 0, 0] := by
  decide +kernel

/-- Where the loads of the loop go, by trip. -/
theorem off31 : ∀ t : Fin k0_t14_loop.trips, k0_off31 t = ![40 * t.val, 0, 0] := by
  decide +kernel

/-- Where the stores of the loop go, by trip. -/
theorem off32 : ∀ t : Fin k0_t14_loop.trips, k0_off32 t = ![64 * t.val, 0] := by
  decide +kernel

/-- Where the loads of the loop go, by trip. -/
theorem off33 : ∀ t : Fin k0_t15_loop.trips, k0_off33 t = ![t.val, 0] := by
  decide +kernel

/-- Where the stores of the loop go, by trip. -/
theorem off34 : ∀ t : Fin k0_t15_loop.trips, k0_off34 t = ![t.val, 0] := by
  decide +kernel

/-- Where the stores of the loop go, by trip. -/
theorem off23_0 : ∀ t : Fin k0_t10_loop.trips, k0_off23 t 0#32 = ![128 * (2 * t.val), 0] := by
  decide +kernel

/-- Where the stores of the loop go, by trip. -/
theorem off23_1 : ∀ t : Fin k0_t10_loop.trips, k0_off23 t 1#32 = ![128 * (2 * t.val + 1), 0] := by
  decide +kernel

/-- Where the loads of the loop go, by trip. -/
theorem off29_0 : ∀ t : Fin k0_t13_loop.trips, k0_off29 t 0#32 = ![2 * t.val, 0] := by
  decide +kernel

/-- Where the loads of the loop go, by trip. -/
theorem off29_1 : ∀ t : Fin k0_t13_loop.trips, k0_off29 t 1#32 = ![2 * t.val + 1, 0] := by
  decide +kernel

/-- The row of an operand that holds a token's column. -/
theorem row_eq : ∀ (t : Fin k0_t12_loop.trips) (j : Fin 64), Tok.row t j.val = 128 * j.val + t.val := by
  decide +kernel

/-- The first of eight value rows of a token. -/
theorem vrow_eq : ∀ (t : Fin k0_t12_loop.trips) (i : Fin 8), Tok.vrow t i.val = 1024 * i.val + t.val := by
  decide +kernel

/-- Where a token's output rows go. -/
theorem off28 : ∀ (t : Fin k0_t12_loop.trips) (ib : Fin 2) (i : Fin 4),
    k0_off28 t (BitVec.ofNat 32 (32 * ib.val)) (BitVec.ofNat 32 (8 * i.val)) = ![64 * t.val + 8 * (4 * ib.val + i.val), 0] := by
  decide +kernel

end Cert.KernelIdeal.Off
-- ==== Proof.Loop.lean ====
/-
  A counted loop, walked with the values it leaves: each trip changes the buffers by a function of their contents, and the
  loop leaves what the trips make of the contents it starts from.
-/
module

public import proofs.«01_k».proof.Proof.Val

@[expose] public section

noncomputable section

namespace Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {bd : Option 𝒱.V} {E : Set Name}
variable {α β : Type}
variable {s : Shape} {e : EltTy}
variable {c : Dev nD} {cs : CoreSpace}

/-- A walk goes on with what a program returns and leaves. -/
theorem Go.of_run {R R₁ : sProp 𝕄} {p : Prog (TpuEff nD τ sig Val Λ .tc) α} {k : α → Prog (TpuEff nD τ sig Val Λ .tc) β}
    {v : α} {Q : β → sProp 𝕄} (hp : Run defs 𝒱 bd E c R p v R₁) (hk : Go defs 𝒱 bd E c R₁ (k v) Q) :
    Go defs 𝒱 bd E c R (p >>= k) Q := by
  unfold Go at *
  unfold Run at *
  rw [wp_bind]
  exact hp _ hk

/-- A load, with the value read. -/
theorem Go.loadv {R : sProp 𝕄} {m : Memref sig .tc cs s e} {r : LoadRect s} {hl : m.view.LoadsAt r} {X : s.Idx → Val e}
    {k : (r.shape.Idx → Val e) → Prog (TpuEff nD τ sig Val Λ .tc) α} {Q : α → sProp 𝕄} [h : AccR (c := (c : Thread nD τ)) R m X]
    (hk : Go defs 𝒱 bd E c R (k (fun x => X (r.idx x))) Q) :
    Go defs 𝒱 bd E c R (Prog.lift (.load m r hl) >>= k) Q := by
  refine Go.of_run (v := fun x => X (r.idx x)) (R₁ := R) ?_ hk
  have := Run.load (defs := defs) (𝒱 := 𝒱) (bd := bd) (E := E) (c := c) (R := R) (R' := R) (m := m) (r := r) (hl := hl) (X := X)
    (k := fun x => pure x) (u := fun x => X (r.idx x)) Run.ret
  exact this

/-- The resource a walk starts from may be spelt otherwise. -/
theorem Go.conv {R R' : sProp 𝕄} {p : Prog (TpuEff nD τ sig Val Λ .tc) α} {Q : α → sProp 𝕄}
    (h : R' ⊢ R) (hp : Go defs 𝒱 bd E c R p Q) : Go defs 𝒱 bd E c R' p Q := by
  unfold Go at *
  exact h.trans hp

/-- A program leaves alone what it does not own. -/
theorem Run.frame {R R₁ S : sProp 𝕄} {p : Prog (TpuEff nD τ sig Val Λ .tc) α} {v : α} (hp : Run defs 𝒱 bd E c R p v R₁) :
    Run defs 𝒱 bd E c iprop(R ∗ S) p v iprop(R₁ ∗ S) := by
  unfold Run at *
  intro Q hQ
  have h := hp (fun r => iprop(⌜r = v⌝ ∗ R₁)) (by
    iintro H
    isplitr
    · ipureintro; rfl
    · iexact H)
  refine (sep_mono_l h).trans ((wp_frame_r _ _ _).trans (wp_mono _ _ _ fun a => ?_))
  iintro ⟨⟨%hr, H⟩, HS⟩
  subst hr
  iapply hQ
  isplitl [H]
  · iexact H
  · iexact HS

/-- A loop over any state. -/
theorem Go.loopS {w : Nat} {S : Type} {l : Scf.Loop w} {hok : l.OK} {init : PUnit}
    {body : Fin l.trips → PUnit → Prog (TpuEff nD τ sig Val Λ .tc) PUnit} {k : PUnit → Prog (TpuEff nD τ sig Val Λ .tc) α}
    {Q : α → sProp 𝕄} (I : S → sProp 𝕄) (f : Fin l.trips → S → S) (x : S)
    (hb : ∀ (t : Fin l.trips) (z : S), Run defs 𝒱 bd E c (I z) (body t ⟨⟩) ⟨⟩ (I (f t z)))
    (hk : ∀ z, z = iter f l.trips x → Go defs 𝒱 bd E c (I z) (k ⟨⟩) Q) :
    Go defs 𝒱 bd E c (I x) (Scf.Loop.for l hok init body >>= k) Q := by
  have hk := hk _ rfl
  unfold Go at *
  have h := Scf.wp_for_bind frame (wpE defs 𝒱 (c : Thread nD τ) bd) E l.lb l.ub l.st hok init body
    (fun n _ => I (iter f n x)) (fun t acc => by
      have := hb t (iter f t x)
      rw [← iter_succ f t x] at this
      unfold Run at this
      exact this _ .rfl) (kk := k) (Q := Q)
  show I (iter f 0 x) ⊢ _
  iintro HR
  iapply h $$ HR
  iintro %acc HR
  iapply hk
  iexact HR

/-- A loop that writes one buffer. -/
theorem Go.loop1 {w : Nat} {l : Scf.Loop w} {hok : l.OK} {init : PUnit}
    {body : Fin l.trips → PUnit → Prog (TpuEff nD τ sig Val Λ .tc) PUnit} {k : PUnit → Prog (TpuEff nD τ sig Val Λ .tc) α}
    {Q : α → sProp 𝕄} {R : sProp 𝕄} (m : Memref sig .tc cs s e) {X : s.Idx → Val e} {H' : (s.Idx → Val e) → sProp 𝕄}
    [h : Acc (c := (c : Thread nD τ)) R m X H'] (f : Fin l.trips → (s.Idx → Val e) → s.Idx → Val e)
    (hb : ∀ (t : Fin l.trips) (z : s.Idx → Val e), Run defs 𝒱 bd E c (H' z) (body t ⟨⟩) ⟨⟩ (H' (f t z)))
    (hk : ∀ z, z = iter f l.trips X → Go defs 𝒱 bd E c (H' z) (k ⟨⟩) Q) :
    Go defs 𝒱 bd E c R (Scf.Loop.for l hok init body >>= k) Q := by
  refine Go.conv (R := H' X) ?_ (Go.loopS H' f X hb hk)
  iintro HR
  ihave ⟨H, HK⟩ := h.out $$ HR
  iapply HK
  iexact H

/-- A loop that writes three buffers. -/
theorem Go.loop3 {w : Nat} {A B D : Type} {l : Scf.Loop w} {hok : l.OK} {init : PUnit}
    {body : Fin l.trips → PUnit → Prog (TpuEff nD τ sig Val Λ .tc) PUnit} {k : PUnit → Prog (TpuEff nD τ sig Val Λ .tc) α}
    {Q : α → sProp 𝕄} (I : A → B → D → sProp 𝕄) (x : A) (y : B) (u : D)
    (f : Fin l.trips → A → A) (g : Fin l.trips → B → B) (h : Fin l.trips → D → D)
    (hb : ∀ (t : Fin l.trips) (a : A) (b : B) (d : D), Run defs 𝒱 bd E c (I a b d) (body t ⟨⟩) ⟨⟩ (I (f t a) (g t b) (h t d)))
    (hk : ∀ a b d, a = iter f l.trips x → b = iter g l.trips y → d = iter h l.trips u → Go defs 𝒱 bd E c (I a b d) (k ⟨⟩) Q) :
    Go defs 𝒱 bd E c (I x y u) (Scf.Loop.for l hok init body >>= k) Q := by
  have e : ∀ n, iter (fun t (z : A × B × D) => (f t z.1, g t z.2.1, h t z.2.2)) n (x, y, u) = (iter f n x, iter g n y, iter h n u) := by
    intro n
    induction n with
    | zero => rfl
    | succ n ih =>
      show (if hn : n < l.trips then _ else _) = _
      by_cases hn : n < l.trips
      · rw [dif_pos hn, ih]
        show _ = (if hn : n < l.trips then _ else _, if hn : n < l.trips then _ else _, if hn : n < l.trips then _ else _)
        rw [dif_pos hn, dif_pos hn, dif_pos hn]
      · rw [dif_neg hn, ih]
        show _ = (if hn : n < l.trips then _ else _, if hn : n < l.trips then _ else _, if hn : n < l.trips then _ else _)
        rw [dif_neg hn, dif_neg hn, dif_neg hn]
  refine Go.loopS (fun z : A × B × D => I z.1 z.2.1 z.2.2) (fun t z => (f t z.1, g t z.2.1, h t z.2.2)) (x, y, u)
    (fun t z => hb t z.1 z.2.1 z.2.2) fun z hz => ?_
  rw [e] at hz
  subst hz
  exact hk _ _ _ rfl rfl rfl

end Walk
-- ==== Proof.Lay.lean ====
/-
  Layout operations of the kernel read at an index: casts of shape, rows packed in pairs, transposes, and blocks padded
  with zero rows. Each lemma says which element of the operand an element of the result is.
-/
module

public import proofs.«01_k».proof.Proof.Val
public import Idealize.ShloMosaic.Lib.Pointwise.Reshape
public import Idealize.ShloMosaic.Lib.ValueIdxCore

@[expose] public section

noncomputable section

namespace Lay

open Idealize.ShloMosaic

variable {α : Type}

/-- Two indices of a matrix with the same coordinates. -/
theorem ext2 {a b : Nat} {i j : (⟨2, ![a, b]⟩ : Shape).Idx} (h0 : (i 0 : Nat) = j 0) (h1 : (i 1 : Nat) = j 1) : i = j := by
  funext x
  refine Fin.cases ?_ (fun x => Fin.cases ?_ (fun x => x.elim0) x) x
  · exact Fin.ext h0
  · exact Fin.ext h1

/-- Two indices of a rank-3 array with the same coordinates. -/
theorem ext3 {a b c : Nat} {i j : (⟨3, ![a, b, c]⟩ : Shape).Idx} (h0 : (i 0 : Nat) = j 0) (h1 : (i 1 : Nat) = j 1)
    (h2 : (i 2 : Nat) = j 2) : i = j := by
  funext x
  refine Fin.cases ?_ (fun x => Fin.cases ?_ (fun x => Fin.cases ?_ (fun x => x.elim0) x) x) x
  · exact Fin.ext h0
  · exact Fin.ext h1
  · exact Fin.ext h2

/-- Two indices of a rank-4 array with the same coordinates. -/
theorem ext4 {a b c d : Nat} {i j : (⟨4, ![a, b, c, d]⟩ : Shape).Idx} (h0 : (i 0 : Nat) = j 0) (h1 : (i 1 : Nat) = j 1)
    (h2 : (i 2 : Nat) = j 2) (h3 : (i 3 : Nat) = j 3) : i = j := by
  funext x
  refine Fin.cases ?_ (fun x => Fin.cases ?_ (fun x => Fin.cases ?_ (fun x => Fin.cases ?_ (fun x => x.elim0) x) x) x) x
  · exact Fin.ext h0
  · exact Fin.ext h1
  · exact Fin.ext h2
  · exact Fin.ext h3

/-- An index of a matrix, from its coordinates. -/
def mk2 {a b : Nat} (x y : Nat) (hx : x < a) (hy : y < b) : (⟨2, ![a, b]⟩ : Shape).Idx := ValueIdx.ix2 ⟨x, hx⟩ ⟨y, hy⟩

/-- An index of a rank-3 array, from its coordinates. -/
def mk3 {a b c : Nat} (x y z : Nat) (hx : x < a) (hy : y < b) (hz : z < c) : (⟨3, ![a, b, c]⟩ : Shape).Idx :=
  ValueIdx.ix3 ⟨x, hx⟩ ⟨y, hy⟩ ⟨z, hz⟩

/-- An index of a rank-4 array, from its coordinates. -/
def mk4 {a b c d : Nat} (x y z w : Nat) (hx : x < a) (hy : y < b) (hz : z < c) (hw : w < d) :
    (⟨4, ![a, b, c, d]⟩ : Shape).Idx := ValueIdx.ix4 ⟨x, hx⟩ ⟨y, hy⟩ ⟨z, hz⟩ ⟨w, hw⟩

/-- A cast of shape keeps the row-major position. -/
theorem cast_at {s t : Shape} (x : s.Idx → α) (h : s.ShapeCasts t) (j : t.Idx) (i : s.Idx)
    (hv : (s.rowMajor i : Nat) = t.rowMajor j) : shapeCast t x h j = x i :=
  congrArg x (Shape.reshapeEquiv_eq_of_vals _ _ _ _ _ rfl rfl hv)

/-- A matrix cast to have a unit axis in the middle. -/
theorem cast23 {a c : Nat} (x : (⟨2, ![a, c]⟩ : Shape).Idx → α) (h) (j : (⟨3, ![a, 1, c]⟩ : Shape).Idx)
    (i : (⟨2, ![a, c]⟩ : Shape).Idx) (h0 : (i 0 : Nat) = j 0) (h1 : (i 1 : Nat) = j 2) :
    shapeCast ⟨3, ![a, 1, c]⟩ x h j = x i := by
  have hj : (j 1 : Nat) < 1 := (j 1).isLt
  refine cast_at x h j i ?_
  rw [rowMajor_val2 i c rfl, rowMajor_val3 j c c (Nat.one_mul c) rfl, h0, h1, show (j 1 : Nat) = 0 by omega]
  omega

/-- A unit axis in the middle cast away. -/
theorem cast32 {a c : Nat} (x : (⟨3, ![a, 1, c]⟩ : Shape).Idx → α) (h) (j : (⟨2, ![a, c]⟩ : Shape).Idx)
    (i : (⟨3, ![a, 1, c]⟩ : Shape).Idx) (h0 : (i 0 : Nat) = j 0) (h1 : (i 2 : Nat) = j 1) :
    shapeCast ⟨2, ![a, c]⟩ x h j = x i := by
  have hj : (i 1 : Nat) < 1 := (i 1).isLt
  refine cast_at x h j i ?_
  rw [rowMajor_val2 j c rfl, rowMajor_val3 i c c (Nat.one_mul c) rfl, h0, h1, show (i 1 : Nat) = 0 by omega]
  omega

/-- Rows of one parity of a matrix. -/
theorem parity2 {a a' c : Nat} (q : Fin 2) (x : (⟨2, ![a, c]⟩ : Shape).Idx → α) (h) (j : (⟨2, ![a', c]⟩ : Shape).Idx)
    (i : (⟨2, ![a, c]⟩ : Shape).Idx) (h0 : (i 0 : Nat) = 2 * j 0 + q) (h1 : (i 1 : Nat) = j 1) :
    rowsOfParity q ⟨2, ![a', c]⟩ x h j = x i :=
  congrArg x (ext2 h0.symm h1.symm)

/-- One of the two rows of each pair. -/
theorem parity3 {a c : Nat} (q : Fin 2) (x : (⟨3, ![a, 2, c]⟩ : Shape).Idx → α) (h) (j : (⟨3, ![a, 1, c]⟩ : Shape).Idx)
    (i : (⟨3, ![a, 2, c]⟩ : Shape).Idx) (h0 : (i 0 : Nat) = j 0) (h1 : (i 1 : Nat) = q) (h2 : (i 2 : Nat) = j 2) :
    rowsOfParity q ⟨3, ![a, 1, c]⟩ x h j = x i :=
  congrArg x (ext3 h0.symm (by
    have hj : (j 1 : Nat) < 1 := (j 1).isLt
    show 2 * (j 1 : Nat) + q.val = (i 1 : Nat)
    omega) h2.symm)

/-- One row of each pair, as a matrix. -/
theorem unpack {a c : Nat} (q : Fin 2) (x : (⟨3, ![a, 2, c]⟩ : Shape).Idx → α) (h) (h') (j : (⟨2, ![a, c]⟩ : Shape).Idx)
    (i : (⟨3, ![a, 2, c]⟩ : Shape).Idx) (h0 : (i 0 : Nat) = j 0) (h1 : (i 1 : Nat) = q) (h2 : (i 2 : Nat) = j 1) :
    shapeCast ⟨2, ![a, c]⟩ (rowsOfParity q ⟨3, ![a, 1, c]⟩ x h) h' j = x i := by
  have hj0 := (j 0).isLt
  have hj1 := (j 1).isLt
  exact (cast32 _ h' j (mk3 (j 0) 0 (j 1) hj0 Nat.one_pos hj1) rfl rfl).trans (parity3 q x h _ i h0 h1 h2)

/-- Two matrices as the rows of pairs. -/
theorem pack {a c : Nat} (lo hi : (⟨2, ![a, c]⟩ : Shape).Idx → α) (h) (h') (h'') (j : (⟨3, ![a, 2, c]⟩ : Shape).Idx)
    (i : (⟨2, ![a, c]⟩ : Shape).Idx) (h0 : (i 0 : Nat) = j 0) (h1 : (i 1 : Nat) = j 2) :
    interleaveRows ⟨3, ![a, 2, c]⟩ (shapeCast ⟨3, ![a, 1, c]⟩ lo h) (shapeCast ⟨3, ![a, 1, c]⟩ hi h') h'' j =
      if (j 1 : Nat) = 0 then lo i else hi i := by
  have hj : (j 1 : Nat) < 2 := (j 1).isLt
  show (if (j 1 : Nat) % 2 = 0 then _ else _) = _
  by_cases hq : (j 1 : Nat) = 0
  · rw [if_pos hq, if_pos (by omega)]
    exact cast23 lo h _ i h0 h1
  · rw [if_neg hq, if_neg (by omega)]
    exact cast23 hi h' _ i h0 h1

/-- Two matrices interleaved by rows. -/
theorem inter2 {a a' c : Nat} (lo hi : (⟨2, ![a, c]⟩ : Shape).Idx → α) (h) (j : (⟨2, ![a', c]⟩ : Shape).Idx)
    (i : (⟨2, ![a, c]⟩ : Shape).Idx) (h0 : (i 0 : Nat) = (j 0 : Nat) / 2) (h1 : (i 1 : Nat) = j 1) :
    interleaveRows ⟨2, ![a', c]⟩ lo hi h j = if (j 0 : Nat) % 2 = 0 then lo i else hi i := by
  show (if (j 0 : Nat) % 2 = 0 then lo _ else hi _) = _
  have e : ∀ k : (⟨2, ![a, c]⟩ : Shape).Idx, (k 0 : Nat) = (j 0 : Nat) / 2 → (k 1 : Nat) = j 1 → k = i :=
    fun k e0 e1 => ext2 (e0.trans h0.symm) (e1.trans h1.symm)
  split
  · exact congrArg lo (e _ rfl rfl)
  · exact congrArg hi (e _ rfl rfl)

/-- A transposed matrix. -/
theorem trans2 {a b : Nat} (x : (⟨2, ![a, b]⟩ : Shape).Idx → α) (h) (j : (⟨2, ![b, a]⟩ : Shape).Idx)
    (i : (⟨2, ![a, b]⟩ : Shape).Idx) (h0 : (i 0 : Nat) = j 1) (h1 : (i 1 : Nat) = j 0) :
    transpose ⟨2, ![b, a]⟩ [1, 0] x h j = x i :=
  congrArg x (ext2 h0.symm h1.symm)

/-- The upper of two blocks of rows. -/
theorem upper {a a' b n : Nat} (x : (⟨2, ![a, b]⟩ : Shape).Idx → α) (z : (⟨2, ![a', b]⟩ : Shape).Idx → α) (h)
    (j : (⟨2, ![n, b]⟩ : Shape).Idx) (i : (⟨2, ![a, b]⟩ : Shape).Idx) (h0 : (i 0 : Nat) = j 0) (h1 : (i 1 : Nat) = j 1) :
    concatenate ⟨2, ![n, b]⟩ 0 [⟨⟨2, ![a, b]⟩, x⟩, ⟨⟨2, ![a', b]⟩, z⟩] h j = x i := by
  refine concatenate_pair_apply_left 0 x z h j rfl i fun x => ?_
  refine Fin.cases ?_ (fun x => Fin.cases ?_ (fun x => x.elim0) x) x
  · exact h0
  · exact h1

/-- The first rows of a matrix. -/
theorem slice2 {a a' b : Nat} (x : (⟨2, ![a, b]⟩ : Shape).Idx → α) (h) (j : (⟨2, ![a', b]⟩ : Shape).Idx)
    (i : (⟨2, ![a, b]⟩ : Shape).Idx) (h0 : (i 0 : Nat) = j 0) (h1 : (i 1 : Nat) = j 1) :
    extractStridedSlice ⟨2, ![a', b]⟩ ![0, 0] x h j = x i :=
  congrArg x (ext2 (by rw [h0]; exact Nat.zero_add _) (by rw [h1]; exact Nat.zero_add _))

/-- Contents after a loop, at a place that one trip writes and no later trip does. -/
theorem iter_at {N : Nat} {I A : Type} (f : Fin N → (I → A) → I → A) (p : I) (t : Fin N) (v : A) (hhit : ∀ X, f t X p = v)
    (hmiss : ∀ t' : Fin N, t ≠ t' → ∀ X, f t' X p = X p) (X : I → A) : Walk.iter f N X p = v := by
  have : ∀ n, t.val < n → n ≤ N → Walk.iter f n X p = v := by
    intro n
    induction n with
    | zero => intro h; omega
    | succ n ih =>
      intro h hN
      have hs := Walk.iter_succ f ⟨n, hN⟩ X
      rw [show n + 1 = (⟨n, hN⟩ : Fin N).val + 1 from rfl, hs]
      by_cases e : t.val = n
      · have : t = ⟨n, hN⟩ := Fin.ext e
        rw [← this]
        exact hhit _
      · rw [hmiss ⟨n, hN⟩ (fun e' => e (congrArg Fin.val e')) _]
        exact ih (by omega) (by omega)
  exact this N t.isLt (Nat.le_refl N)

end Lay
-- ==== Proof.TokLoop.lean ====
/-
  The kernel's loop over the tokens: the state after each token, and the output rows it leaves.
-/
module

public import proofs.«01_k».proof.Proof.TokRun
public import proofs.«01_k».proof.Proof.Off
public import proofs.«01_k».proof.Proof.Loop
public import proofs.«01_k».proof.Proof.Lay

@[expose] public section

set_option maxRecDepth 16384

noncomputable section

namespace Cert.KernelIdeal.Tok

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Walk

variable {F : FTy → Type} [FloatOps F]

local notation "𝕄" => MT nD τ sig Unit (Elt F) ℕ (UR sig nD τ) ℕ

/-- Contents of a buffer of rows are given by their entries. -/
theorem exists_rows {n l : Nat} {α : Type} (hn : 0 < n) (hl : 0 < l) (X : (⟨2, ![n, l]⟩ : Shape).Idx → α) : ∃ A, X = ofRows A := by
  refine ⟨fun p q => X (Lay.mk2 (p % n) (q % l) (Nat.mod_lt _ hn) (Nat.mod_lt _ hl)), funext fun p => congrArg X (Lay.ext2 ?_ ?_)⟩
  · exact (Nat.mod_eq_of_lt (p 0).isLt).symm
  · exact (Nat.mod_eq_of_lt (p 1).isLt).symm

/-- The state after `n` tokens. -/
def stN (kr vr wr ar br st : Nat → Nat → F .f32) (n : Nat) : Nat → Nat → F .f32 :=
  iter (fun t S => new t kr vr wr ar br S) n st

/-- Eight output rows laid over the output buffer, read at an index. -/
theorem putOut_at (t : Fin k0_t12_loop.trips) (w : Nat → FVec F S8x128 .f32) (ib : Fin 2) (i : Fin 4) (Y : Vec F S8192x128 .f32)
    (p : S8192x128.Idx) : putOut t w ib i Y p =
      if (p 0 : Nat) / 8 = 8 * t.val + (4 * ib.val + i.val) then w (4 * ib + i) (at8 (p 0) (p 1)) else Y p := by
  have h1 : (p 1 : Nat) < 128 := (p 1).isLt
  have o0 := congrFun (Off.off28 t ib i) 0
  have o1 := congrFun (Off.off28 t ib i) 1
  have o0 : k0_off28 t (BitVec.ofNat 32 (32 * ib.val)) (BitVec.ofNat 32 (8 * i.val)) 0 = 64 * t.val + 8 * (4 * ib.val + i.val) := o0
  have o1 : k0_off28 t (BitVec.ofNat 32 (32 * ib.val)) (BitVec.ofNat 32 (8 * i.val)) 1 = 0 := o1
  split
  · rename_i h
    refine overlay_at (Rect.unit (s := S8192x128) (k0_off28 t (BitVec.ofNat 32 (32 * ib.val)) (BitVec.ofNat 32 (8 * i.val))) S8x128.size
      (k0_off28_inb t ib i)) Y _ (at8 (p 0) (p 1)) fun a => ?_
    refine Fin.cases ?_ (fun a => Fin.cases ?_ (fun a => a.elim0) a) a
    · show (p 0 : Nat) = k0_off28 t (BitVec.ofNat 32 (32 * ib.val)) (BitVec.ofNat 32 (8 * i.val)) 0 + 1 * ((p 0 : Nat) % 8)
      rw [o0]
      omega
    · show (p 1 : Nat) = k0_off28 t (BitVec.ofNat 32 (32 * ib.val)) (BitVec.ofNat 32 (8 * i.val)) 1 + 1 * ((p 1 : Nat) % 128)
      rw [o1]
      omega
  · rename_i h
    refine overlay_out _ _ _ 0 fun n hn => ?_
    show (p 0 : Nat) ≠ k0_off28 t (BitVec.ofNat 32 (32 * ib.val)) (BitVec.ofNat 32 (8 * i.val)) 0 + 1 * n
    have hn : n < 8 := hn
    rw [o0]
    omega

/-- The step's output rows, read at a row of the token. -/
theorem outRows_hit (t : Fin k0_t12_loop.trips) (w : Nat → FVec F S8x128 .f32) (Y : Vec F S8192x128 .f32) (p : S8192x128.Idx)
    (h : (p 0 : Nat) / 64 = t) : outRows t w Y p = w ((p 0 : Nat) % 64 / 8) (at8 ((p 0 : Nat) % 64) (p 1)) := by
  have e : at8 ((p 0 : Nat) % 64) (p 1) = at8 (p 0) (p 1) := Lay.ext2 (by
    show (p 0 : Nat) % 64 % 8 = (p 0 : Nat) % 8
    omega) rfl
  have hr : (p 0 : Nat) % 64 / 8 < 8 := by omega
  have hp : (p 0 : Nat) / 8 = 8 * t.val + (p 0 : Nat) % 64 / 8 := by omega
  rw [e]
  generalize (p 0 : Nat) % 64 / 8 = r at hr hp
  unfold outRows
  simp only [putOut_at, hp]
  rcases r with _ | _ | _ | _ | _ | _ | _ | _ | r
  all_goals first
    | omega
    | simp

/-- The step's output rows, read at a row of another token. -/
theorem outRows_miss (t : Fin k0_t12_loop.trips) (w : Nat → FVec F S8x128 .f32) (Y : Vec F S8192x128 .f32) (p : S8192x128.Idx)
    (h : (p 0 : Nat) / 64 ≠ t) : outRows t w Y p = Y p := by
  have hp : ∀ ib : Fin 2, ∀ i : Fin 4, ¬ (p 0 : Nat) / 8 = 8 * t.val + (4 * ib.val + i.val) := by omega
  unfold outRows
  simp only [putOut_at, hp, if_false]

/-- The state and the output buffer over the loop. -/
theorem iter_tokens (rr kr vr wr ar br st : Nat → Nat → F .f32) (Y : Vec F S8192x128 .f32) (n : Nat) (hn : n ≤ k0_t12_loop.trips) :
    let z := iter (fun t (z : (Nat → Nat → F .f32) × Vec F S8192x128 .f32) =>
      (new t kr vr wr ar br z.1, outRows t (fun i => outB t rr kr vr wr ar br z.1 i 63) z.2)) n (st, Y)
    z.1 = stN kr vr wr ar br st n ∧ ∀ (p : S8192x128.Idx) (t : Fin k0_t12_loop.trips), (p 0 : Nat) / 64 = t → t.val < n →
      z.2 p = out t rr kr vr wr ar br (stN kr vr wr ar br st t) ((p 0 : Nat) % 64) (p 1) := by
  induction n with
  | zero => exact ⟨rfl, fun p t _ h => absurd h (Nat.not_lt_zero _)⟩
  | succ n ih =>
    obtain ⟨ih1, ih2⟩ := ih (by omega)
    intro z
    have hz : z = _ := iter_succ _ ⟨n, hn⟩ (st, Y)
    rw [hz]
    refine ⟨?_, fun p t ht h => ?_⟩
    · show new ⟨n, hn⟩ kr vr wr ar br _ = iter _ ((⟨n, hn⟩ : Fin k0_t12_loop.trips).val + 1) st
      rw [iter_succ, ih1]
      rfl
    · dsimp only
      by_cases e : t.val = n
      · have e : t = ⟨n, hn⟩ := Fin.ext e
        subst e
        rw [outRows_hit _ _ _ p ht, ih1]
        rfl
      · rw [outRows_miss _ _ _ p (by rw [ht]; exact e)]
        exact ih2 p t ht (by omega)

/-- The loop over the tokens. -/
theorem tokens {c : Dev nD} {arg0 : Memref sig .tc .vmem S7168x128 .fp8e4m3} {harg0 : arg0.IsWhole} {arg1 : Memref sig .tc .vmem S7168x128 .fp8e4m3} {harg1 : arg1.IsWhole} {arg2 : Memref sig .tc .vmem S7168x128 .fp8e4m3} {harg2 : arg2.IsWhole} {arg3 : Memref sig .tc .vmem S112x128 .f32} {harg3 : arg3.IsWhole} {arg4 : Memref sig .tc .vmem S112x128 .f32} {harg4 : arg4.IsWhole} {arg5 : Memref sig .tc .vmem S112x128 .f32} {harg5 : arg5.IsWhole} {arg6 : Memref sig .tc .vmem S7168x128 .bf16} {harg6 : arg6.IsWhole} {arg7 : Memref sig .tc .vmem S7168x128 .bf16} {harg7 : arg7.IsWhole} {arg8 : Memref sig .tc .vmem S7168x128 .bf16} {harg8 : arg8.IsWhole} {arg9 : Memref sig .tc .vmem S7168x64 .f32} {harg9 : arg9.IsWhole} {arg10 : Memref sig .tc .vmem S7168x128 .bf16} {harg10 : arg10.IsWhole} {arg11 : Memref sig .tc .vmem S7168x64 .f32} {harg11 : arg11.IsWhole} {arg12 : Memref sig .tc .vmem S4480x2x128 .bf16} {harg12 : arg12.IsWhole} {arg13 : Memref sig .tc .vmem S4480x2x128 .bf16} {harg13 : arg13.IsWhole} {arg14 : Memref sig .tc .vmem S4480x2x128 .bf16} {harg14 : arg14.IsWhole} {arg15 : Memref sig .tc .vmem S8192x128 .f32} {harg15 : arg15.IsWhole} {arg16 : Memref sig .tc .vmem S8192x128 .f32} {harg16 : arg16.IsWhole} {arg17 : Memref sig .tc .vmem S8192x128 .f32} {harg17 : arg17.IsWhole} {arg18 : Memref sig .tc .vmem S8192x128 .f32} {harg18 : arg18.IsWhole} {arg19 : Memref sig .tc .vmem S8192x128 .f32} {harg19 : arg19.IsWhole} {arg20 : Memref sig .tc .vmem S8192x128 .f32} {harg20 : arg20.IsWhole} {arg21 : Memref sig .tc .vmem S4096x128 .f32} {harg21 : arg21.IsWhole} {arg22 : Memref sig .tc .vmem S8192x128 .f32} {harg22 : arg22.IsWhole}
    {α : Type} {c0 c1 : BitVec 32} {rr kr vr wr ar br st : Nat → Nat → F .f32} {Y : Vec F S8192x128 .f32} {Rest : sProp 𝕄}
    {k : PUnit → Prog (TpuEff nD τ sig (Elt F) Λ₀ .tc) α} {Q : α → sProp 𝕄}
    (hk : ∀ Y' : Vec F S8192x128 .f32, (∀ (p : S8192x128.Idx) (t : Fin k0_t12_loop.trips), (p 0 : Nat) / 64 = t →
        Y' p = out t rr kr vr wr ar br (stN kr vr wr ar br st t) ((p 0 : Nat) % 64) (p 1)) →
      Go (defs₀ (F := F)) Variants.none none Set.univ c
        iprop(owns (c : Thread nD τ) arg21 fullShare (ofRows (stN kr vr wr ar br st 128) : S4096x128.Idx → F .f32) ∗
          owns (c : Thread nD τ) arg19 fullShare (ofRows ar : S8192x128.Idx → F .f32) ∗
          owns (c : Thread nD τ) arg18 fullShare (ofRows wr : S8192x128.Idx → F .f32) ∗
          owns (c : Thread nD τ) arg20 fullShare (ofRows br : S8192x128.Idx → F .f32) ∗
          owns (c : Thread nD τ) arg16 fullShare (ofRows kr : S8192x128.Idx → F .f32) ∗
          owns (c : Thread nD τ) arg15 fullShare (ofRows rr : S8192x128.Idx → F .f32) ∗
          owns (c : Thread nD τ) arg17 fullShare (ofRows vr : S8192x128.Idx → F .f32) ∗
          owns (c : Thread nD τ) arg22 fullShare Y' ∗ Rest) (k ⟨⟩) Q) :
    Go (defs₀ (F := F)) Variants.none none Set.univ c
      iprop(owns (c : Thread nD τ) arg21 fullShare (ofRows st : S4096x128.Idx → F .f32) ∗
        owns (c : Thread nD τ) arg19 fullShare (ofRows ar : S8192x128.Idx → F .f32) ∗
        owns (c : Thread nD τ) arg18 fullShare (ofRows wr : S8192x128.Idx → F .f32) ∗
        owns (c : Thread nD τ) arg20 fullShare (ofRows br : S8192x128.Idx → F .f32) ∗
        owns (c : Thread nD τ) arg16 fullShare (ofRows kr : S8192x128.Idx → F .f32) ∗
        owns (c : Thread nD τ) arg15 fullShare (ofRows rr : S8192x128.Idx → F .f32) ∗
        owns (c : Thread nD τ) arg17 fullShare (ofRows vr : S8192x128.Idx → F .f32) ∗
        owns (c : Thread nD τ) arg22 fullShare Y ∗ Rest)
      (Scf.Loop.for k0_t12_loop k0_t12_ok ⟨⟩ (fun t _ => k0_part258 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0 c1 t >>= fun _ => (pure ⟨⟩ : Prog (TpuEff nD τ sig (Elt F) Λ₀ .tc) PUnit)) >>= k) Q := by
  have hb : ∀ (t : Fin k0_t12_loop.trips) (z : (Nat → Nat → F .f32) × Vec F S8192x128 .f32),
      Run (defs₀ (F := F)) Variants.none none Set.univ c
        iprop(tokR c arg15 arg16 arg17 arg18 arg19 arg20 arg21 arg22 rr kr vr wr ar br z.1 z.2 ∗ Rest)
        (k0_part258 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 c0 c1 t >>= fun _ => (pure ⟨⟩ : Prog (TpuEff nD τ sig (Elt F) Λ₀ .tc) PUnit)) ⟨⟩
        iprop(tokR c arg15 arg16 arg17 arg18 arg19 arg20 arg21 arg22 rr kr vr wr ar br (new t kr vr wr ar br z.1)
          (outRows t (fun i => outB t rr kr vr wr ar br z.1 i 63) z.2) ∗ Rest) := by
    intro t z
    have h := token_run (F := F) (c := c) (harg0 := harg0) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) (harg22 := harg22) c0 c1 t rr kr vr wr ar br z.1 z.2
    unfold tokR at h
    rw [led_zero, led_end] at h
    exact Run.bind (Run.frame h) Run.ret
  refine Go.conv (R := iprop(tokR c arg15 arg16 arg17 arg18 arg19 arg20 arg21 arg22 rr kr vr wr ar br st Y ∗ Rest)) ?_
    (Go.loopS (fun z : (Nat → Nat → F .f32) × Vec F S8192x128 .f32 =>
      iprop(tokR c arg15 arg16 arg17 arg18 arg19 arg20 arg21 arg22 rr kr vr wr ar br z.1 z.2 ∗ Rest))
      (fun t z => (new t kr vr wr ar br z.1, outRows t (fun i => outB t rr kr vr wr ar br z.1 i 63) z.2)) (st, Y) hb fun z hz => ?_)
  · unfold tokR
    iintro ⟨H1, H2, H3, H4, H5, H6, H7, H8, HR⟩
    isplitr [HR]
    · isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · iexact HR
  · obtain ⟨h1, h2⟩ := iter_tokens rr kr vr wr ar br st Y k0_t12_loop.trips (Nat.le_refl _)
    rw [← hz] at h1 h2
    rw [Off.trips12] at h1
    refine Go.conv ?_ (hk z.2 fun p t ht => h2 p t ht t.isLt)
    rw [h1]
    unfold tokR
    iintro ⟨⟨H1, H2, H3, H4, H5, H6, H7, H8⟩, HR⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HR

end Cert.KernelIdeal.Tok
-- ==== Proof.Spread.lean ====
/-
  What a loop of stores leaves in a buffer, read at an index: the payload of the trip that writes there. One lemma for each
  way in which the kernel's loops lay their blocks: one after another, two to a trip, and interleaved by a stride.
-/
module

public import proofs.«01_k».proof.Proof.Lay

@[expose] public section

noncomputable section

namespace Lay

open Idealize.ShloMosaic Walk

variable {α : Type}

/-- A loop that lays one block per trip. -/
theorem loop_at {s : Shape} {N : Nat} (r : Fin N → Rect s) (w : ∀ t, (r t).shape.Idx → α) {X Z : s.Idx → α}
    (hZ : Z = iter (fun t X => (r t).overlay X (w t)) N X) (p : s.Idx) (t : Fin N) (j : (r t).shape.Idx)
    (hit : ∀ a, (p a : Nat) = (r t).off a + (r t).stride a * j a)
    (miss : ∀ t', t ≠ t' → ∃ a, ∀ n, n < (r t').size a → (p a : Nat) ≠ (r t').off a + (r t').stride a * n) : Z p = w t j := by
  rw [hZ]
  refine iter_at _ p t _ (fun X => overlay_at (r t) X (w t) j hit) (fun t' h X => ?_) X
  obtain ⟨a, ha⟩ := miss t' h
  exact overlay_out _ _ _ a ha

/-- Blocks of 32 pairs of rows, 40 rows apart. -/
theorem rows3 {N : Nat} {off : Fin N → Fin 3 → Nat} {inb : ∀ t a, off t a + (![32, 2, 128] : Fin 3 → Nat) a ≤ (![4480, 2, 128] : Fin 3 → Nat) a}
    {w : Fin N → (⟨3, ![32, 2, 128]⟩ : Shape).Idx → α}
    {X Z : (⟨3, ![4480, 2, 128]⟩ : Shape).Idx → α} (ho : ∀ t, off t = ![40 * t.val, 0, 0])
    (hZ : Z = iter (fun t X => (Rect.unit (s := ⟨3, ![4480, 2, 128]⟩) (off t) ![32, 2, 128] (inb t)).overlay X (w t)) N X)
    (p : (⟨3, ![4480, 2, 128]⟩ : Shape).Idx) (t : Fin N) (j : (⟨3, ![32, 2, 128]⟩ : Shape).Idx)
    (h0 : (p 0 : Nat) = 40 * t + j 0) (h1 : (p 1 : Nat) = j 1) (h2 : (p 2 : Nat) = j 2) : Z p = w t j := by
  have hj : (j 0 : Nat) < 32 := (j 0).isLt
  refine loop_at (fun t => Rect.unit (s := ⟨3, ![4480, 2, 128]⟩) (off t) ![32, 2, 128] (inb t)) w hZ p t j (fun a => ?_) fun t' hne => ⟨0, fun n hn => ?_⟩
  · show (p a : Nat) = off t a + 1 * j a
    rw [ho]
    refine Fin.cases ?_ (fun a => Fin.cases ?_ (fun a => Fin.cases ?_ (fun a => a.elim0) a) a) a
    · show (p 0 : Nat) = 40 * t.val + 1 * (j 0 : Nat)
      omega
    · show (p 1 : Nat) = 0 + 1 * (j 1 : Nat)
      omega
    · show (p 2 : Nat) = 0 + 1 * (j 2 : Nat)
      omega
  · show (p 0 : Nat) ≠ off t' 0 + 1 * n
    have hn : n < 32 := hn
    have hne : t.val ≠ t'.val := fun h => hne (Fin.ext h)
    rw [ho, h0]
    show 40 * t.val + (j 0 : Nat) ≠ 40 * t'.val + 1 * n
    omega

/-- Blocks of 64 rows, one after another. -/
theorem rows2 {N n m : Nat} {off : Fin N → Fin 2 → Nat} {inb : ∀ t a, off t a + (![64, m] : Fin 2 → Nat) a ≤ (![n, m] : Fin 2 → Nat) a}
    {w : Fin N → (⟨2, ![64, m]⟩ : Shape).Idx → α}
    {X Z : (⟨2, ![n, m]⟩ : Shape).Idx → α} (ho : ∀ t, off t = ![64 * t.val, 0])
    (hZ : Z = iter (fun t X => (Rect.unit (s := ⟨2, ![n, m]⟩) (off t) ![64, m] (inb t)).overlay X (w t)) N X)
    (p : (⟨2, ![n, m]⟩ : Shape).Idx) (t : Fin N) (j : (⟨2, ![64, m]⟩ : Shape).Idx)
    (h0 : (p 0 : Nat) = 64 * t + j 0) (h1 : (p 1 : Nat) = j 1) : Z p = w t j := by
  have hj : (j 0 : Nat) < 64 := (j 0).isLt
  refine loop_at (fun t => Rect.unit (s := ⟨2, ![n, m]⟩) (off t) ![64, m] (inb t)) w hZ p t j (fun a => ?_) fun t' hne => ⟨0, fun n hn => ?_⟩
  · show (p a : Nat) = off t a + 1 * j a
    rw [ho]
    refine Fin.cases ?_ (fun a => Fin.cases ?_ (fun a => a.elim0) a) a
    · show (p 0 : Nat) = 64 * t.val + 1 * (j 0 : Nat)
      omega
    · show (p 1 : Nat) = 0 + 1 * (j 1 : Nat)
      omega
  · show (p 0 : Nat) ≠ off t' 0 + 1 * n
    have hn : n < 64 := hn
    have hne : t.val ≠ t'.val := fun h => hne (Fin.ext h)
    rw [ho, h0]
    show 64 * t.val + (j 0 : Nat) ≠ 64 * t'.val + 1 * n
    omega

/-- Blocks whose rows lie 64 apart, each block one row after the last. -/
theorem strided2 {N n m k : Nat} {off : Fin N → Fin 2 → Nat} {inb : ∀ t a, (![k, m] : Fin 2 → Nat) a = 0 ∨ off t a + (![64, 1] : Fin 2 → Nat) a * ((![k, m] : Fin 2 → Nat) a - 1) < (![n, m] : Fin 2 → Nat) a}
    {sp : ∀ a, 0 < (![64, 1] : Fin 2 → Nat) a}
    {w : Fin N → (⟨2, ![k, m]⟩ : Shape).Idx → α}
    {X Z : (⟨2, ![n, m]⟩ : Shape).Idx → α} (hN : N = 64) (ho : ∀ t, off t = ![t.val, 0])
    (hZ : Z = iter (fun t X => (⟨(⟨off t, ![k, m], ![64, 1], inb t⟩ : LoadRect ⟨2, ![n, m]⟩), sp⟩ : Rect ⟨2, ![n, m]⟩).overlay X (w t)) N X)
    (p : (⟨2, ![n, m]⟩ : Shape).Idx) (t : Fin N) (j : (⟨2, ![k, m]⟩ : Shape).Idx)
    (h0 : (p 0 : Nat) = t + 64 * j 0) (h1 : (p 1 : Nat) = j 1) : Z p = w t j := by
  have ht := t.isLt
  refine loop_at (fun t => (⟨(⟨off t, ![k, m], ![64, 1], inb t⟩ : LoadRect ⟨2, ![n, m]⟩), sp⟩ : Rect ⟨2, ![n, m]⟩)) w hZ p t j (fun a => ?_) fun t' hne => ⟨0, fun n hn => ?_⟩
  · show (p a : Nat) = off t a + (![64, 1] : Fin 2 → Nat) a * j a
    rw [ho]
    refine Fin.cases ?_ (fun a => Fin.cases ?_ (fun a => a.elim0) a) a
    · show (p 0 : Nat) = t.val + 64 * (j 0 : Nat)
      omega
    · show (p 1 : Nat) = 0 + 1 * (j 1 : Nat)
      omega
  · show (p 0 : Nat) ≠ off t' 0 + 64 * n
    have ht' := t'.isLt
    have hne : t.val ≠ t'.val := fun h => hne (Fin.ext h)
    rw [ho, h0]
    show t.val + 64 * (j 0 : Nat) ≠ t'.val + 64 * n
    omega

/-- Blocks of 112 pairs of rows, the pairs 40 apart, each block one pair after the last. -/
theorem strided3 {N : Nat} {off : Fin N → Fin 3 → Nat} {inb : ∀ t a, (![112, 2, 128] : Fin 3 → Nat) a = 0 ∨ off t a + (![40, 1, 1] : Fin 3 → Nat) a * ((![112, 2, 128] : Fin 3 → Nat) a - 1) < (![4480, 2, 128] : Fin 3 → Nat) a}
    {sp : ∀ a, 0 < (![40, 1, 1] : Fin 3 → Nat) a}
    {w : Fin N → (⟨3, ![112, 2, 128]⟩ : Shape).Idx → α}
    {X Z : (⟨3, ![4480, 2, 128]⟩ : Shape).Idx → α} (hN : N = 32) (ho : ∀ t, off t = ![t.val, 0, 0])
    (hZ : Z = iter (fun t X => (⟨(⟨off t, ![112, 2, 128], ![40, 1, 1], inb t⟩ : LoadRect ⟨3, ![4480, 2, 128]⟩), sp⟩ :
      Rect ⟨3, ![4480, 2, 128]⟩).overlay X (w t)) N X)
    (p : (⟨3, ![4480, 2, 128]⟩ : Shape).Idx) (t : Fin N) (j : (⟨3, ![112, 2, 128]⟩ : Shape).Idx)
    (h0 : (p 0 : Nat) = t + 40 * j 0) (h1 : (p 1 : Nat) = j 1) (h2 : (p 2 : Nat) = j 2) : Z p = w t j := by
  have ht := t.isLt
  refine loop_at (fun t => (⟨(⟨off t, ![112, 2, 128], ![40, 1, 1], inb t⟩ : LoadRect ⟨3, ![4480, 2, 128]⟩), sp⟩ : Rect ⟨3, ![4480, 2, 128]⟩)) w hZ p t j (fun a => ?_) fun t' hne => ⟨0, fun n hn => ?_⟩
  · show (p a : Nat) = off t a + (![40, 1, 1] : Fin 3 → Nat) a * j a
    rw [ho]
    refine Fin.cases ?_ (fun a => Fin.cases ?_ (fun a => Fin.cases ?_ (fun a => a.elim0) a) a) a
    · show (p 0 : Nat) = t.val + 40 * (j 0 : Nat)
      omega
    · show (p 1 : Nat) = 0 + 1 * (j 1 : Nat)
      omega
    · show (p 2 : Nat) = 0 + 1 * (j 2 : Nat)
      omega
  · show (p 0 : Nat) ≠ off t' 0 + 40 * n
    have ht' := t'.isLt
    have hne : t.val ≠ t'.val := fun h => hne (Fin.ext h)
    rw [ho, h0]
    show t.val + 40 * (j 0 : Nat) ≠ t'.val + 40 * n
    omega

/-- Two blocks of 128 rows per trip. -/
theorem pairs2 {N n : Nat} {off off' : Fin N → Fin 2 → Nat} {inb : ∀ t a, off t a + (![128, 128] : Fin 2 → Nat) a ≤ (![n, 128] : Fin 2 → Nat) a}
    {inb' : ∀ t a, off' t a + (![128, 128] : Fin 2 → Nat) a ≤ (![n, 128] : Fin 2 → Nat) a} {w w' : Fin N → (⟨2, ![128, 128]⟩ : Shape).Idx → α}
    {X Z : (⟨2, ![n, 128]⟩ : Shape).Idx → α} (ho : ∀ t, off t = ![128 * (2 * t.val), 0])
    (ho' : ∀ t, off' t = ![128 * (2 * t.val + 1), 0])
    (hZ : Z = iter (fun t X => (Rect.unit (s := ⟨2, ![n, 128]⟩) (off' t) ![128, 128] (inb' t)).overlay
      ((Rect.unit (s := ⟨2, ![n, 128]⟩) (off t) ![128, 128] (inb t)).overlay X (w t)) (w' t)) N X)
    (p : (⟨2, ![n, 128]⟩ : Shape).Idx) (t : Fin N) (q : Nat) (hq : q < 2) (j : (⟨2, ![128, 128]⟩ : Shape).Idx)
    (h0 : (p 0 : Nat) = 128 * (2 * t + q) + j 0) (h1 : (p 1 : Nat) = j 1) : Z p = if q = 0 then w t j else w' t j := by
  have hj : (j 0 : Nat) < 128 := (j 0).isLt
  have o0 : ∀ t, off t 0 = 128 * (2 * t.val) := fun t => congrFun (ho t) 0
  have o1 : ∀ t, off t 1 = 0 := fun t => congrFun (ho t) 1
  have o0' : ∀ t, off' t 0 = 128 * (2 * t.val + 1) := fun t => congrFun (ho' t) 0
  have o1' : ∀ t, off' t 1 = 0 := fun t => congrFun (ho' t) 1
  rw [hZ]
  refine iter_at _ p t _ (fun X => ?_) (fun t' hne X => ?_) X
  · by_cases e : q = 0
    · rw [if_pos e]
      refine (overlay_out _ _ _ 0 fun n hn => ?_).trans (overlay_at (Rect.unit (s := ⟨2, ![n, 128]⟩) (off t) ![128, 128] (inb t)) _ _ j fun a => ?_)
      · show (p 0 : Nat) ≠ off' t 0 + 1 * n
        rw [o0']
        omega
      · show (p a : Nat) = off t a + 1 * j a
        refine Fin.cases ?_ (fun a => Fin.cases ?_ (fun a => a.elim0) a) a
        · show (p 0 : Nat) = off t 0 + 1 * (j 0 : Nat)
          rw [o0]
          omega
        · show (p 1 : Nat) = off t 1 + 1 * (j 1 : Nat)
          rw [o1]
          omega
    · rw [if_neg e]
      refine overlay_at (Rect.unit (s := ⟨2, ![n, 128]⟩) (off' t) ![128, 128] (inb' t)) _ _ j fun a => ?_
      show (p a : Nat) = off' t a + 1 * j a
      refine Fin.cases ?_ (fun a => Fin.cases ?_ (fun a => a.elim0) a) a
      · show (p 0 : Nat) = off' t 0 + 1 * (j 0 : Nat)
        rw [o0']
        omega
      · show (p 1 : Nat) = off' t 1 + 1 * (j 1 : Nat)
        rw [o1']
        omega
  · have hne : t.val ≠ t'.val := fun h => hne (Fin.ext h)
    refine (overlay_out _ _ _ 0 fun n hn => ?_).trans (overlay_out _ _ _ 0 fun n hn => ?_)
    · show (p 0 : Nat) ≠ off' t' 0 + 1 * n
      have hn : n < 128 := hn
      rw [o0']
      omega
    · show (p 0 : Nat) ≠ off t' 0 + 1 * n
      have hn : n < 128 := hn
      rw [o0]
      omega

/-- The rows of a matrix, packed in pairs. -/
theorem packed {V : (⟨2, ![64, 128]⟩ : Shape).Idx → α} {h h' h'' h0 h1} (j : (⟨3, ![32, 2, 128]⟩ : Shape).Idx)
    (i : (⟨2, ![64, 128]⟩ : Shape).Idx) (e0 : (i 0 : Nat) = 2 * j 0 + j 1) (e1 : (i 1 : Nat) = j 2) :
    interleaveRows ⟨3, ![32, 2, 128]⟩ (shapeCast ⟨3, ![32, 1, 128]⟩ (rowsOfParity 0 ⟨2, ![32, 128]⟩ V h0) h)
      (shapeCast ⟨3, ![32, 1, 128]⟩ (rowsOfParity 1 ⟨2, ![32, 128]⟩ V h1) h') h'' j = V i := by
  have hj : (j 1 : Nat) < 2 := (j 1).isLt
  rw [pack _ _ h h' h'' j (mk2 (j 0) (j 2) (j 0).isLt (j 2).isLt) rfl rfl]
  split
  · exact parity2 0 V _ _ i (by show (i 0 : Nat) = 2 * (j 0 : Nat) + 0; omega) e1
  · exact parity2 1 V _ _ i (by show (i 0 : Nat) = 2 * (j 0 : Nat) + 1; omega) e1

/-- A block padded with zero rows and transposed. -/
theorem padT {a a' b n : Nat} (x : (⟨2, ![a, b]⟩ : Shape).Idx → α) (z : (⟨2, ![a', b]⟩ : Shape).Idx → α) (h) (h')
    (j : (⟨2, ![b, n]⟩ : Shape).Idx) (i : (⟨2, ![a, b]⟩ : Shape).Idx) (h0 : (i 0 : Nat) = j 1) (h1 : (i 1 : Nat) = j 0) :
    transpose ⟨2, ![b, n]⟩ [1, 0] (concatenate ⟨2, ![n, b]⟩ 0 [⟨⟨2, ![a, b]⟩, x⟩, ⟨⟨2, ![a', b]⟩, z⟩] h) h' j = x i := by
  have hj0 := (j 0).isLt
  have hj1 := (j 1).isLt
  exact (trans2 _ h' j (mk2 (j 1) (j 0) hj1 hj0) rfl rfl).trans (upper x z h _ i h0 h1)

/-- A matrix transposed and cut to its first rows. -/
theorem cutT {a b n : Nat} (x : (⟨2, ![b, n]⟩ : Shape).Idx → α) (h) (h') (j : (⟨2, ![a, b]⟩ : Shape).Idx)
    (i : (⟨2, ![b, n]⟩ : Shape).Idx) (h0 : (i 0 : Nat) = j 1) (h1 : (i 1 : Nat) = j 0) :
    extractStridedSlice ⟨2, ![a, b]⟩ ![0, 0] (transpose ⟨2, ![n, b]⟩ [1, 0] x h) h' j = x i := by
  have hi0 := (i 0).isLt
  have hi1 := (i 1).isLt
  exact (slice2 _ h' j (mk2 (i 1) (i 0) hi1 hi0) h1 h0).trans (trans2 x h _ i rfl rfl)

end Lay
-- ==== Proof.Layers.lean ====
/-
  What each of the kernel's layout loops leaves, in terms of what it reads: the operands spread by pairs of rows and
  brought to one row per column and token with the heads as lanes, the state likewise, and the outputs brought back.
-/
module

public import proofs.«01_k».proof.Proof.Spread

@[expose] public section

noncomputable section

namespace Lay

open Idealize.ShloMosaic Walk

variable {F : FTy → Type} [FloatOps F] {α β : Type}

/-- A loop that spreads an operand: 64 rows of a head to 32 pairs, 40 pairs apart. -/
theorem spread {N : Nat} {off : Fin N → Fin 2 → Nat} {off'' : Fin N → Fin 3 → Nat}
    {inb : ∀ t a, off t a + (![64, 128] : Fin 2 → Nat) a ≤ (![7168, 128] : Fin 2 → Nat) a}
    {inb' : ∀ t a, off'' t a + (![32, 2, 128] : Fin 3 → Nat) a ≤ (![4480, 2, 128] : Fin 3 → Nat) a}
    {V : Fin N → (⟨2, ![64, 128]⟩ : Shape).Idx → α} {h h' h'' h0 h1} {X Z : (⟨3, ![4480, 2, 128]⟩ : Shape).Idx → α}
    (hN : N = 112) (ho : ∀ t, off t = ![64 * t.val, 0]) (ho' : ∀ t, off'' t = ![40 * t.val, 0, 0]) (C : (⟨2, ![7168, 128]⟩ : Shape).Idx → β) (g : β → α)
    (hZ : Z = iter (fun t X => (Rect.unit (s := ⟨3, ![4480, 2, 128]⟩) (off'' t) ![32, 2, 128] (inb' t)).overlay X
      (interleaveRows ⟨3, ![32, 2, 128]⟩ (shapeCast ⟨3, ![32, 1, 128]⟩ (rowsOfParity 0 ⟨2, ![32, 128]⟩ (V t) h0) h)
        (shapeCast ⟨3, ![32, 1, 128]⟩ (rowsOfParity 1 ⟨2, ![32, 128]⟩ (V t) h1) h') h'')) N X)
    (hV : ∀ t x, V t x = g (C ((Rect.unit (s := ⟨2, ![7168, 128]⟩) (off t) ![64, 128] (inb t)).toLoadRect.idx x)))
    (p : (⟨3, ![4480, 2, 128]⟩ : Shape).Idx) (i : (⟨2, ![7168, 128]⟩ : Shape).Idx) (e0 : (p 0 : Nat) = 40 * ((i 0 : Nat) / 64) + (i 0 : Nat) % 64 / 2) (e1 : (p 1 : Nat) = (i 0 : Nat) % 2)
    (e2 : (p 2 : Nat) = i 1) : Z p = g (C i) := by
  have hi0 : (i 0 : Nat) < 7168 := (i 0).isLt
  have hi1 : (i 1 : Nat) < 128 := (i 1).isLt
  refine (rows3 ho' hZ p ⟨(i 0 : Nat) / 64, by omega⟩
    (mk3 ((i 0 : Nat) % 64 / 2) ((i 0 : Nat) % 2) (i 1) (by omega) (by omega) hi1) e0 e1 e2).trans ?_
  refine (packed _ (mk2 ((i 0 : Nat) % 64) (i 1) (by omega) hi1) ?_ rfl).trans ?_
  · show (i 0 : Nat) % 64 = 2 * ((i 0 : Nat) % 64 / 2) + (i 0 : Nat) % 2
    omega
  rw [hV]
  refine congrArg (fun j => g (C j)) (ext2 ?_ ?_)
  · show off _ 0 + 1 * ((i 0 : Nat) % 64) = i 0
    rw [ho]
    show 64 * ((i 0 : Nat) / 64) + 1 * ((i 0 : Nat) % 64) = i 0
    omega
  · show off _ 1 + 1 * (i 1 : Nat) = i 1
    rw [ho]
    show 0 + 1 * (i 1 : Nat) = i 1
    omega

/-- One row of every head's pair, transposed: heads as lanes. -/
theorem heads {A : (⟨3, ![4480, 2, 128]⟩ : Shape).Idx → F .bf16} {off : Fin 3 → Nat} {inb} {q : Fin 2} {z : (⟨2, ![16, 128]⟩ : Shape).Idx → F .f32} {h h' hb hc ht} {t : Nat}
    (ho : off = ![t, 0, 0]) (j : (⟨2, ![128, 128]⟩ : Shape).Idx) (p : (⟨3, ![4480, 2, 128]⟩ : Shape).Idx) (hj : (j 1 : Nat) < 112) (e0 : (p 0 : Nat) = t + 40 * (j 1 : Nat))
    (e1 : (p 1 : Nat) = q) (e2 : (p 2 : Nat) = j 0) :
    transpose ⟨2, ![128, 128]⟩ [1, 0] (concatenate ⟨2, ![128, 128]⟩ 0 [⟨⟨2, ![112, 128]⟩, extf .f32 (shapeCast ⟨2, ![112, 128]⟩ (rowsOfParity q ⟨3, ![112, 1, 128]⟩
      (fun x => A ((⟨off, ![112, 2, 128], ![40, 1, 1], inb⟩ : LoadRect ⟨3, ![4480, 2, 128]⟩).idx x)) h) h') hb⟩, ⟨⟨2, ![16, 128]⟩, z⟩] hc) ht j =
      FloatOps.extf .f32 hb (A p) := by
  have hj0 : (j 0 : Nat) < 128 := (j 0).isLt
  refine (padT _ z hc ht j (mk2 (j 1) (j 0) hj hj0) rfl rfl).trans ?_
  refine congrArg (FloatOps.extf .f32 hb) ?_
  refine (unpack q _ h h' _ (mk3 (j 1) q (j 0) hj q.isLt hj0) rfl rfl rfl).trans ?_
  refine congrArg A (ext3 ?_ ?_ ?_)
  · show off 0 + 40 * (j 1 : Nat) = p 0
    rw [ho]
    exact e0.symm
  · show off 1 + 1 * (q : Nat) = p 1
    rw [ho, e1]
    show 0 + 1 * (q : Nat) = q
    omega
  · show off 2 + 1 * (j 0 : Nat) = p 2
    rw [ho, e2]
    show 0 + 1 * (j 0 : Nat) = j 0
    omega

/-- The scales of a tensor, transposed: heads as lanes. -/
theorem scales {A : (⟨2, ![112, 128]⟩ : Shape).Idx → F .f32} {inb : ∀ a, (![0, 0] : Fin 2 → Nat) a + (![112, 128] : Fin 2 → Nat) a ≤ (![112, 128] : Fin 2 → Nat) a}
    {z : (⟨2, ![16, 128]⟩ : Shape).Idx → F .f32} {h} {hc : Shape.Concatenates [⟨2, ![112, 128]⟩, ⟨2, ![16, 128]⟩] ⟨2, ![128, 128]⟩ 0} {ht} (j : (⟨2, ![128, 128]⟩ : Shape).Idx) (s : (⟨2, ![112, 128]⟩ : Shape).Idx) (e0 : (s 0 : Nat) = j 1)
    (e1 : (s 1 : Nat) = j 0) :
    transpose ⟨2, ![128, 128]⟩ [1, 0] (concatenate ⟨2, ![128, 128]⟩ 0 [⟨⟨2, ![112, 128]⟩, shapeCast (s := ⟨2, ![112, 128]⟩) ⟨2, ![112, 128]⟩
      (fun x => A ((Rect.unit (s := ⟨2, ![112, 128]⟩) ![0, 0] ![112, 128] inb).toLoadRect.idx x)) h⟩, ⟨⟨2, ![16, 128]⟩, z⟩] hc) ht j = A s := by
  refine (padT _ z hc ht j s e0 e1).trans ?_
  rw [shapeCast_self]
  refine congrArg A (ext2 ?_ ?_)
  · show 0 + 1 * (s 0 : Nat) = s 0
    omega
  · show 0 + 1 * (s 1 : Nat) = s 1
    omega

/-- A loop that lays two columns per trip, one row per token: entry `W i` of head `i 0 / 64`, column `i 0 % 64`, token `i 1`. -/
theorem laid {N : Nat} {off off' : Fin N → Fin 2 → Nat} {inb : ∀ t a, off t a + (![128, 128] : Fin 2 → Nat) a ≤ (![8192, 128] : Fin 2 → Nat) a}
    {inb' : ∀ t a, off' t a + (![128, 128] : Fin 2 → Nat) a ≤ (![8192, 128] : Fin 2 → Nat) a} {w w' : Fin N → (⟨2, ![128, 128]⟩ : Shape).Idx → α}
    {X Z : (⟨2, ![8192, 128]⟩ : Shape).Idx → α} (hN : N = 32) (ho : ∀ t, off t = ![128 * (2 * t.val), 0])
    (ho' : ∀ t, off' t = ![128 * (2 * t.val + 1), 0]) (W : (⟨2, ![7168, 128]⟩ : Shape).Idx → α)
    (hZ : Z = iter (fun t X => (Rect.unit (s := ⟨2, ![8192, 128]⟩) (off' t) ![128, 128] (inb' t)).overlay
      ((Rect.unit (s := ⟨2, ![8192, 128]⟩) (off t) ![128, 128] (inb t)).overlay X (w t)) (w' t)) N X)
    (hw : ∀ (t : Fin N) (j : (⟨2, ![128, 128]⟩ : Shape).Idx) (i : (⟨2, ![7168, 128]⟩ : Shape).Idx), (i 0 : Nat) = 64 * (j 1 : Nat) + 2 * t → (i 1 : Nat) = j 0 → w t j = W i)
    (hw' : ∀ (t : Fin N) (j : (⟨2, ![128, 128]⟩ : Shape).Idx) (i : (⟨2, ![7168, 128]⟩ : Shape).Idx), (i 0 : Nat) = 64 * (j 1 : Nat) + (2 * t + 1) → (i 1 : Nat) = j 0 → w' t j = W i)
    (i : (⟨2, ![7168, 128]⟩ : Shape).Idx) (p : (⟨2, ![8192, 128]⟩ : Shape).Idx) (e0 : (p 0 : Nat) = 128 * ((i 0 : Nat) % 64) + i 1) (e1 : (p 1 : Nat) = (i 0 : Nat) / 64) :
    Z p = W i := by
  have hi0 : (i 0 : Nat) < 7168 := (i 0).isLt
  have hi1 : (i 1 : Nat) < 128 := (i 1).isLt
  refine (pairs2 ho ho' hZ p ⟨(i 0 : Nat) % 64 / 2, by omega⟩ ((i 0 : Nat) % 2) (by omega)
    (mk2 (i 1) ((i 0 : Nat) / 64) hi1 (by omega)) ?_ e1).trans ?_
  · show (p 0 : Nat) = 128 * (2 * ((i 0 : Nat) % 64 / 2) + (i 0 : Nat) % 2) + i 1
    omega
  · split
    · refine hw _ _ i ?_ rfl
      show (i 0 : Nat) = 64 * ((i 0 : Nat) / 64) + 2 * ((i 0 : Nat) % 64 / 2)
      omega
    · refine hw' _ _ i ?_ rfl
      show (i 0 : Nat) = 64 * ((i 0 : Nat) / 64) + (2 * ((i 0 : Nat) % 64 / 2) + 1)
      omega

/-- The state laid out: one row per column and entry, heads as lanes. -/
theorem laidSt {N : Nat} {off off' : Fin N → Fin 2 → Nat}
    {inb : ∀ t a, (![112, 64] : Fin 2 → Nat) a = 0 ∨ off t a + (![64, 1] : Fin 2 → Nat) a * ((![112, 64] : Fin 2 → Nat) a - 1) < (![7168, 64] : Fin 2 → Nat) a}
    {inb' : ∀ t a, (![64, 128] : Fin 2 → Nat) a = 0 ∨ off' t a + (![64, 1] : Fin 2 → Nat) a * ((![64, 128] : Fin 2 → Nat) a - 1) < (![4096, 128] : Fin 2 → Nat) a}
    {sp : ∀ a, 0 < (![64, 1] : Fin 2 → Nat) a} {A : (⟨2, ![7168, 64]⟩ : Shape).Idx → F .f32} {z : (⟨2, ![16, 64]⟩ : Shape).Idx → F .f32} {h h'}
    {hc : Shape.Concatenates [⟨2, ![112, 64]⟩, ⟨2, ![16, 64]⟩] ⟨2, ![128, 64]⟩ 0} {ht} {X Z : (⟨2, ![4096, 128]⟩ : Shape).Idx → F .f32} (hN : N = 64) (ho : ∀ t, off t = ![t.val, 0]) (ho' : ∀ t, off' t = ![t.val, 0])
    (hZ : Z = iter (fun t X => (⟨(⟨off' t, ![64, 128], ![64, 1], inb' t⟩ : LoadRect ⟨2, ![4096, 128]⟩), sp⟩ : Rect ⟨2, ![4096, 128]⟩).overlay X
      (shapeCast ⟨2, ![64, 128]⟩ (transpose ⟨2, ![64, 128]⟩ [1, 0] (concatenate ⟨2, ![128, 64]⟩ 0 [⟨⟨2, ![112, 64]⟩, shapeCast (s := ⟨2, ![112, 64]⟩) ⟨2, ![112, 64]⟩
        (fun x => A ((⟨off t, ![112, 64], ![64, 1], inb t⟩ : LoadRect ⟨2, ![7168, 64]⟩).idx x)) h⟩, ⟨⟨2, ![16, 64]⟩, z⟩] hc) ht) h')) N X)
    (i : (⟨2, ![7168, 64]⟩ : Shape).Idx) (p : (⟨2, ![4096, 128]⟩ : Shape).Idx) (e0 : (p 0 : Nat) = 64 * (i 1 : Nat) + (i 0 : Nat) % 64) (e1 : (p 1 : Nat) = (i 0 : Nat) / 64) :
    Z p = A i := by
  have hi0 : (i 0 : Nat) < 7168 := (i 0).isLt
  have hi1 : (i 1 : Nat) < 64 := (i 1).isLt
  refine (strided2 hN ho' hZ p ⟨(i 0 : Nat) % 64, by omega⟩ (mk2 (i 1) ((i 0 : Nat) / 64) hi1 (by omega)) ?_ e1).trans ?_
  · show (p 0 : Nat) = (i 0 : Nat) % 64 + 64 * (i 1 : Nat)
    omega
  rw [shapeCast_self]
  refine (padT _ z hc ht _ (mk2 ((i 0 : Nat) / 64) (i 1) (by omega) hi1) rfl rfl).trans ?_
  rw [shapeCast_self]
  refine congrArg A (ext2 ?_ ?_)
  · show off _ 0 + 64 * ((i 0 : Nat) / 64) = i 0
    rw [ho]
    show (i 0 : Nat) % 64 + 64 * ((i 0 : Nat) / 64) = i 0
    omega
  · show off _ 1 + 1 * (i 1 : Nat) = i 1
    rw [ho]
    show 0 + 1 * (i 1 : Nat) = i 1
    omega

/-- The final state brought back. -/
theorem backSt {N : Nat} {off off' : Fin N → Fin 2 → Nat}
    {inb : ∀ t a, (![64, 128] : Fin 2 → Nat) a = 0 ∨ off t a + (![64, 1] : Fin 2 → Nat) a * ((![64, 128] : Fin 2 → Nat) a - 1) < (![4096, 128] : Fin 2 → Nat) a}
    {inb' : ∀ t a, (![112, 64] : Fin 2 → Nat) a = 0 ∨ off' t a + (![64, 1] : Fin 2 → Nat) a * ((![112, 64] : Fin 2 → Nat) a - 1) < (![7168, 64] : Fin 2 → Nat) a}
    {sp : ∀ a, 0 < (![64, 1] : Fin 2 → Nat) a} {S : (⟨2, ![4096, 128]⟩ : Shape).Idx → F .f32} {h h'}
    {X Z : (⟨2, ![7168, 64]⟩ : Shape).Idx → F .f32} (hN : N = 64) (ho : ∀ t, off t = ![t.val, 0]) (ho' : ∀ t, off' t = ![t.val, 0])
    (hZ : Z = iter (fun t X => (⟨(⟨off' t, ![112, 64], ![64, 1], inb' t⟩ : LoadRect ⟨2, ![7168, 64]⟩), sp⟩ : Rect ⟨2, ![7168, 64]⟩).overlay X
      (extractStridedSlice ⟨2, ![112, 64]⟩ ![0, 0] (transpose (s := ⟨2, ![64, 128]⟩) ⟨2, ![128, 64]⟩ [1, 0]
        (fun x => S ((⟨off t, ![64, 128], ![64, 1], inb t⟩ : LoadRect ⟨2, ![4096, 128]⟩).idx x)) h) h')) N X)
    (i : (⟨2, ![7168, 64]⟩ : Shape).Idx) (p : (⟨2, ![4096, 128]⟩ : Shape).Idx) (e0 : (p 0 : Nat) = 64 * (i 1 : Nat) + (i 0 : Nat) % 64) (e1 : (p 1 : Nat) = (i 0 : Nat) / 64) :
    Z i = S p := by
  have hi0 : (i 0 : Nat) < 7168 := (i 0).isLt
  have hi1 : (i 1 : Nat) < 64 := (i 1).isLt
  refine (strided2 hN ho' hZ i ⟨(i 0 : Nat) % 64, by omega⟩ (mk2 ((i 0 : Nat) / 64) (i 1) (by omega) hi1) ?_ rfl).trans ?_
  · show (i 0 : Nat) = (i 0 : Nat) % 64 + 64 * ((i 0 : Nat) / 64)
    omega
  refine (cutT _ h h' _ (mk2 (i 1) ((i 0 : Nat) / 64) hi1 (by omega)) rfl rfl).trans ?_
  refine congrArg S (ext2 ?_ ?_)
  · show off _ 0 + 64 * (i 1 : Nat) = p 0
    rw [ho]
    show (i 0 : Nat) % 64 + 64 * (i 1 : Nat) = p 0
    omega
  · show off _ 1 + 1 * ((i 0 : Nat) / 64) = p 1
    rw [ho]
    show 0 + 1 * ((i 0 : Nat) / 64) = p 1
    omega

/-- The outputs rounded and packed by pairs of rows. -/
theorem backPairs {N : Nat} {off off₁ : Fin N → Fin 2 → Nat} {off' : Fin N → Fin 3 → Nat}
    {inb : ∀ t a, (![128, 128] : Fin 2 → Nat) a = 0 ∨ off t a + (![64, 1] : Fin 2 → Nat) a * ((![128, 128] : Fin 2 → Nat) a - 1) < (![8192, 128] : Fin 2 → Nat) a}
    {inb₁ : ∀ t a, (![128, 128] : Fin 2 → Nat) a = 0 ∨ off₁ t a + (![64, 1] : Fin 2 → Nat) a * ((![128, 128] : Fin 2 → Nat) a - 1) < (![8192, 128] : Fin 2 → Nat) a}
    {inb' : ∀ t a, (![112, 2, 128] : Fin 3 → Nat) a = 0 ∨ off' t a + (![40, 1, 1] : Fin 3 → Nat) a * ((![112, 2, 128] : Fin 3 → Nat) a - 1) < (![4480, 2, 128] : Fin 3 → Nat) a}
    {sp : ∀ a, 0 < (![40, 1, 1] : Fin 3 → Nat) a} {Y : (⟨2, ![8192, 128]⟩ : Shape).Idx → F .f32} {h h' h₁ h₁' hb k k₁ k'}
    {X Z : (⟨3, ![4480, 2, 128]⟩ : Shape).Idx → F .bf16} (hN : N = 32) (ho : ∀ t, off t = ![2 * t.val, 0]) (ho₁ : ∀ t, off₁ t = ![2 * t.val + 1, 0])
    (ho' : ∀ t, off' t = ![t.val, 0, 0])
    (hZ : Z = iter (fun t X => (⟨(⟨off' t, ![112, 2, 128], ![40, 1, 1], inb' t⟩ : LoadRect ⟨3, ![4480, 2, 128]⟩), sp⟩ : Rect ⟨3, ![4480, 2, 128]⟩).overlay X
      (interleaveRows ⟨3, ![112, 2, 128]⟩
        (shapeCast ⟨3, ![112, 1, 128]⟩ (extractStridedSlice ⟨2, ![112, 128]⟩ ![0, 0] (truncf .bf16 (transpose (s := ⟨2, ![128, 128]⟩) ⟨2, ![128, 128]⟩ [1, 0]
          (fun x => Y ((⟨off t, ![128, 128], ![64, 1], inb t⟩ : LoadRect ⟨2, ![8192, 128]⟩).idx x)) h) hb) h') k)
        (shapeCast ⟨3, ![112, 1, 128]⟩ (extractStridedSlice ⟨2, ![112, 128]⟩ ![0, 0] (truncf .bf16 (transpose (s := ⟨2, ![128, 128]⟩) ⟨2, ![128, 128]⟩ [1, 0]
          (fun x => Y ((⟨off₁ t, ![128, 128], ![64, 1], inb₁ t⟩ : LoadRect ⟨2, ![8192, 128]⟩).idx x)) h₁) hb) h₁') k₁) k')) N X)
    (i : (⟨2, ![7168, 128]⟩ : Shape).Idx) (p : (⟨3, ![4480, 2, 128]⟩ : Shape).Idx) (y : (⟨2, ![8192, 128]⟩ : Shape).Idx) (e0 : (p 0 : Nat) = 40 * ((i 0 : Nat) / 64) + (i 0 : Nat) % 64 / 2)
    (e1 : (p 1 : Nat) = (i 0 : Nat) % 2) (e2 : (p 2 : Nat) = i 1) (y0 : (y 0 : Nat) = 64 * (i 1 : Nat) + (i 0 : Nat) % 64)
    (y1 : (y 1 : Nat) = (i 0 : Nat) / 64) : Z p = FloatOps.truncf .bf16 hb (Y y) := by
  have hi0 : (i 0 : Nat) < 7168 := (i 0).isLt
  have hi1 : (i 1 : Nat) < 128 := (i 1).isLt
  refine (strided3 hN ho' hZ p ⟨(i 0 : Nat) % 64 / 2, by omega⟩
    (mk3 ((i 0 : Nat) / 64) ((i 0 : Nat) % 2) (i 1) (by omega) (by omega) hi1) ?_ e1 e2).trans ?_
  · show (p 0 : Nat) = (i 0 : Nat) % 64 / 2 + 40 * ((i 0 : Nat) / 64)
    omega
  refine (pack _ _ k k₁ k' _ (mk2 ((i 0 : Nat) / 64) (i 1) (by omega) hi1) rfl rfl).trans ?_
  split
  · rename_i hq
    have hq : (i 0 : Nat) % 2 = 0 := hq
    refine congrArg (FloatOps.truncf .bf16 hb) ((cutT _ h h' _ (mk2 (i 1) ((i 0 : Nat) / 64) hi1 (by omega)) rfl rfl).trans (congrArg Y (ext2 ?_ ?_)))
    · show off _ 0 + 64 * (i 1 : Nat) = y 0
      rw [ho]
      show 2 * ((i 0 : Nat) % 64 / 2) + 64 * (i 1 : Nat) = y 0
      omega
    · show off _ 1 + 1 * ((i 0 : Nat) / 64) = y 1
      rw [ho]
      show 0 + 1 * ((i 0 : Nat) / 64) = y 1
      omega
  · rename_i hq
    have hq : ¬ (i 0 : Nat) % 2 = 0 := hq
    refine congrArg (FloatOps.truncf .bf16 hb) ((cutT _ h₁ h₁' _ (mk2 (i 1) ((i 0 : Nat) / 64) hi1 (by omega)) rfl rfl).trans (congrArg Y (ext2 ?_ ?_)))
    · show off₁ _ 0 + 64 * (i 1 : Nat) = y 0
      rw [ho₁]
      show 2 * ((i 0 : Nat) % 64 / 2) + 1 + 64 * (i 1 : Nat) = y 0
      omega
    · show off₁ _ 1 + 1 * ((i 0 : Nat) / 64) = y 1
      rw [ho₁]
      show 0 + 1 * ((i 0 : Nat) / 64) = y 1
      omega

/-- The packed outputs brought back to 64 rows per head. -/
theorem backRows {N : Nat} {off' : Fin N → Fin 2 → Nat} {off : Fin N → Fin 3 → Nat}
    {inb : ∀ t a, off t a + (![32, 2, 128] : Fin 3 → Nat) a ≤ (![4480, 2, 128] : Fin 3 → Nat) a}
    {inb' : ∀ t a, off' t a + (![64, 128] : Fin 2 → Nat) a ≤ (![7168, 128] : Fin 2 → Nat) a}
    {A : (⟨3, ![4480, 2, 128]⟩ : Shape).Idx → α} {h h' h₁ h₁' k} {X Z : (⟨2, ![7168, 128]⟩ : Shape).Idx → α} (hN : N = 112) (ho : ∀ t, off t = ![40 * t.val, 0, 0])
    (ho' : ∀ t, off' t = ![64 * t.val, 0])
    (hZ : Z = iter (fun t X => (Rect.unit (s := ⟨2, ![7168, 128]⟩) (off' t) ![64, 128] (inb' t)).overlay X
      (interleaveRows ⟨2, ![64, 128]⟩
        (shapeCast ⟨2, ![32, 128]⟩ (rowsOfParity (s := ⟨3, ![32, 2, 128]⟩) 0 ⟨3, ![32, 1, 128]⟩ (fun x => A ((Rect.unit (s := ⟨3, ![4480, 2, 128]⟩) (off t) ![32, 2, 128] (inb t)).toLoadRect.idx x)) h) h')
        (shapeCast ⟨2, ![32, 128]⟩ (rowsOfParity (s := ⟨3, ![32, 2, 128]⟩) 1 ⟨3, ![32, 1, 128]⟩ (fun x => A ((Rect.unit (s := ⟨3, ![4480, 2, 128]⟩) (off t) ![32, 2, 128] (inb t)).toLoadRect.idx x)) h₁) h₁') k)) N X)
    (i : (⟨2, ![7168, 128]⟩ : Shape).Idx) (p : (⟨3, ![4480, 2, 128]⟩ : Shape).Idx) (e0 : (p 0 : Nat) = 40 * ((i 0 : Nat) / 64) + (i 0 : Nat) % 64 / 2)
    (e1 : (p 1 : Nat) = (i 0 : Nat) % 2) (e2 : (p 2 : Nat) = i 1) : Z i = A p := by
  have hi0 : (i 0 : Nat) < 7168 := (i 0).isLt
  have hi1 : (i 1 : Nat) < 128 := (i 1).isLt
  refine (rows2 ho' hZ i ⟨(i 0 : Nat) / 64, by omega⟩ (mk2 ((i 0 : Nat) % 64) (i 1) (by omega) hi1) ?_ rfl).trans ?_
  · show (i 0 : Nat) = 64 * ((i 0 : Nat) / 64) + (i 0 : Nat) % 64
    omega
  have key : ∀ q : Fin 2, (q : Nat) = (i 0 : Nat) % 2 →
      A ((Rect.unit (s := ⟨3, ![4480, 2, 128]⟩) (off ⟨(i 0 : Nat) / 64, by omega⟩) ![32, 2, 128] (inb _)).toLoadRect.idx
        (mk3 ((i 0 : Nat) % 64 / 2) q (i 1) (by omega) q.isLt hi1)) = A p := by
    intro q hq
    refine congrArg A (ext3 ?_ ?_ ?_)
    · show off _ 0 + 1 * ((i 0 : Nat) % 64 / 2) = p 0
      rw [ho]
      show 40 * ((i 0 : Nat) / 64) + 1 * ((i 0 : Nat) % 64 / 2) = p 0
      omega
    · show off _ 1 + 1 * (q : Nat) = p 1
      rw [ho]
      show 0 + 1 * (q : Nat) = p 1
      omega
    · show off _ 2 + 1 * (i 1 : Nat) = p 2
      rw [ho]
      show 0 + 1 * (i 1 : Nat) = p 2
      omega
  refine (inter2 _ _ k _ (mk2 ((i 0 : Nat) % 64 / 2) (i 1) (by omega) hi1) rfl rfl).trans ?_
  split
  · rename_i hq
    have hq : (i 0 : Nat) % 64 % 2 = 0 := hq
    exact (unpack 0 _ h h' _ (mk3 ((i 0 : Nat) % 64 / 2) (0 : Fin 2) (i 1) (by omega) (by decide) hi1) rfl rfl rfl).trans
      (key 0 (by show 0 = _; omega))
  · rename_i hq
    have hq : ¬ (i 0 : Nat) % 64 % 2 = 0 := hq
    exact (unpack 1 _ h₁ h₁' _ (mk3 ((i 0 : Nat) % 64 / 2) (1 : Fin 2) (i 1) (by omega) (by decide) hi1) rfl rfl rfl).trans
      (key 1 (by show 1 = _; omega))

end Lay
-- ==== Proof.Body.lean ====
/-
  The kernel's body, run: what its two output buffers hold afterwards, in terms of its ten input buffers.
-/
module

public import proofs.«01_k».proof.Proof.TokLoop
public import proofs.«01_k».proof.Proof.Layers

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Walk Tok

variable {F : FTy → Type} [FloatOps F]

local notation "𝕄" => MT nD τ sig Unit (Elt F) ℕ (UR sig nD τ) ℕ

/-- The scale of an entry: its head's, at its token. -/
def scaleAt (A : Vec F S112x128 .f32) (i : S7168x128.Idx) : F .f32 :=
  A (Lay.mk2 ((i 0 : Nat) / 64) (i 1) (Nat.div_lt_of_lt_mul (i 0).isLt) (i 1).isLt)

/-- A stored low-precision entry, widened and scaled. -/
def wide (A : Vec F S7168x128 .fp8e4m3) (S : Vec F S112x128 .f32) (i : S7168x128.Idx) : F .f32 :=
  FloatOps.mulf (FloatOps.extf .f32 bitsLt_bf16_f32 (FloatOps.extf .bf16 bitsLt_fp8e4m3_bf16 (A i))) (scaleAt S i)

/-- A bf16 entry, widened. -/
def wide16 (A : Vec F S7168x128 .bf16) (i : S7168x128.Idx) : F .f32 := FloatOps.extf .f32 bitsLt_bf16_f32 (A i)

/-- A decay. -/
def decay (A : Vec F S7168x128 .bf16) (i : S7168x128.Idx) : F .f32 :=
  FloatOps.exp (FloatOps.subf (Scalar.ofBits .f32 0x00000000#32) (FloatOps.exp (wide16 A i)))

/-- A removal key, negated. -/
def negKey (A : Vec F S7168x128 .bf16) (i : S7168x128.Idx) : F .f32 :=
  FloatOps.subf (Scalar.ofBits .f32 0x00000000#32) (wide16 A i)

/-- A removal key times its rate. -/
def rate (A B : Vec F S7168x128 .bf16) (i : S7168x128.Idx) : F .f32 := FloatOps.mulf (wide16 A i) (wide16 B i)

/-- The rows of an operand buffer hold, for every head, the entries `W`. -/
def Holds (A : Nat → Nat → F .f32) (W : S7168x128.Idx → F .f32) : Prop :=
  ∀ i : S7168x128.Idx, A (128 * ((i 0 : Nat) % 64) + i 1) ((i 0 : Nat) / 64) = W i

/-- What the body leaves in its output buffers. -/
def Post (A0 A1 A2 : Vec F S7168x128 .fp8e4m3) (A3 A4 A5 : Vec F S112x128 .f32) (A6 A7 A8 : Vec F S7168x128 .bf16)
    (A9 : Vec F S7168x64 .f32) (Y10 : Vec F S7168x128 .bf16) (Y11 : Vec F S7168x64 .f32) : Prop :=
  ∃ rr kr vr wr ar br st : Nat → Nat → F .f32,
    Holds rr (wide A0 A3) ∧ Holds kr (wide A1 A4) ∧ Holds vr (wide A2 A5) ∧
    Holds wr (decay A6) ∧ Holds ar (negKey A7) ∧ Holds br (rate A7 A8) ∧
    (∀ i : S7168x64.Idx, st (64 * (i 1 : Nat) + (i 0 : Nat) % 64) ((i 0 : Nat) / 64) = A9 i) ∧
    (∀ (i : S7168x128.Idx) (t : Fin k0_t12_loop.trips), (i 1 : Nat) = t →
      Y10 i = FloatOps.truncf .bf16 bitsLt_bf16_f32 (out t rr kr vr wr ar br (stN kr vr wr ar br st t) ((i 0 : Nat) % 64) ((i 0 : Nat) / 64))) ∧
    (∀ i : S7168x64.Idx, Y11 i = stN kr vr wr ar br st 128 (64 * (i 1 : Nat) + (i 0 : Nat) % 64) ((i 0 : Nat) / 64))

section Rules

variable {nD : Nat} {τ : Topo} {sig : RefSig} {Ix : Type} [DecidableEq Ix]
variable {Val : EltTy → Type} {Name : Type} [DecidableEq Name]
variable {U : Type} [URA U] {Lvl : Type} [Preorder Lvl] {Λ : Labels}
variable {defs : Defs nD τ sig Val Λ} {𝒱 : Variants} {bd : Option 𝒱.V} {E : Set Name} {c : Dev nD} {α β : Type}

/-- A walk enters a program that is bound before the rest. -/
theorem Go.enter {R : sProp (MT nD τ sig Ix Val Name U Lvl)} {p : Prog (TpuEff nD τ sig Val Λ .tc) α} {k : α → Prog (TpuEff nD τ sig Val Λ .tc) β}
    {Q : β → sProp (MT nD τ sig Ix Val Name U Lvl)}
    (hp : Go defs 𝒱 bd E c R p (fun a => wp frame (wpE defs 𝒱 (c : Thread nD τ) bd) E (k a) Q)) : Go defs 𝒱 bd E c R (p >>= k) Q := by
  unfold Go at *
  rw [wp_bind]
  exact hp

/-- A walk leaves such a program at its end. -/
theorem Go.leave {R : sProp (MT nD τ sig Ix Val Name U Lvl)} {a : α} {k : α → Prog (TpuEff nD τ sig Val Λ .tc) β}
    {Q : β → sProp (MT nD τ sig Ix Val Name U Lvl)}
    (hk : Go defs 𝒱 bd E c R (k a) Q) : Go defs 𝒱 bd E c R (pure a) (fun a => wp frame (wpE defs 𝒱 (c : Thread nD τ) bd) E (k a) Q) := by
  unfold Go at hk
  exact Go.ret hk

end Rules

/-- A reshape to the same shape, at an index. -/
theorem cast_self {s : Shape} {α : Type} (v : s.Idx → α) (h : s.ShapeCasts s) (j : s.Idx) : shapeCast s v h j = v j := by
  rw [shapeCast_self]

/-- Row `r` of head `h` is stored at pair `40 h + r / 2`, half `r % 2`. -/
def Spread {α : Type} (A : S4480x2x128.Idx → α) (W : S7168x128.Idx → α) : Prop :=
  ∀ (i : S7168x128.Idx) (p : S4480x2x128.Idx), (p 0 : Nat) = 40 * ((i 0 : Nat) / 64) + (i 0 : Nat) % 64 / 2 → (p 1 : Nat) = (i 0 : Nat) % 2 →
    (p 2 : Nat) = i 1 → A p = W i

/-- Column `i 0 % 64` of head `i 0 / 64` at token `i 1` is stored at row `128 * column + token`, with the head as lane. -/
def Laid {α : Type} (A : S8192x128.Idx → α) (W : S7168x128.Idx → α) : Prop :=
  ∀ (i : S7168x128.Idx) (p : S8192x128.Idx), (p 0 : Nat) = 128 * ((i 0 : Nat) % 64) + i 1 → (p 1 : Nat) = (i 0 : Nat) / 64 → A p = W i

/-- Where the entry `i` of an operand is laid. -/
def at_lane (i : S7168x128.Idx) : S8192x128.Idx :=
  Lay.mk2 (128 * ((i 0 : Nat) % 64) + i 1) ((i 0 : Nat) / 64)
    (by have h : (i 1 : Nat) < 128 := (i 1).isLt
        omega)
    (by have h : (i 0 : Nat) < 7168 := (i 0).isLt
        omega)

/-- Where the entry `i` of the state is laid. -/
def at_entry (i : S7168x64.Idx) : S4096x128.Idx :=
  Lay.mk2 (64 * (i 1 : Nat) + (i 0 : Nat) % 64) ((i 0 : Nat) / 64)
    (by have h : (i 1 : Nat) < 64 := (i 1).isLt
        omega)
    (by have h : (i 0 : Nat) < 7168 := (i 0).isLt
        omega)

/-- One row of every head, transposed: the entries spread before, widened. -/
theorem row_wide {A : S4480x2x128.Idx → F .bf16} {W : S7168x128.Idx → F .bf16} (hA : Spread A W) {off : Fin 3 → Nat} {inb} {q : Fin 2}
    {z : S16x128.Idx → F .f32} {h h' hb hc ht} {t : Nat} (ho : off = ![t, 0, 0]) (hlt : t < 32) (j : S128x128.Idx) (i : S7168x128.Idx)
    (e0 : (i 0 : Nat) = 64 * (j 1 : Nat) + (2 * t + q)) (e1 : (i 1 : Nat) = j 0) :
    transpose S128x128 [1, 0] (concatenate S128x128 0 [⟨S112x128, extf .f32 (shapeCast S112x128 (rowsOfParity q S112x1x128
      (fun x => A ((⟨off, ![112, 2, 128], ![40, 1, 1], inb⟩ : LoadRect S4480x2x128).idx x)) h) h') hb⟩, ⟨S16x128, z⟩] hc) ht j =
      FloatOps.extf .f32 hb (W i) := by
  have hq := q.isLt
  have hi0 : (i 0 : Nat) < 7168 := (i 0).isLt
  have hj1 : (j 1 : Nat) < 112 := by omega
  refine (Lay.heads ho j (Lay.mk3 (t + 40 * (j 1 : Nat)) (q : Nat) (i 1) (by omega) hq (i 1).isLt) hj1 rfl rfl e1).trans ?_
  refine congrArg (FloatOps.extf .f32 hb) (hA i _ ?_ ?_ rfl)
  · show t + 40 * (j 1 : Nat) = _
    omega
  · show (q : Nat) = _
    omega

/-- The same, times the scales. -/
theorem row_scaled {A : S4480x2x128.Idx → F .bf16} {X : Vec F S7168x128 .fp8e4m3} {S : Vec F S112x128 .f32}
    (hA : Spread A (fun i => FloatOps.extf .bf16 bitsLt_fp8e4m3_bf16 (X i))) {off : Fin 3 → Nat} {inb inb'} {q : Fin 2}
    {z z' : S16x128.Idx → F .f32} {h h' h'' h₃ hc hc' ht ht'} {t : Nat} (ho : off = ![t, 0, 0]) (hlt : t < 32) (j : S128x128.Idx) (i : S7168x128.Idx)
    (e0 : (i 0 : Nat) = 64 * (j 1 : Nat) + (2 * t + q)) (e1 : (i 1 : Nat) = j 0) :
    shapeCast S128x128 (mulf (transpose S128x128 [1, 0] (concatenate S128x128 0 [⟨S112x128, extf .f32 (shapeCast S112x128 (rowsOfParity q S112x1x128
      (fun x => A ((⟨off, ![112, 2, 128], ![40, 1, 1], inb⟩ : LoadRect S4480x2x128).idx x)) h) h') bitsLt_bf16_f32⟩, ⟨S16x128, z⟩] hc) ht)
      (transpose S128x128 [1, 0] (concatenate S128x128 0 [⟨S112x128, shapeCast S112x128
      (fun x => S ((Rect.unit (s := S112x128) ![0, 0] S112x128.size inb').toLoadRect.idx x)) h''⟩, ⟨S16x128, z'⟩] hc') ht')) h₃ j = wide X S i := by
  have hq := q.isLt
  have hi0 : (i 0 : Nat) < 7168 := (i 0).isLt
  refine (cast_self _ _ j).trans ?_
  refine congrArg₂ FloatOps.mulf (row_wide hA ho hlt j i e0 e1) (Lay.scales j _ ?_ e1)
  show (i 0 : Nat) / 64 = j 1
  omega

/-- The body's 23 buffers, with their contents. -/
def bodyR (c : Dev nD) (arg0 : Memref sig .tc .vmem S7168x128 .fp8e4m3) (arg1 : Memref sig .tc .vmem S7168x128 .fp8e4m3) (arg2 : Memref sig .tc .vmem S7168x128 .fp8e4m3) (arg3 : Memref sig .tc .vmem S112x128 .f32) (arg4 : Memref sig .tc .vmem S112x128 .f32) (arg5 : Memref sig .tc .vmem S112x128 .f32) (arg6 : Memref sig .tc .vmem S7168x128 .bf16) (arg7 : Memref sig .tc .vmem S7168x128 .bf16) (arg8 : Memref sig .tc .vmem S7168x128 .bf16) (arg9 : Memref sig .tc .vmem S7168x64 .f32) (arg10 : Memref sig .tc .vmem S7168x128 .bf16) (arg11 : Memref sig .tc .vmem S7168x64 .f32) (arg12 : Memref sig .tc .vmem S4480x2x128 .bf16) (arg13 : Memref sig .tc .vmem S4480x2x128 .bf16) (arg14 : Memref sig .tc .vmem S4480x2x128 .bf16) (arg15 : Memref sig .tc .vmem S8192x128 .f32) (arg16 : Memref sig .tc .vmem S8192x128 .f32) (arg17 : Memref sig .tc .vmem S8192x128 .f32) (arg18 : Memref sig .tc .vmem S8192x128 .f32) (arg19 : Memref sig .tc .vmem S8192x128 .f32) (arg20 : Memref sig .tc .vmem S8192x128 .f32) (arg21 : Memref sig .tc .vmem S4096x128 .f32) (arg22 : Memref sig .tc .vmem S8192x128 .f32) (X0 : Vec F S7168x128 .fp8e4m3) (X1 : Vec F S7168x128 .fp8e4m3) (X2 : Vec F S7168x128 .fp8e4m3) (X3 : Vec F S112x128 .f32) (X4 : Vec F S112x128 .f32) (X5 : Vec F S112x128 .f32) (X6 : Vec F S7168x128 .bf16) (X7 : Vec F S7168x128 .bf16) (X8 : Vec F S7168x128 .bf16) (X9 : Vec F S7168x64 .f32) (X10 : Vec F S7168x128 .bf16) (X11 : Vec F S7168x64 .f32) (X12 : Vec F S4480x2x128 .bf16) (X13 : Vec F S4480x2x128 .bf16) (X14 : Vec F S4480x2x128 .bf16) (X15 : Vec F S8192x128 .f32) (X16 : Vec F S8192x128 .f32) (X17 : Vec F S8192x128 .f32) (X18 : Vec F S8192x128 .f32) (X19 : Vec F S8192x128 .f32) (X20 : Vec F S8192x128 .f32) (X21 : Vec F S4096x128 .f32) (X22 : Vec F S8192x128 .f32) : sProp 𝕄 :=
  iprop(owns (c : Thread nD τ) arg21 fullShare (X21 : Vec F S4096x128 .f32) ∗ owns (c : Thread nD τ) arg19 fullShare (X19 : Vec F S8192x128 .f32) ∗ owns (c : Thread nD τ) arg18 fullShare (X18 : Vec F S8192x128 .f32) ∗ owns (c : Thread nD τ) arg20 fullShare (X20 : Vec F S8192x128 .f32) ∗ owns (c : Thread nD τ) arg16 fullShare (X16 : Vec F S8192x128 .f32) ∗ owns (c : Thread nD τ) arg15 fullShare (X15 : Vec F S8192x128 .f32) ∗ owns (c : Thread nD τ) arg17 fullShare (X17 : Vec F S8192x128 .f32) ∗ owns (c : Thread nD τ) arg22 fullShare (X22 : Vec F S8192x128 .f32) ∗ owns (c : Thread nD τ) arg12 fullShare (X12 : Vec F S4480x2x128 .bf16) ∗ owns (c : Thread nD τ) arg13 fullShare (X13 : Vec F S4480x2x128 .bf16) ∗ owns (c : Thread nD τ) arg14 fullShare (X14 : Vec F S4480x2x128 .bf16) ∗ owns (c : Thread nD τ) arg0 fullShare (X0 : Vec F S7168x128 .fp8e4m3) ∗ owns (c : Thread nD τ) arg1 fullShare (X1 : Vec F S7168x128 .fp8e4m3) ∗ owns (c : Thread nD τ) arg2 fullShare (X2 : Vec F S7168x128 .fp8e4m3) ∗ owns (c : Thread nD τ) arg3 fullShare (X3 : Vec F S112x128 .f32) ∗ owns (c : Thread nD τ) arg4 fullShare (X4 : Vec F S112x128 .f32) ∗ owns (c : Thread nD τ) arg5 fullShare (X5 : Vec F S112x128 .f32) ∗ owns (c : Thread nD τ) arg6 fullShare (X6 : Vec F S7168x128 .bf16) ∗ owns (c : Thread nD τ) arg7 fullShare (X7 : Vec F S7168x128 .bf16) ∗ owns (c : Thread nD τ) arg8 fullShare (X8 : Vec F S7168x128 .bf16) ∗ owns (c : Thread nD τ) arg9 fullShare (X9 : Vec F S7168x64 .f32) ∗ owns (c : Thread nD τ) arg10 fullShare (X10 : Vec F S7168x128 .bf16) ∗ owns (c : Thread nD τ) arg11 fullShare (X11 : Vec F S7168x64 .f32))

set_option maxHeartbeats 0 in
/-- The body, from any contents of its buffers. -/
theorem body_go {c : Dev nD} {arg0 : Memref sig .tc .vmem S7168x128 .fp8e4m3} {harg0 : arg0.IsWhole} {arg1 : Memref sig .tc .vmem S7168x128 .fp8e4m3} {harg1 : arg1.IsWhole} {arg2 : Memref sig .tc .vmem S7168x128 .fp8e4m3} {harg2 : arg2.IsWhole} {arg3 : Memref sig .tc .vmem S112x128 .f32} {harg3 : arg3.IsWhole} {arg4 : Memref sig .tc .vmem S112x128 .f32} {harg4 : arg4.IsWhole} {arg5 : Memref sig .tc .vmem S112x128 .f32} {harg5 : arg5.IsWhole} {arg6 : Memref sig .tc .vmem S7168x128 .bf16} {harg6 : arg6.IsWhole} {arg7 : Memref sig .tc .vmem S7168x128 .bf16} {harg7 : arg7.IsWhole} {arg8 : Memref sig .tc .vmem S7168x128 .bf16} {harg8 : arg8.IsWhole} {arg9 : Memref sig .tc .vmem S7168x64 .f32} {harg9 : arg9.IsWhole} {arg10 : Memref sig .tc .vmem S7168x128 .bf16} {harg10 : arg10.IsWhole} {arg11 : Memref sig .tc .vmem S7168x64 .f32} {harg11 : arg11.IsWhole} {arg12 : Memref sig .tc .vmem S4480x2x128 .bf16} {harg12 : arg12.IsWhole} {arg13 : Memref sig .tc .vmem S4480x2x128 .bf16} {harg13 : arg13.IsWhole} {arg14 : Memref sig .tc .vmem S4480x2x128 .bf16} {harg14 : arg14.IsWhole} {arg15 : Memref sig .tc .vmem S8192x128 .f32} {harg15 : arg15.IsWhole} {arg16 : Memref sig .tc .vmem S8192x128 .f32} {harg16 : arg16.IsWhole} {arg17 : Memref sig .tc .vmem S8192x128 .f32} {harg17 : arg17.IsWhole} {arg18 : Memref sig .tc .vmem S8192x128 .f32} {harg18 : arg18.IsWhole} {arg19 : Memref sig .tc .vmem S8192x128 .f32} {harg19 : arg19.IsWhole} {arg20 : Memref sig .tc .vmem S8192x128 .f32} {harg20 : arg20.IsWhole} {arg21 : Memref sig .tc .vmem S4096x128 .f32} {harg21 : arg21.IsWhole} {arg22 : Memref sig .tc .vmem S8192x128 .f32} {harg22 : arg22.IsWhole}
    {X0 : Vec F S7168x128 .fp8e4m3} {X1 : Vec F S7168x128 .fp8e4m3} {X2 : Vec F S7168x128 .fp8e4m3} {X3 : Vec F S112x128 .f32} {X4 : Vec F S112x128 .f32} {X5 : Vec F S112x128 .f32} {X6 : Vec F S7168x128 .bf16} {X7 : Vec F S7168x128 .bf16} {X8 : Vec F S7168x128 .bf16} {X9 : Vec F S7168x64 .f32} {X10 : Vec F S7168x128 .bf16} {X11 : Vec F S7168x64 .f32} {X12 : Vec F S4480x2x128 .bf16} {X13 : Vec F S4480x2x128 .bf16} {X14 : Vec F S4480x2x128 .bf16} {X15 : Vec F S8192x128 .f32} {X16 : Vec F S8192x128 .f32} {X17 : Vec F S8192x128 .f32} {X18 : Vec F S8192x128 .f32} {X19 : Vec F S8192x128 .f32} {X20 : Vec F S8192x128 .f32} {X21 : Vec F S4096x128 .f32} {X22 : Vec F S8192x128 .f32} :
    Go (defs₀ (F := F)) Variants.none none Set.univ c (bodyR c arg0 arg1 arg2 arg3 arg4 arg5 arg6 arg7 arg8 arg9 arg10 arg11 arg12 arg13 arg14 arg15 arg16 arg17 arg18 arg19 arg20 arg21 arg22 X0 X1 X2 X3 X4 X5 X6 X7 X8 X9 X10 X11 X12 X13 X14 X15 X16 X17 X18 X19 X20 X21 X22)
      (cc0_rwkv7_sequential arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) (fun _ => iprop(∃ Y10 Y11, ⌜Post X0 X1 X2 X3 X4 X5 X6 X7 X8 X9 Y10 Y11⌝ ∗ ∃ Y12 Y13 Y14 Y15 Y16 Y17 Y18 Y19 Y20 Y21 Y22, bodyR c arg0 arg1 arg2 arg3 arg4 arg5 arg6 arg7 arg8 arg9 arg10 arg11 arg12 arg13 arg14 arg15 arg16 arg17 arg18 arg19 arg20 arg21 arg22 X0 X1 X2 X3 X4 X5 X6 X7 X8 X9 Y10 Y11 Y12 Y13 Y14 Y15 Y16 Y17 Y18 Y19 Y20 Y21 Y22)) := by
  delta bodyR cc0_rwkv7_sequential
  with_reducible apply Go.enter
  delta k0_part259
  with_reducible apply Go.loop1 arg12
  case hb =>
    intro t
    intros
    repeat' (first
      | (with_reducible apply Run.load)
      | (with_reducible apply Run.store)
      | (with_reducible apply Run.bind)
      | (with_reducible exact Run.ret)
      | exact Run.ret)
  case hk =>
  intro P15 hZ
  have hP15 : Spread P15 (fun i => FloatOps.extf .bf16 bitsLt_fp8e4m3_bf16 (X0 i)) := fun i p e0 e1 e2 => Lay.spread Off.trips1 Off.off1 Off.off2 X0 (FloatOps.extf .bf16 bitsLt_fp8e4m3_bf16) hZ (fun t x => congrArg (FloatOps.extf .bf16 bitsLt_fp8e4m3_bf16) (cast_self _ _ x)) p i e0 e1 e2
  clear hZ
  with_reducible apply Go.loadv
  with_reducible apply Go.loop1 arg15
  case hb =>
    intro t
    intros
    repeat' (first
      | (with_reducible apply Run.load)
      | (with_reducible apply Run.store)
      | (with_reducible apply Run.bind)
      | (with_reducible exact Run.ret)
      | exact Run.ret)
  case hk =>
  intro Z15 hZ
  have hZ15 : Laid Z15 (wide X0 X3) := fun i p e0 e1 => Lay.laid Off.trips2 Off.off4 Off.off5 (wide X0 X3) hZ (fun t j i => row_scaled hP15 (q := 0) (Off.off3 t) (lt_of_lt_of_eq t.isLt Off.trips2) j i) (fun t j i => row_scaled hP15 (q := 1) (Off.off3 t) (lt_of_lt_of_eq t.isLt Off.trips2) j i) i p e0 e1
  clear hZ
  with_reducible apply Go.loop1 arg12
  case hb =>
    intro t
    intros
    repeat' (first
      | (with_reducible apply Run.load)
      | (with_reducible apply Run.store)
      | (with_reducible apply Run.bind)
      | (with_reducible exact Run.ret)
      | exact Run.ret)
  case hk =>
  intro P16 hZ
  have hP16 : Spread P16 (fun i => FloatOps.extf .bf16 bitsLt_fp8e4m3_bf16 (X1 i)) := fun i p e0 e1 e2 => Lay.spread Off.trips3 Off.off6 Off.off7 X1 (FloatOps.extf .bf16 bitsLt_fp8e4m3_bf16) hZ (fun t x => congrArg (FloatOps.extf .bf16 bitsLt_fp8e4m3_bf16) (cast_self _ _ x)) p i e0 e1 e2
  clear hZ
  with_reducible apply Go.loadv
  with_reducible apply Go.loop1 arg16
  case hb =>
    intro t
    intros
    repeat' (first
      | (with_reducible apply Run.load)
      | (with_reducible apply Run.store)
      | (with_reducible apply Run.bind)
      | (with_reducible exact Run.ret)
      | exact Run.ret)
  case hk =>
  intro Z16 hZ
  have hZ16 : Laid Z16 (wide X1 X4) := fun i p e0 e1 => Lay.laid Off.trips4 Off.off9 Off.off10 (wide X1 X4) hZ (fun t j i => row_scaled hP16 (q := 0) (Off.off8 t) (lt_of_lt_of_eq t.isLt Off.trips4) j i) (fun t j i => row_scaled hP16 (q := 1) (Off.off8 t) (lt_of_lt_of_eq t.isLt Off.trips4) j i) i p e0 e1
  clear hZ
  with_reducible apply Go.loop1 arg12
  case hb =>
    intro t
    intros
    repeat' (first
      | (with_reducible apply Run.load)
      | (with_reducible apply Run.store)
      | (with_reducible apply Run.bind)
      | (with_reducible exact Run.ret)
      | exact Run.ret)
  case hk =>
  intro P17 hZ
  have hP17 : Spread P17 (fun i => FloatOps.extf .bf16 bitsLt_fp8e4m3_bf16 (X2 i)) := fun i p e0 e1 e2 => Lay.spread Off.trips5 Off.off11 Off.off12 X2 (FloatOps.extf .bf16 bitsLt_fp8e4m3_bf16) hZ (fun t x => congrArg (FloatOps.extf .bf16 bitsLt_fp8e4m3_bf16) (cast_self _ _ x)) p i e0 e1 e2
  clear hZ
  with_reducible apply Go.loadv
  with_reducible apply Go.loop1 arg17
  case hb =>
    intro t
    intros
    repeat' (first
      | (with_reducible apply Run.load)
      | (with_reducible apply Run.store)
      | (with_reducible apply Run.bind)
      | (with_reducible exact Run.ret)
      | exact Run.ret)
  case hk =>
  intro Z17 hZ
  have hZ17 : Laid Z17 (wide X2 X5) := fun i p e0 e1 => Lay.laid Off.trips6 Off.off14 Off.off15 (wide X2 X5) hZ (fun t j i => row_scaled hP17 (q := 0) (Off.off13 t) (lt_of_lt_of_eq t.isLt Off.trips6) j i) (fun t j i => row_scaled hP17 (q := 1) (Off.off13 t) (lt_of_lt_of_eq t.isLt Off.trips6) j i) i p e0 e1
  clear hZ
  with_reducible apply Go.leave
  with_reducible apply Go.loop1 arg12
  case hb =>
    intro t
    intros
    repeat' (first
      | (with_reducible apply Run.load)
      | (with_reducible apply Run.store)
      | (with_reducible apply Run.bind)
      | (with_reducible exact Run.ret)
      | exact Run.ret)
  case hk =>
  intro Q12 hZ
  have hQ12 : Spread Q12 X6 := fun i p e0 e1 e2 => Lay.spread Off.trips7 Off.off16 Off.off17 X6 id hZ (fun t x => cast_self _ _ x) p i e0 e1 e2
  clear hZ
  with_reducible apply Go.loop1 arg13
  case hb =>
    intro t
    intros
    repeat' (first
      | (with_reducible apply Run.load)
      | (with_reducible apply Run.store)
      | (with_reducible apply Run.bind)
      | (with_reducible exact Run.ret)
      | exact Run.ret)
  case hk =>
  intro Q13 hZ
  have hQ13 : Spread Q13 X7 := fun i p e0 e1 e2 => Lay.spread Off.trips8 Off.off18 Off.off19 X7 id hZ (fun t x => cast_self _ _ x) p i e0 e1 e2
  clear hZ
  with_reducible apply Go.loop1 arg14
  case hb =>
    intro t
    intros
    repeat' (first
      | (with_reducible apply Run.load)
      | (with_reducible apply Run.store)
      | (with_reducible apply Run.bind)
      | (with_reducible exact Run.ret)
      | exact Run.ret)
  case hk =>
  intro Q14 hZ
  have hQ14 : Spread Q14 X8 := fun i p e0 e1 e2 => Lay.spread Off.trips9 Off.off20 Off.off21 X8 id hZ (fun t x => cast_self _ _ x) p i e0 e1 e2
  clear hZ
  apply Go.loop3 (fun (a b d : Vec F S8192x128 .f32) => iprop(owns (c : Thread nD τ) arg21 fullShare X21 ∗ owns (c : Thread nD τ) arg19 fullShare b ∗ owns (c : Thread nD τ) arg18 fullShare a ∗ owns (c : Thread nD τ) arg20 fullShare d ∗ owns (c : Thread nD τ) arg16 fullShare Z16 ∗ owns (c : Thread nD τ) arg15 fullShare Z15 ∗ owns (c : Thread nD τ) arg17 fullShare Z17 ∗ owns (c : Thread nD τ) arg22 fullShare X22 ∗ owns (c : Thread nD τ) arg12 fullShare Q12 ∗ owns (c : Thread nD τ) arg13 fullShare Q13 ∗ owns (c : Thread nD τ) arg14 fullShare Q14 ∗ owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11)) X18 X19 X20
  case hb =>
    intro t
    intros
    repeat' (first
      | (with_reducible apply Run.load)
      | (with_reducible apply Run.store)
      | (with_reducible apply Run.bind)
      | (with_reducible exact Run.ret)
      | exact Run.ret
      | delta k0_part1 k0_part2)
  case hk =>
  intro Z18 Z19 Z20 hZ18 hZ19 hZ20
  have hW : Laid Z18 (decay X6) := fun i p e0 e1 => Lay.laid Off.trips10 Off.off23_0 Off.off23_1 (decay X6) hZ18 (fun t j i e0 e1 => (cast_self _ _ j).trans (congrArg (fun x => FloatOps.exp (FloatOps.subf (Scalar.ofBits .f32 0x00000000#32) (FloatOps.exp x))) (row_wide hQ12 (q := 0) (Off.off22 t) (lt_of_lt_of_eq t.isLt Off.trips10) j i e0 e1))) (fun t j i e0 e1 => (cast_self _ _ j).trans (congrArg (fun x => FloatOps.exp (FloatOps.subf (Scalar.ofBits .f32 0x00000000#32) (FloatOps.exp x))) (row_wide hQ12 (q := 1) (Off.off22 t) (lt_of_lt_of_eq t.isLt Off.trips10) j i e0 e1))) i p e0 e1
  have hA : Laid Z19 (negKey X7) := fun i p e0 e1 => Lay.laid Off.trips10 Off.off23_0 Off.off23_1 (negKey X7) hZ19 (fun t j i e0 e1 => (cast_self _ _ j).trans (congrArg (fun x => FloatOps.subf (Scalar.ofBits .f32 0x00000000#32) x) (row_wide hQ13 (q := 0) (Off.off22 t) (lt_of_lt_of_eq t.isLt Off.trips10) j i e0 e1))) (fun t j i e0 e1 => (cast_self _ _ j).trans (congrArg (fun x => FloatOps.subf (Scalar.ofBits .f32 0x00000000#32) x) (row_wide hQ13 (q := 1) (Off.off22 t) (lt_of_lt_of_eq t.isLt Off.trips10) j i e0 e1))) i p e0 e1
  have hB : Laid Z20 (rate X7 X8) := fun i p e0 e1 => Lay.laid Off.trips10 Off.off23_0 Off.off23_1 (rate X7 X8) hZ20 (fun t j i e0 e1 => (cast_self _ _ j).trans (congrArg₂ FloatOps.mulf (row_wide hQ13 (q := 0) (Off.off22 t) (lt_of_lt_of_eq t.isLt Off.trips10) j i e0 e1) (row_wide hQ14 (q := 0) (Off.off22 t) (lt_of_lt_of_eq t.isLt Off.trips10) j i e0 e1))) (fun t j i e0 e1 => (cast_self _ _ j).trans (congrArg₂ FloatOps.mulf (row_wide hQ13 (q := 1) (Off.off22 t) (lt_of_lt_of_eq t.isLt Off.trips10) j i e0 e1) (row_wide hQ14 (q := 1) (Off.off22 t) (lt_of_lt_of_eq t.isLt Off.trips10) j i e0 e1))) i p e0 e1
  clear hZ18 hZ19 hZ20
  with_reducible apply Go.loop1 arg21
  case hb =>
    intro t
    intros
    repeat' (first
      | (with_reducible apply Run.load)
      | (with_reducible apply Run.store)
      | (with_reducible apply Run.bind)
      | (with_reducible exact Run.ret)
      | exact Run.ret)
  case hk =>
  intro Z21 hZ
  have hZ21 : ∀ (i : S7168x64.Idx) (p : S4096x128.Idx), (p 0 : Nat) = 64 * (i 1 : Nat) + (i 0 : Nat) % 64 → (p 1 : Nat) = (i 0 : Nat) / 64 → Z21 p = X9 i := fun i p e0 e1 => Lay.laidSt Off.trips11 Off.off24 Off.off25 hZ i p e0 e1
  clear hZ
  obtain ⟨rr, rfl⟩ := exists_rows (by decide) (by decide) Z15
  obtain ⟨kr, rfl⟩ := exists_rows (by decide) (by decide) Z16
  obtain ⟨vr, rfl⟩ := exists_rows (by decide) (by decide) Z17
  obtain ⟨wr, rfl⟩ := exists_rows (by decide) (by decide) Z18
  obtain ⟨ar, rfl⟩ := exists_rows (by decide) (by decide) Z19
  obtain ⟨br, rfl⟩ := exists_rows (by decide) (by decide) Z20
  obtain ⟨st, rfl⟩ := exists_rows (by decide) (by decide) Z21
  refine tokens fun Y22 hY => ?_
  with_reducible apply Go.loop1 arg12
  case hb =>
    intro t
    intros
    repeat' (first
      | (with_reducible apply Run.load)
      | (with_reducible apply Run.store)
      | (with_reducible apply Run.bind)
      | (with_reducible exact Run.ret)
      | exact Run.ret)
  case hk =>
  intro P12 hZ
  have hP12 : ∀ (i : S7168x128.Idx) (p : S4480x2x128.Idx) (y : S8192x128.Idx), (p 0 : Nat) = 40 * ((i 0 : Nat) / 64) + (i 0 : Nat) % 64 / 2 → (p 1 : Nat) = (i 0 : Nat) % 2 → (p 2 : Nat) = i 1 → (y 0 : Nat) = 64 * (i 1 : Nat) + (i 0 : Nat) % 64 → (y 1 : Nat) = (i 0 : Nat) / 64 → P12 p = FloatOps.truncf .bf16 bitsLt_bf16_f32 (Y22 y) := fun i p y e0 e1 e2 y0 y1 => Lay.backPairs Off.trips13 Off.off29_0 Off.off29_1 Off.off30 hZ i p y e0 e1 e2 y0 y1
  clear hZ
  with_reducible apply Go.loop1 arg10
  case hb =>
    intro t
    intros
    repeat' (first
      | (with_reducible apply Run.load)
      | (with_reducible apply Run.store)
      | (with_reducible apply Run.bind)
      | (with_reducible exact Run.ret)
      | exact Run.ret)
  case hk =>
  intro Y10 hZ
  have hY10 : ∀ (i : S7168x128.Idx) (p : S4480x2x128.Idx), (p 0 : Nat) = 40 * ((i 0 : Nat) / 64) + (i 0 : Nat) % 64 / 2 → (p 1 : Nat) = (i 0 : Nat) % 2 → (p 2 : Nat) = i 1 → Y10 i = P12 p := fun i p e0 e1 e2 => Lay.backRows Off.trips14 Off.off31 Off.off32 hZ i p e0 e1 e2
  clear hZ
  with_reducible apply Go.loop1 arg11
  case hb =>
    intro t
    intros
    repeat' (first
      | (with_reducible apply Run.load)
      | (with_reducible apply Run.store)
      | (with_reducible apply Run.bind)
      | (with_reducible exact Run.ret)
      | exact Run.ret)
  case hk =>
  intro Y11 hZ
  have hY11 : ∀ (i : S7168x64.Idx) (p : S4096x128.Idx), (p 0 : Nat) = 64 * (i 1 : Nat) + (i 0 : Nat) % 64 → (p 1 : Nat) = (i 0 : Nat) / 64 → Y11 i = stN kr vr wr ar br st 128 (p 0) (p 1) := fun i p e0 e1 => Lay.backSt Off.trips15 Off.off33 Off.off34 hZ i p e0 e1
  clear hZ
  have hPost : Post X0 X1 X2 X3 X4 X5 X6 X7 X8 X9 Y10 Y11 := by
    refine ⟨rr, kr, vr, wr, ar, br, st, fun i => hZ15 i (at_lane i) rfl rfl, fun i => hZ16 i (at_lane i) rfl rfl, fun i => hZ17 i (at_lane i) rfl rfl,
      fun i => hW i (at_lane i) rfl rfl, fun i => hA i (at_lane i) rfl rfl, fun i => hB i (at_lane i) rfl rfl, fun i => hZ21 i (at_entry i) rfl rfl,
      fun i t ht => ?_, fun i => hY11 i (at_entry i) rfl rfl⟩
    have hi0 : (i 0 : Nat) < 7168 := (i 0).isLt
    have hi1 : (i 1 : Nat) < 128 := (i 1).isLt
    let p : S4480x2x128.Idx := Lay.mk3 (40 * ((i 0 : Nat) / 64) + (i 0 : Nat) % 64 / 2) ((i 0 : Nat) % 2) (i 1) (by omega) (by omega) hi1
    let y : S8192x128.Idx := Lay.mk2 (64 * (i 1 : Nat) + (i 0 : Nat) % 64) ((i 0 : Nat) / 64) (by omega) (by omega)
    refine (hY10 i p rfl rfl rfl).trans ((hP12 i p y rfl rfl rfl rfl rfl).trans (congrArg (FloatOps.truncf .bf16 bitsLt_bf16_f32) ?_))
    refine (hY y t ?_).trans ?_
    · show (64 * (i 1 : Nat) + (i 0 : Nat) % 64) / 64 = t
      omega
    · show out t rr kr vr wr ar br _ ((64 * (i 1 : Nat) + (i 0 : Nat) % 64) % 64) ((i 0 : Nat) / 64) = _
      rw [show (64 * (i 1 : Nat) + (i 0 : Nat) % 64) % 64 = (i 0 : Nat) % 64 by omega]
  refine Go.ret ?_
  iintro H
  iexists Y10
  iexists Y11
  isplitr
  · ipureintro; exact hPost
  iexists P12
  iexists Q13
  iexists Q14
  iexists (ofRows rr)
  iexists (ofRows kr)
  iexists (ofRows vr)
  iexists (ofRows wr)
  iexists (ofRows ar)
  iexists (ofRows br)
  iexists (ofRows (stN kr vr wr ar br st 128))
  iexists Y22
  iexact H

end Cert.KernelIdeal.Body
-- ==== Proof.RunV.lean ====
/-
  The kernel's run with the values it leaves: if the body's outputs are determined by its input blocks, the program's two
  results are those outputs, put back in the arguments' layout.
-/
module

public import proofs.«01_k».proof.Proof.FrameI
public import proofs.«01_k».proof.Proof.Body
public import Idealize.ShloMosaic.Lib.Pipeline.ValueKit
public import Idealize.ShloMosaic.Lib.StableHlo.RunRead

@[expose] public section

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Walk Tok Body

variable {F : FTy → Type} [FloatOps F]

local notation "𝕄" => MT nD τ sig Unit (Elt F) ℕ (UR sig nD τ) ℕ

/-- The body's run, as an entailment. -/
theorem body_wp {c : Dev nD} {arg0 : Memref sig .tc .vmem S7168x128 .fp8e4m3} {harg0 : arg0.IsWhole} {arg1 : Memref sig .tc .vmem S7168x128 .fp8e4m3} {harg1 : arg1.IsWhole} {arg2 : Memref sig .tc .vmem S7168x128 .fp8e4m3} {harg2 : arg2.IsWhole} {arg3 : Memref sig .tc .vmem S112x128 .f32} {harg3 : arg3.IsWhole} {arg4 : Memref sig .tc .vmem S112x128 .f32} {harg4 : arg4.IsWhole} {arg5 : Memref sig .tc .vmem S112x128 .f32} {harg5 : arg5.IsWhole} {arg6 : Memref sig .tc .vmem S7168x128 .bf16} {harg6 : arg6.IsWhole} {arg7 : Memref sig .tc .vmem S7168x128 .bf16} {harg7 : arg7.IsWhole} {arg8 : Memref sig .tc .vmem S7168x128 .bf16} {harg8 : arg8.IsWhole} {arg9 : Memref sig .tc .vmem S7168x64 .f32} {harg9 : arg9.IsWhole} {arg10 : Memref sig .tc .vmem S7168x128 .bf16} {harg10 : arg10.IsWhole} {arg11 : Memref sig .tc .vmem S7168x64 .f32} {harg11 : arg11.IsWhole} {arg12 : Memref sig .tc .vmem S4480x2x128 .bf16} {harg12 : arg12.IsWhole} {arg13 : Memref sig .tc .vmem S4480x2x128 .bf16} {harg13 : arg13.IsWhole} {arg14 : Memref sig .tc .vmem S4480x2x128 .bf16} {harg14 : arg14.IsWhole} {arg15 : Memref sig .tc .vmem S8192x128 .f32} {harg15 : arg15.IsWhole} {arg16 : Memref sig .tc .vmem S8192x128 .f32} {harg16 : arg16.IsWhole} {arg17 : Memref sig .tc .vmem S8192x128 .f32} {harg17 : arg17.IsWhole} {arg18 : Memref sig .tc .vmem S8192x128 .f32} {harg18 : arg18.IsWhole} {arg19 : Memref sig .tc .vmem S8192x128 .f32} {harg19 : arg19.IsWhole} {arg20 : Memref sig .tc .vmem S8192x128 .f32} {harg20 : arg20.IsWhole} {arg21 : Memref sig .tc .vmem S4096x128 .f32} {harg21 : arg21.IsWhole} {arg22 : Memref sig .tc .vmem S8192x128 .f32} {harg22 : arg22.IsWhole}
    {X0 : Vec F S7168x128 .fp8e4m3} {X1 : Vec F S7168x128 .fp8e4m3} {X2 : Vec F S7168x128 .fp8e4m3} {X3 : Vec F S112x128 .f32} {X4 : Vec F S112x128 .f32} {X5 : Vec F S112x128 .f32} {X6 : Vec F S7168x128 .bf16} {X7 : Vec F S7168x128 .bf16} {X8 : Vec F S7168x128 .bf16} {X9 : Vec F S7168x64 .f32} {X10 : Vec F S7168x128 .bf16} {X11 : Vec F S7168x64 .f32} {X12 : Vec F S4480x2x128 .bf16} {X13 : Vec F S4480x2x128 .bf16} {X14 : Vec F S4480x2x128 .bf16} {X15 : Vec F S8192x128 .f32} {X16 : Vec F S8192x128 .f32} {X17 : Vec F S8192x128 .f32} {X18 : Vec F S8192x128 .f32} {X19 : Vec F S8192x128 .f32} {X20 : Vec F S8192x128 .f32} {X21 : Vec F S4096x128 .f32} {X22 : Vec F S8192x128 .f32} :
    (bodyR c arg0 arg1 arg2 arg3 arg4 arg5 arg6 arg7 arg8 arg9 arg10 arg11 arg12 arg13 arg14 arg15 arg16 arg17 arg18 arg19 arg20 arg21 arg22 X0 X1 X2 X3 X4 X5 X6 X7 X8 X9 X10 X11 X12 X13 X14 X15 X16 X17 X18 X19 X20 X21 X22)
      ⊢ wp frame (wpE (defs₀ (F := F)) Variants.none (c : Thread nD τ) none) Set.univ
        (cc0_rwkv7_sequential arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
        (fun _ => iprop(∃ Y10 Y11, ⌜Post X0 X1 X2 X3 X4 X5 X6 X7 X8 X9 Y10 Y11⌝ ∗ ∃ Y12 Y13 Y14 Y15 Y16 Y17 Y18 Y19 Y20 Y21 Y22, bodyR c arg0 arg1 arg2 arg3 arg4 arg5 arg6 arg7 arg8 arg9 arg10 arg11 arg12 arg13 arg14 arg15 arg16 arg17 arg18 arg19 arg20 arg21 arg22 X0 X1 X2 X3 X4 X5 X6 X7 X8 X9 Y10 Y11 Y12 Y13 Y14 Y15 Y16 Y17 Y18 Y19 Y20 Y21 Y22)) := by
  have h := body_go (arg0 := arg0) (harg0 := harg0) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (arg13 := arg13) (harg13 := harg13) (arg14 := arg14) (harg14 := harg14) (arg15 := arg15) (harg15 := harg15) (arg16 := arg16) (harg16 := harg16) (arg17 := arg17) (harg17 := harg17) (arg18 := arg18) (harg18 := harg18) (arg19 := arg19) (harg19 := harg19) (arg20 := arg20) (harg20 := harg20) (arg21 := arg21) (harg21 := harg21) (arg22 := arg22) (harg22 := harg22) (c := c) (X0 := X0) (X1 := X1) (X2 := X2) (X3 := X3) (X4 := X4) (X5 := X5) (X6 := X6) (X7 := X7) (X8 := X8) (X9 := X9) (X10 := X10) (X11 := X11) (X12 := X12) (X13 := X13) (X14 := X14) (X15 := X15) (X16 := X16) (X17 := X17) (X18 := X18) (X19 := X19) (X20 := X20) (X21 := X21) (X22 := X22)
  unfold Go at h
  exact h

variable (m : (ℓ : Loc nD τ sig) → Buf (Elt F) ℓ) (ρ : Dev nD → PrngReg)
variable (Y10 : Dev nD → Vec F S7168x128 .bf16) (Y11 : Dev nD → Vec F S7168x64 .f32)

/-- The proof data on core `c`: the arrays as the region finds them, the inputs' blocks kept, the outputs at the given
    contents. -/
def datsV (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Y10 c
    | ⟨11, _⟩ => Y11 c
  Φ _ := ΦA spec0 c
  q _ := fullShare
  owed _ := 0

theorem A_eq (c : Dev nD) (w : Fin cfg0.W) : (datsV m Y10 Y11 0 c).A w = V m c (Pipeline.arrRef spec0 w) := rfl
theorem after_0 (c : Dev nD) (t : Fin cfg0.N) : (datsV m Y10 Y11 0 c).after 0 t = iblk m c 0 t := by dsimp only [datsV]
theorem after_1 (c : Dev nD) (t : Fin cfg0.N) : (datsV m Y10 Y11 0 c).after 1 t = iblk m c 1 t := by dsimp only [datsV]
theorem after_2 (c : Dev nD) (t : Fin cfg0.N) : (datsV m Y10 Y11 0 c).after 2 t = iblk m c 2 t := by dsimp only [datsV]
theorem after_3 (c : Dev nD) (t : Fin cfg0.N) : (datsV m Y10 Y11 0 c).after 3 t = iblk m c 3 t := by dsimp only [datsV]
theorem after_4 (c : Dev nD) (t : Fin cfg0.N) : (datsV m Y10 Y11 0 c).after 4 t = iblk m c 4 t := by dsimp only [datsV]
theorem after_5 (c : Dev nD) (t : Fin cfg0.N) : (datsV m Y10 Y11 0 c).after 5 t = iblk m c 5 t := by dsimp only [datsV]
theorem after_6 (c : Dev nD) (t : Fin cfg0.N) : (datsV m Y10 Y11 0 c).after 6 t = iblk m c 6 t := by dsimp only [datsV]
theorem after_7 (c : Dev nD) (t : Fin cfg0.N) : (datsV m Y10 Y11 0 c).after 7 t = iblk m c 7 t := by dsimp only [datsV]
theorem after_8 (c : Dev nD) (t : Fin cfg0.N) : (datsV m Y10 Y11 0 c).after 8 t = iblk m c 8 t := by dsimp only [datsV]
theorem after_9 (c : Dev nD) (t : Fin cfg0.N) : (datsV m Y10 Y11 0 c).after 9 t = iblk m c 9 t := by dsimp only [datsV]
theorem after_10 (c : Dev nD) (t : Fin cfg0.N) : (datsV m Y10 Y11 0 c).after 10 t = Y10 c := by dsimp only [datsV]
theorem after_11 (c : Dev nD) (t : Fin cfg0.N) : (datsV m Y10 Y11 0 c).after 11 t = Y11 c := by dsimp only [datsV]
theorem before_0 (c : Dev nD) (t : Fin cfg0.N) (d) : (datsV m Y10 Y11 0 c).before 0 t d = iblk m c 0 t :=
  before0_0_of m (datsV m Y10 Y11 0 c) (A_eq m Y10 Y11 c 0) (after_0 m Y10 Y11 c) t d
theorem before_1 (c : Dev nD) (t : Fin cfg0.N) (d) : (datsV m Y10 Y11 0 c).before 1 t d = iblk m c 1 t :=
  before0_1_of m (datsV m Y10 Y11 0 c) (A_eq m Y10 Y11 c 1) (after_1 m Y10 Y11 c) t d
theorem before_2 (c : Dev nD) (t : Fin cfg0.N) (d) : (datsV m Y10 Y11 0 c).before 2 t d = iblk m c 2 t :=
  before0_2_of m (datsV m Y10 Y11 0 c) (A_eq m Y10 Y11 c 2) (after_2 m Y10 Y11 c) t d
theorem before_3 (c : Dev nD) (t : Fin cfg0.N) (d) : (datsV m Y10 Y11 0 c).before 3 t d = iblk m c 3 t :=
  before0_3_of m (datsV m Y10 Y11 0 c) (A_eq m Y10 Y11 c 3) (after_3 m Y10 Y11 c) t d
theorem before_4 (c : Dev nD) (t : Fin cfg0.N) (d) : (datsV m Y10 Y11 0 c).before 4 t d = iblk m c 4 t :=
  before0_4_of m (datsV m Y10 Y11 0 c) (A_eq m Y10 Y11 c 4) (after_4 m Y10 Y11 c) t d
theorem before_5 (c : Dev nD) (t : Fin cfg0.N) (d) : (datsV m Y10 Y11 0 c).before 5 t d = iblk m c 5 t :=
  before0_5_of m (datsV m Y10 Y11 0 c) (A_eq m Y10 Y11 c 5) (after_5 m Y10 Y11 c) t d
theorem before_6 (c : Dev nD) (t : Fin cfg0.N) (d) : (datsV m Y10 Y11 0 c).before 6 t d = iblk m c 6 t :=
  before0_6_of m (datsV m Y10 Y11 0 c) (A_eq m Y10 Y11 c 6) (after_6 m Y10 Y11 c) t d
theorem before_7 (c : Dev nD) (t : Fin cfg0.N) (d) : (datsV m Y10 Y11 0 c).before 7 t d = iblk m c 7 t :=
  before0_7_of m (datsV m Y10 Y11 0 c) (A_eq m Y10 Y11 c 7) (after_7 m Y10 Y11 c) t d
theorem before_8 (c : Dev nD) (t : Fin cfg0.N) (d) : (datsV m Y10 Y11 0 c).before 8 t d = iblk m c 8 t :=
  before0_8_of m (datsV m Y10 Y11 0 c) (A_eq m Y10 Y11 c 8) (after_8 m Y10 Y11 c) t d
theorem before_9 (c : Dev nD) (t : Fin cfg0.N) (d) : (datsV m Y10 Y11 0 c).before 9 t d = iblk m c 9 t :=
  before0_9_of m (datsV m Y10 Y11 0 c) (A_eq m Y10 Y11 c 9) (after_9 m Y10 Y11 c) t d

/-- The outputs are what the body leaves, whatever it leaves. -/
def Determined : Prop := ∀ (c : Dev nD) (t : Fin cfg0.N) (y : Vec F S7168x128 .bf16) (z : Vec F S7168x64 .f32),
  Post (iblk m c 0 t) (iblk m c 1 t) (iblk m c 2 t) (iblk m c 3 t) (iblk m c 4 t) (iblk m c 5 t) (iblk m c 6 t) (iblk m c 7 t) (iblk m c 8 t) (iblk m c 9 t) y z → y = Y10 c ∧ z = Y11 c

variable {Y10 Y11} in
/-- The body's run at the pipeline's one point. -/
theorem obligation (hY : Determined m Y10 Y11) (c : Dev nD) :
    BodyObligation (datsV (F := F) m Y10 Y11 0 c) (defs₀ (F := F)) Variants.none () Set.univ := fun t => by
  rw [bigSep_W0, bigSep_W0]
  sl_whnfR [defs₀, Defs.onTc]
  simp only [before_0, before_1, before_2, before_3, before_4, before_5, before_6, before_7, before_8, before_9]
  rw [show (datsV m Y10 Y11 0 c).Φ t.succ = (datsV m Y10 Y11 0 c).Φ t.castSucc from rfl,
    show (datsV m Y10 Y11 0 c).owesAt () t.succ = (datsV m Y10 Y11 0 c).owesAt () t.castSucc from rfl,
    show (datsV m Y10 Y11 0 c).Φ t.castSucc = ΦA spec0 c from rfl, after_0, after_1, after_2, after_3, after_4, after_5, after_6, after_7, after_8, after_9, after_10, after_11]
  unfold ΦA
  rw [Run.scratches]
  iintro ⟨⟨⟨⟨%x12, H12⟩, ⟨%x13, H13⟩, ⟨%x14, H14⟩, ⟨%x15, H15⟩, ⟨%x16, H16⟩, ⟨%x17, H17⟩, ⟨%x18, H18⟩, ⟨%x19, H19⟩, ⟨%x20, H20⟩, ⟨%x21, H21⟩, ⟨%x22, H22⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r frame (wpE (defs₀ (F := F)) Variants.none (c : Thread nD τ) none) Set.univ)
  isplitl [H0 H1 H2 H3 H4 H5 H6 H7 H8 H9 H10 H11 H12 H13 H14 H15 H16 H17 H18 H19 H20 H21 H22]
  · iapply (body_wp (c := c))
    unfold bodyR
    isplitl [H21]; · iexact H21
    isplitl [H19]; · iexact H19
    isplitl [H18]; · iexact H18
    isplitl [H20]; · iexact H20
    isplitl [H16]; · iexact H16
    isplitl [H15]; · iexact H15
    isplitl [H17]; · iexact H17
    isplitl [H22]; · iexact H22
    isplitl [H12]; · iexact H12
    isplitl [H13]; · iexact H13
    isplitl [H14]; · iexact H14
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro %_ ⟨%y10, %y11, %hp, %z12, %z13, %z14, %z15, %z16, %z17, %z18, %z19, %z20, %z21, %z22, H⟩
  obtain ⟨e10, e11⟩ := hY c t y10 y11 hp
  rw [e10, e11]
  unfold bodyR
  icases H with ⟨H21, H19, H18, H20, H16, H15, H17, H22, H12, H13, H14, H0, H1, H2, H3, H4, H5, H6, H7, H8, H9, H10, H11⟩
  isplitl [H12 H13 H14 H15 H16 H17 H18 H19 H20 H21 H22 Hg]
  · isplitr [Hg]; swap; · iexact Hg
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option backward.isDefEq.respectTransparency.types false in
variable {Y10 Y11} in
/-- Every run of @main ends, its windows' arrays as the proof data say and every other buffer as the later lines leave it. -/
theorem run_main (hY : Determined m Y10 Y11) : θ_run defs (onTc (τ := τ) (main (F := F))) (s₀ m ρ)
    (Pipeline.FramePost cfgs (datsV m Y10 Y11) 0 (Pipeline.afterTail₀ cfgs (datsV m Y10 Y11) 0 (V0 m) [hostOps1])) :=
  Pipeline.θ_run_frame_around (Q' := _) cfgs (datsV m Y10 Y11) (0 : Fin 1) launch0 defs₀ Variants.none m ρ main
    (hbody := fun c => (obligation m hY c).loose) (hshare := fun c => (datsV m Y10 Y11 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

/-- The first output array after the run. -/
theorem final_10 (c : Dev nD) : (datsV m Y10 Y11 0 c).arrAt 10 cfg0.N = Y10 c := by
  refine (datsV m Y10 Y11 0 c).arrAt_eq_of_after_last 10 t0_0 (by decide +kernel) _ fun j => ?_
  blk_simp
  rw [after_10]

/-- The second output array after the run. -/
theorem final_11 (c : Dev nD) : (datsV m Y10 Y11 0 c).arrAt 11 cfg0.N = Y11 c := by
  refine (datsV m Y10 Y11 0 c).arrAt_eq_of_after_last 11 t0_0 (by decide +kernel) _ fun j => ?_
  blk_simp
  rw [after_11]

/-- The first result: the first output array, reshaped and transposed. -/
theorem tail_21 (c : Dev nD) : Pipeline.afterTail₀ cfgs (datsV m Y10 Y11) 0 (V0 m) [hostOps1] c main_v21
    = transpose S2x128x56x64 [0, 3, 1, 2] (shapeCast S2x56x64x128 (Y10 c) shapeCasts_S7168x128_S2x56x64x128) transposes_S2x56x64x128_S2x128x56x64_0_3_1_2 := by
  have h := Pipeline.withArrays_arr spec0 (by decide) c (V0 m c) (fun w => (datsV m Y10 Y11 0 c).arrAt w cfg0.N) 10
  rw [final_10] at h
  unfold Pipeline.afterTail₀
  simp only [List.flatten_cons, List.flatten_nil, List.append_nil]
  after_reads_simp
  rw [show Pipeline.withArrays (cfgs 0).spec c (V0 m c) (fun w => (datsV m Y10 Y11 0 c).arrAt w (cfgs 0).N) (Proc.devRef .tc main_v19_0) = Y10 c from h]
  rfl

/-- The second result: the second output array, reshaped. -/
theorem tail_22 (c : Dev nD) : Pipeline.afterTail₀ cfgs (datsV m Y10 Y11) 0 (V0 m) [hostOps1] c main_v22
    = shapeCast S2x56x64x64 (Y11 c) shapeCasts_S7168x64_S2x56x64x64 := by
  have h := Pipeline.withArrays_arr spec0 (by decide) c (V0 m c) (fun w => (datsV m Y10 Y11 0 c).arrAt w cfg0.N) 11
  rw [final_11] at h
  unfold Pipeline.afterTail₀
  simp only [List.flatten_cons, List.flatten_nil, List.append_nil]
  after_reads_simp
  rw [show Pipeline.withArrays (cfgs 0).spec c (V0 m c) (fun w => (datsV m Y10 Y11 0 c).arrAt w (cfgs 0).N) (Proc.devRef .tc main_v19_1) = Y11 c from h]
  rfl

/-! ## The input blocks -/

theorem V_0 (c : Dev nD) : V m c main_v1 = shapeCast S7168x128 (transpose S2x56x64x128 [0, 2, 3, 1] (m ((c : Thread nD τ).loc main_arg0)) transposes_S2x128x56x64_S2x56x64x128_0_2_3_1) shapeCasts_S2x56x64x128_S7168x128 := by
  unfold V V0
  simp only [List.flatten_cons, List.flatten_nil, List.append_nil]
  after_reads_simp
  rfl
theorem V_1 (c : Dev nD) : V m c main_v3 = shapeCast S7168x128 (transpose S2x56x64x128 [0, 2, 3, 1] (m ((c : Thread nD τ).loc main_arg1)) transposes_S2x128x56x64_S2x56x64x128_0_2_3_1) shapeCasts_S2x56x64x128_S7168x128 := by
  unfold V V0
  simp only [List.flatten_cons, List.flatten_nil, List.append_nil]
  after_reads_simp
  rfl
theorem V_2 (c : Dev nD) : V m c main_v5 = shapeCast S7168x128 (transpose S2x56x64x128 [0, 2, 3, 1] (m ((c : Thread nD τ).loc main_arg2)) transposes_S2x128x56x64_S2x56x64x128_0_2_3_1) shapeCasts_S2x56x64x128_S7168x128 := by
  unfold V V0
  simp only [List.flatten_cons, List.flatten_nil, List.append_nil]
  after_reads_simp
  rfl
theorem V_3 (c : Dev nD) : V m c main_v7 = shapeCast S112x128 (transpose S2x56x128 [0, 2, 1] (m ((c : Thread nD τ).loc main_arg3)) transposes_S2x128x56_S2x56x128_0_2_1) shapeCasts_S2x56x128_S112x128 := by
  unfold V V0
  simp only [List.flatten_cons, List.flatten_nil, List.append_nil]
  after_reads_simp
  rfl
theorem V_4 (c : Dev nD) : V m c main_v9 = shapeCast S112x128 (transpose S2x56x128 [0, 2, 1] (m ((c : Thread nD τ).loc main_arg4)) transposes_S2x128x56_S2x56x128_0_2_1) shapeCasts_S2x56x128_S112x128 := by
  unfold V V0
  simp only [List.flatten_cons, List.flatten_nil, List.append_nil]
  after_reads_simp
  rfl
theorem V_5 (c : Dev nD) : V m c main_v11 = shapeCast S112x128 (transpose S2x56x128 [0, 2, 1] (m ((c : Thread nD τ).loc main_arg5)) transposes_S2x128x56_S2x56x128_0_2_1) shapeCasts_S2x56x128_S112x128 := by
  unfold V V0
  simp only [List.flatten_cons, List.flatten_nil, List.append_nil]
  after_reads_simp
  rfl
theorem V_6 (c : Dev nD) : V m c main_v13 = shapeCast S7168x128 (transpose S2x56x64x128 [0, 2, 3, 1] (m ((c : Thread nD τ).loc main_arg6)) transposes_S2x128x56x64_S2x56x64x128_0_2_3_1) shapeCasts_S2x56x64x128_S7168x128 := by
  unfold V V0
  simp only [List.flatten_cons, List.flatten_nil, List.append_nil]
  after_reads_simp
  rfl
theorem V_7 (c : Dev nD) : V m c main_v15 = shapeCast S7168x128 (transpose S2x56x64x128 [0, 2, 3, 1] (m ((c : Thread nD τ).loc main_arg7)) transposes_S2x128x56x64_S2x56x64x128_0_2_3_1) shapeCasts_S2x56x64x128_S7168x128 := by
  unfold V V0
  simp only [List.flatten_cons, List.flatten_nil, List.append_nil]
  after_reads_simp
  rfl
theorem V_8 (c : Dev nD) : V m c main_v17 = shapeCast S7168x128 (transpose S2x56x64x128 [0, 2, 3, 1] (m ((c : Thread nD τ).loc main_arg8)) transposes_S2x128x56x64_S2x56x64x128_0_2_3_1) shapeCasts_S2x56x64x128_S7168x128 := by
  unfold V V0
  simp only [List.flatten_cons, List.flatten_nil, List.append_nil]
  after_reads_simp
  rfl
theorem V_9 (c : Dev nD) : V m c main_v18 = shapeCast S7168x64 (m ((c : Thread nD τ).loc main_arg9)) shapeCasts_S2x56x64x64_S7168x64 := by
  unfold V V0
  simp only [List.flatten_cons, List.flatten_nil, List.append_nil]
  after_reads_simp
  rfl

/-- Every input window's block index at the one point is zero. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem block_0 (c : Dev nD) (t : Fin cfg0.N) : iblk m c 0 t = V m c main_v1 := by
  obtain rfl := fin_N0 t
  have h := (idx t0_0).1
  blk_ext! [iblk, h]
theorem block_1 (c : Dev nD) (t : Fin cfg0.N) : iblk m c 1 t = V m c main_v3 := by
  obtain rfl := fin_N0 t
  have h := (idx t0_0).2.1
  blk_ext! [iblk, h]
theorem block_2 (c : Dev nD) (t : Fin cfg0.N) : iblk m c 2 t = V m c main_v5 := by
  obtain rfl := fin_N0 t
  have h := (idx t0_0).2.2.1
  blk_ext! [iblk, h]
theorem block_3 (c : Dev nD) (t : Fin cfg0.N) : iblk m c 3 t = V m c main_v7 := by
  obtain rfl := fin_N0 t
  have h := (idx t0_0).2.2.2.1
  blk_ext! [iblk, h]
theorem block_4 (c : Dev nD) (t : Fin cfg0.N) : iblk m c 4 t = V m c main_v9 := by
  obtain rfl := fin_N0 t
  have h := (idx t0_0).2.2.2.2.1
  blk_ext! [iblk, h]
theorem block_5 (c : Dev nD) (t : Fin cfg0.N) : iblk m c 5 t = V m c main_v11 := by
  obtain rfl := fin_N0 t
  have h := (idx t0_0).2.2.2.2.2.1
  blk_ext! [iblk, h]
theorem block_6 (c : Dev nD) (t : Fin cfg0.N) : iblk m c 6 t = V m c main_v13 := by
  obtain rfl := fin_N0 t
  have h := (idx t0_0).2.2.2.2.2.2.1
  blk_ext! [iblk, h]
theorem block_7 (c : Dev nD) (t : Fin cfg0.N) : iblk m c 7 t = V m c main_v15 := by
  obtain rfl := fin_N0 t
  have h := (idx t0_0).2.2.2.2.2.2.2.1
  blk_ext! [iblk, h]
theorem block_8 (c : Dev nD) (t : Fin cfg0.N) : iblk m c 8 t = V m c main_v17 := by
  obtain rfl := fin_N0 t
  have h := (idx t0_0).2.2.2.2.2.2.2.2.1
  blk_ext! [iblk, h]
theorem block_9 (c : Dev nD) (t : Fin cfg0.N) : iblk m c 9 t = V m c main_v18 := by
  obtain rfl := fin_N0 t
  have h := (idx t0_0).2.2.2.2.2.2.2.2.2
  blk_ext! [iblk, h]

end Cert.KernelIdeal.RunV
-- ==== Proof.Wkv.lean ====
/-
  The recurrence over the extended reals, and the kernel's token step as one step of it.

  A head's state is a 64 x 64 matrix. A token scales its rows by the decays, adds the rate times what the removal key
  reads from the old state, and adds the key times the value; its output is what the receptance reads from the new state.
-/
module

public import proofs.«01_k».proof.Proof.Body
public import Idealize.ShloMosaic.PureOps.Ideal

@[expose] public section

set_option maxRecDepth 16384

noncomputable section

namespace Cert.Wkv

open Finset

/-- The state of head `l` after `n` tokens: row `j`, column `i`. -/
def state (k v w a b : Nat → Nat → Nat → EReal) (s0 : Nat → Nat → Nat → EReal) : Nat → Nat → Nat → Nat → EReal
  | 0, l, j, i => s0 l j i
  | n + 1, l, j, i =>
    (state k v w a b s0 n l j i * w l n j + b l n j * ∑ q ∈ range 64, state k v w a b s0 n l q i * a l n q) + k l n j * v l n i

/-- The output of head `l` at token `n`: column `i`. -/
def read (r k v w a b : Nat → Nat → Nat → EReal) (s0 : Nat → Nat → Nat → EReal) (n l i : Nat) : EReal :=
  ∑ j ∈ range 64, state k v w a b s0 (n + 1) l j i * r l n j

/-- The states agree if the operands do where they are read. -/
theorem state_congr {k v w a b k' v' w' a' b' : Nat → Nat → Nat → EReal} {s0 s0' : Nat → Nat → Nat → EReal} {l : Nat}
    (hk : ∀ t < 128, ∀ j < 64, k l t j = k' l t j) (hv : ∀ t < 128, ∀ j < 64, v l t j = v' l t j)
    (hw : ∀ t < 128, ∀ j < 64, w l t j = w' l t j) (ha : ∀ t < 128, ∀ j < 64, a l t j = a' l t j)
    (hb : ∀ t < 128, ∀ j < 64, b l t j = b' l t j) (hs : ∀ j < 64, ∀ i < 64, s0 l j i = s0' l j i) :
    ∀ n ≤ 128, ∀ j < 64, ∀ i < 64, state k v w a b s0 n l j i = state k' v' w' a' b' s0' n l j i := by
  intro n
  induction n with
  | zero => intro _ j hj i hi; exact hs j hj i hi
  | succ n ih =>
    intro hn j hj i hi
    have ih := ih (by omega)
    show (_ * _ + _ * ∑ q ∈ range 64, _) + _ = (_ * _ + _ * ∑ q ∈ range 64, _) + _
    rw [ih j hj i hi, hw n hn j hj, hb n hn j hj, hk n hn j hj, hv n hn i hi,
      Finset.sum_congr rfl fun q hq => by rw [ih q (Finset.mem_range.mp hq) i hi, ha n hn q (Finset.mem_range.mp hq)]]

/-- The outputs agree if the operands do where they are read. -/
theorem read_congr {r k v w a b r' k' v' w' a' b' : Nat → Nat → Nat → EReal} {s0 s0' : Nat → Nat → Nat → EReal} {l : Nat}
    (hr : ∀ t < 128, ∀ j < 64, r l t j = r' l t j)
    (hk : ∀ t < 128, ∀ j < 64, k l t j = k' l t j) (hv : ∀ t < 128, ∀ j < 64, v l t j = v' l t j)
    (hw : ∀ t < 128, ∀ j < 64, w l t j = w' l t j) (ha : ∀ t < 128, ∀ j < 64, a l t j = a' l t j)
    (hb : ∀ t < 128, ∀ j < 64, b l t j = b' l t j) (hs : ∀ j < 64, ∀ i < 64, s0 l j i = s0' l j i)
    {n i : Nat} (hn : n < 128) (hi : i < 64) : read r k v w a b s0 n l i = read r' k' v' w' a' b' s0' n l i :=
  Finset.sum_congr rfl fun j hj => by
    rw [state_congr hk hv hw ha hb hs (n + 1) hn j (Finset.mem_range.mp hj) i hi, hr n hn j (Finset.mem_range.mp hj)]

/-- The order in which the kernel adds its 64 products. -/
theorem sum_of_eight (p : Nat → EReal) (f : Nat → EReal)
    (hf : ∀ s, f s = ((((((p s + p (s + 8)) + p (s + 16)) + p (s + 24)) + p (s + 32)) + p (s + 40)) + p (s + 48)) + p (s + 56)) :
    ((f 0 + f 4) + (f 2 + f 6)) + ((f 1 + f 5) + (f 3 + f 7)) = ∑ q ∈ range 64, p q := by
  simp only [hf, Finset.sum_range_succ, Finset.sum_range_zero, zero_add, Nat.reduceAdd]
  ac_rfl

end Cert.Wkv

namespace Cert.KernelIdeal.Tok

open Cert.KernelIdeal Cert.KernelIdeal.Gen
open Idealize.ShloMosaic Walk Finset

variable {rr kr vr wr ar br : Nat → Nat → EReal} {r k v w a b : Nat → Nat → Nat → EReal}

/-- An operand buffer, as a function of head, token and column. -/
def Reads (A : Nat → Nat → EReal) (x : Nat → Nat → Nat → EReal) : Prop :=
  ∀ l < 112, ∀ t < 128, ∀ j < 64, A (128 * j + t) l = x l t j

/-- What the removal key reads from the state. -/
theorem removed_at (t : Fin k0_t12_loop.trips) (st : Nat → Nat → EReal) (i : Nat) (x : S8x128.Idx) :
    removed (F := Ideal) t ar st i x = ∑ q ∈ range 64, (st (64 * q + 8 * i + x 0) (x 1) * ar (row t q) (x 1) : EReal) :=
  Wkv.sum_of_eight (fun q => st (64 * q + 8 * i + x 0) (x 1) * ar (row t q) (x 1)) (fun s => rem8 (F := Ideal) t ar st i s x) fun s => rfl

/-- What the receptance reads, from the products with the new state. -/
theorem outB_at (t : Fin k0_t12_loop.trips) (st : Nat → Nat → EReal) (i n : Nat) (x : S8x128.Idx) :
    outB (F := Ideal) t rr kr vr wr ar br st i n x =
      ∑ q ∈ range (n + 1), (newB (F := Ideal) t kr vr wr ar br st i q x * rr (row t q) (x 1) : EReal) := by
  induction n with
  | zero =>
    rw [Finset.sum_range_succ, Finset.sum_range_zero, zero_add]
    rfl
  | succ n ih =>
    rw [Finset.sum_range_succ, ← ih]
    rfl

/-- One entry of the new state. -/
theorem newB_at (hk : Reads kr k) (hv : Reads vr v) (hw : Reads wr w) (ha : Reads ar a) (hb : Reads br b)
    (t : Fin k0_t12_loop.trips) (st : Nat → Nat → EReal) (S : Nat → Nat → EReal) (l : Nat) (hl : l < 112)
    (hS : ∀ j < 64, ∀ i < 64, st (64 * j + i) l = S j i) (j i : Nat) (hj : j < 64) (hi : i < 64) :
    newB (F := Ideal) t kr vr wr ar br st (i / 8) j (at8 i l) =
      ((S j i * w l t j + b l t j * ∑ q ∈ range 64, S q i * a l t q) + k l t j * v l t i : EReal) := by
  have ht : (t : Nat) < 128 := lt_of_lt_of_eq t.isLt Off.trips12
  have hrow : ∀ q < 64, row t q = 128 * q + t := fun q hq => Off.row_eq t ⟨q, hq⟩
  have hvrow : vrow t (i / 8) = 1024 * (i / 8) + t := Off.vrow_eq t ⟨i / 8, by omega⟩
  have e0 : ((at8 i l 0 : Fin _) : Nat) = i % 8 := rfl
  have e1 : ((at8 i l 1 : Fin _) : Nat) = l := Nat.mod_eq_of_lt (by omega)
  show ((st (64 * j + 8 * (i / 8) + (at8 i l 0 : Fin _)) (at8 i l 1 : Fin _) * wr (row t j) (at8 i l 1 : Fin _)
      + br (row t j) (at8 i l 1 : Fin _) * removed (F := Ideal) t ar st (i / 8) (at8 i l))
      + kr (row t j) (at8 i l 1 : Fin _) * vr (vrow t (i / 8) + 128 * (at8 i l 0 : Fin _)) (at8 i l 1 : Fin _) : EReal) = _
  rw [removed_at, e0, e1, hrow j hj, hvrow, show 64 * j + 8 * (i / 8) + i % 8 = 64 * j + i by omega,
    show 1024 * (i / 8) + t + 128 * (i % 8) = 128 * i + t by omega, hS j hj i hi, hw l hl t ht j hj, hb l hl t ht j hj,
    hk l hl t ht j hj, hv l hl t ht i hi,
    Finset.sum_congr rfl fun q hq => by
      rw [hrow q (Finset.mem_range.mp hq), show 64 * q + 8 * (i / 8) + i % 8 = 64 * q + i by omega, hS q (Finset.mem_range.mp hq) i hi,
        ha l hl t ht q (Finset.mem_range.mp hq)]]

/-- The kernel's state after `n` tokens is the recurrence's. -/
theorem stN_at (hk : Reads kr k) (hv : Reads vr v) (hw : Reads wr w) (ha : Reads ar a) (hb : Reads br b)
    {st : Nat → Nat → EReal} {s0 : Nat → Nat → Nat → EReal} (hs : ∀ l < 112, ∀ j < 64, ∀ i < 64, st (64 * j + i) l = s0 l j i) :
    ∀ n ≤ 128, ∀ l < 112, ∀ j < 64, ∀ i < 64,
      stN (F := Ideal) kr vr wr ar br st n (64 * j + i) l = Wkv.state k v w a b s0 n l j i := by
  intro n
  induction n with
  | zero => intro _ l hl j hj i hi; exact hs l hl j hj i hi
  | succ n ih =>
    intro hn l hl j hj i hi
    have ih := ih (by omega) l hl
    let t : Fin k0_t12_loop.trips := ⟨n, lt_of_lt_of_eq hn Off.trips12.symm⟩
    have e : stN (F := Ideal) kr vr wr ar br st (n + 1) = new (F := Ideal) t kr vr wr ar br (stN kr vr wr ar br st n) :=
      iter_succ (fun t S => new (F := Ideal) t kr vr wr ar br S) t st
    rw [e]
    show newB (F := Ideal) t kr vr wr ar br _ (((64 * j + i) % 64) / 8) ((64 * j + i) / 64) (at8 (64 * j + i) l) = _
    have e8 : at8 (64 * j + i) l = at8 i l := by
      have : (64 * j + i) % 8 = i % 8 := by omega
      unfold at8
      congr 1
      exact Fin.ext this
    rw [show (64 * j + i) % 64 = i by omega, show (64 * j + i) / 64 = j by omega, e8]
    exact newB_at hk hv hw ha hb t _ _ l hl ih j i hj hi

/-- The kernel's output at a token is the recurrence's. -/
theorem out_at (hr : Reads rr r) (hk : Reads kr k) (hv : Reads vr v) (hw : Reads wr w) (ha : Reads ar a) (hb : Reads br b)
    {st : Nat → Nat → EReal} {s0 : Nat → Nat → Nat → EReal} (hs : ∀ l < 112, ∀ j < 64, ∀ i < 64, st (64 * j + i) l = s0 l j i)
    (t : Fin k0_t12_loop.trips) (l i : Nat) (hl : l < 112) (hi : i < 64) :
    out (F := Ideal) t rr kr vr wr ar br (stN (F := Ideal) kr vr wr ar br st t) i l = Wkv.read r k v w a b s0 t l i := by
  have ht : (t : Nat) < 128 := lt_of_lt_of_eq t.isLt Off.trips12
  have hrow : ∀ q < 64, row t q = 128 * q + t := fun q hq => Off.row_eq t ⟨q, hq⟩
  have e1 : ((at8 i l 1 : Fin _) : Nat) = l := Nat.mod_eq_of_lt (by omega)
  show outB (F := Ideal) t rr kr vr wr ar br _ (i / 8) 63 (at8 i l) = _
  rw [outB_at]
  refine Finset.sum_congr rfl fun q hq => ?_
  have hq := Finset.mem_range.mp hq
  rw [newB_at hk hv hw ha hb t _ _ l hl (stN_at hk hv hw ha hb hs t (by omega) l hl) q i hq hi, e1, hrow q hq, hr l hl t ht q hq]
  rfl

end Cert.KernelIdeal.Tok
-- ==== Proof.Args.lean ====
/-
  The two results as functions of the ten arguments, over the extended reals, and the arguments in the layouts in which the
  kernel reads them. Head `l` is head `l % 56` of batch `l / 56`.
-/
module

public import proofs.«01_k».proof.Proof.Wkv

@[expose] public section

set_option maxRecDepth 16384

noncomputable section

namespace Cert.Args

open Idealize.ShloMosaic Walk

/-- A [batch, token, head, column] array. -/
abbrev Tok4 (α : Type) := (⟨4, ![2, 128, 56, 64]⟩ : Shape).Idx → α

/-- A [batch, token, head] array. -/
abbrev Tok3 (α : Type) := (⟨3, ![2, 128, 56]⟩ : Shape).Idx → α

/-- A [batch, head, 64, 64] array. -/
abbrev St4 (α : Type) := (⟨4, ![2, 56, 64, 64]⟩ : Shape).Idx → α

/-- An entry of an array of rank 4, zero outside it. -/
def at4 {a b c d : Nat} (X : (⟨4, ![a, b, c, d]⟩ : Shape).Idx → EReal) (x y z w : Nat) : EReal :=
  if h : x < a ∧ y < b ∧ z < c ∧ w < d then X (Lay.mk4 x y z w h.1 h.2.1 h.2.2.1 h.2.2.2) else 0

/-- An entry of an array of rank 3, zero outside it. -/
def at3 {a b c : Nat} (X : (⟨3, ![a, b, c]⟩ : Shape).Idx → EReal) (x y z : Nat) : EReal :=
  if h : x < a ∧ y < b ∧ z < c then X (Lay.mk3 x y z h.1 h.2.1 h.2.2) else 0

theorem at4_eq {a b c d : Nat} (X : (⟨4, ![a, b, c, d]⟩ : Shape).Idx → EReal) (i : (⟨4, ![a, b, c, d]⟩ : Shape).Idx) {x y z w : Nat}
    (hx : (i 0 : Nat) = x) (hy : (i 1 : Nat) = y) (hz : (i 2 : Nat) = z) (hw : (i 3 : Nat) = w) : X i = at4 X x y z w := by
  have h0 : (i 0 : Nat) < a := (i 0).isLt
  have h1 : (i 1 : Nat) < b := (i 1).isLt
  have h2 : (i 2 : Nat) < c := (i 2).isLt
  have h3 : (i 3 : Nat) < d := (i 3).isLt
  subst hx hy hz hw
  unfold at4
  rw [dif_pos ⟨h0, h1, h2, h3⟩]
  exact congrArg X (Lay.ext4 rfl rfl rfl rfl)

theorem at3_eq {a b c : Nat} (X : (⟨3, ![a, b, c]⟩ : Shape).Idx → EReal) (i : (⟨3, ![a, b, c]⟩ : Shape).Idx) {x y z : Nat}
    (hx : (i 0 : Nat) = x) (hy : (i 1 : Nat) = y) (hz : (i 2 : Nat) = z) : X i = at3 X x y z := by
  have h0 : (i 0 : Nat) < a := (i 0).isLt
  have h1 : (i 1 : Nat) < b := (i 1).isLt
  have h2 : (i 2 : Nat) < c := (i 2).isLt
  subst hx hy hz
  unfold at3
  rw [dif_pos ⟨h0, h1, h2⟩]
  exact congrArg X (Lay.ext3 rfl rfl rfl)

/-- The zero both programs subtract from. -/
def zero : EReal := (Scalar.ofBits .f32 0x00000000#32 : Ideal .f32)

/-- A stored operand times its scale. -/
def scaled (X : Tok4 EReal) (S : Tok3 EReal) (l t j : Nat) : EReal := at4 X (l / 56) t (l % 56) j * at3 S (l / 56) t (l % 56)

/-- The decay. -/
def decay (X : Tok4 EReal) (l t j : Nat) : EReal := Ideal.exp (zero - Ideal.exp (at4 X (l / 56) t (l % 56) j))

/-- The removal key, negated. -/
def negKey (X : Tok4 EReal) (l t j : Nat) : EReal := zero - at4 X (l / 56) t (l % 56) j

/-- The removal key times its rate. -/
def rate (X Y : Tok4 EReal) (l t j : Nat) : EReal := at4 X (l / 56) t (l % 56) j * at4 Y (l / 56) t (l % 56) j

/-- The state before the first token: row `j`, column `i`. -/
def start (X : St4 EReal) (l j i : Nat) : EReal := at4 X (l / 56) (l % 56) i j

/-- The state after `n` tokens. -/
def stateAt (X1 X2 : Tok4 EReal) (X4 X5 : Tok3 EReal) (X6 X7 X8 : Tok4 EReal) (X9 : St4 EReal) : Nat → Nat → Nat → Nat → EReal :=
  Wkv.state (scaled X1 X4) (scaled X2 X5) (decay X6) (negKey X7) (rate X7 X8) (start X9)

/-- The outputs. -/
def out (X0 X1 X2 : Tok4 EReal) (X3 X4 X5 : Tok3 EReal) (X6 X7 X8 : Tok4 EReal) (X9 : St4 EReal) : Tok4 EReal :=
  fun i => Wkv.read (scaled X0 X3) (scaled X1 X4) (scaled X2 X5) (decay X6) (negKey X7) (rate X7 X8) (start X9) (i 1)
    (56 * (i 0 : Nat) + i 2) (i 3)

/-- The final state. -/
def final (X1 X2 : Tok4 EReal) (X4 X5 : Tok3 EReal) (X6 X7 X8 : Tok4 EReal) (X9 : St4 EReal) : St4 EReal :=
  fun i => stateAt X1 X2 X4 X5 X6 X7 X8 X9 128 (56 * (i 0 : Nat) + i 1) (i 3) (i 2)

end Cert.Args

namespace Cert.KernelIdeal.Body

open Cert.KernelIdeal Cert.KernelIdeal.Gen
open Idealize.ShloMosaic Walk Tok Cert.Args

/-- An argument in the kernel's layout. -/
def lay4 {α : Type} (X : S2x128x56x64.Idx → α) : S7168x128.Idx → α :=
  shapeCast S7168x128 (transpose S2x56x64x128 [0, 2, 3, 1] X transposes_S2x128x56x64_S2x56x64x128_0_2_3_1) shapeCasts_S2x56x64x128_S7168x128

/-- A scale in the kernel's layout. -/
def lay3 {α : Type} (X : S2x128x56.Idx → α) : S112x128.Idx → α :=
  shapeCast S112x128 (transpose S2x56x128 [0, 2, 1] X transposes_S2x128x56_S2x56x128_0_2_1) shapeCasts_S2x56x128_S112x128

/-- The state in the kernel's layout. -/
def layS {α : Type} (X : S2x56x64x64.Idx → α) : S7168x64.Idx → α := shapeCast S7168x64 X shapeCasts_S2x56x64x64_S7168x64

theorem lay4_at (X : S2x128x56x64.Idx → EReal) (p : S7168x128.Idx) {l t j : Nat} (hl : l < 112) (hj : j < 64)
    (h0 : (p 0 : Nat) = 64 * l + j) (h1 : (p 1 : Nat) = t) : lay4 X p = at4 X (l / 56) t (l % 56) j := by
  have ht : t < 128 := h1 ▸ (p 1).isLt
  refine (Lay.cast_at _ _ p (Lay.mk4 (l / 56) (l % 56) j t (by omega) (Nat.mod_lt _ (by omega)) hj ht) ?_).trans ?_
  · rw [Shape.rowMajor_val_four, Shape.rowMajor_val_two]
    show ((l / 56 * 56 + l % 56) * 64 + j) * 128 + t = (p 0 : Nat) * 128 + (p 1 : Nat)
    omega
  · exact at4_eq X _ rfl rfl rfl rfl

theorem lay3_at (X : S2x128x56.Idx → EReal) (p : S112x128.Idx) {l t : Nat} (h0 : (p 0 : Nat) = l) (h1 : (p 1 : Nat) = t) :
    lay3 X p = at3 X (l / 56) t (l % 56) := by
  have hl : l < 112 := h0 ▸ (p 0).isLt
  have ht : t < 128 := h1 ▸ (p 1).isLt
  refine (Lay.cast_at _ _ p (Lay.mk3 (l / 56) (l % 56) t (by omega) (Nat.mod_lt _ (by omega)) ht) ?_).trans ?_
  · rw [Shape.rowMajor_val_three, Shape.rowMajor_val_two]
    show (l / 56 * 56 + l % 56) * 128 + t = (p 0 : Nat) * 128 + (p 1 : Nat)
    omega
  · exact at3_eq X _ rfl rfl rfl

theorem layS_at (X : S2x56x64x64.Idx → EReal) (p : S7168x64.Idx) {l j i : Nat} (hl : l < 112) (hi : i < 64)
    (h0 : (p 0 : Nat) = 64 * l + i) (h1 : (p 1 : Nat) = j) : layS X p = at4 X (l / 56) (l % 56) i j := by
  have hj : j < 64 := h1 ▸ (p 1).isLt
  refine (Lay.cast_at _ _ p (Lay.mk4 (l / 56) (l % 56) i j (by omega) (Nat.mod_lt _ (by omega)) hi hj) ?_).trans ?_
  · rw [Shape.rowMajor_val_four, Shape.rowMajor_val_two]
    show ((l / 56 * 56 + l % 56) * 64 + i) * 64 + j = (p 0 : Nat) * 64 + (p 1 : Nat)
    omega
  · exact at4_eq X _ rfl rfl rfl rfl

/-- An operand buffer that holds `W` reads as `x` does. -/
theorem reads {A : Nat → Nat → EReal} {W : S7168x128.Idx → EReal} {x : Nat → Nat → Nat → EReal} (hA : Holds (F := Ideal) A W)
    (hW : ∀ (l t j : Nat) (p : S7168x128.Idx), l < 112 → j < 64 → (p 0 : Nat) = 64 * l + j → (p 1 : Nat) = t → W p = x l t j) :
    Reads A x := by
  intro l hl t ht j hj
  have h := hA (Lay.mk2 (64 * l + j) t (by omega) ht)
  have e0 : ((Lay.mk2 (a := 7168) (b := 128) (64 * l + j) t (by omega) ht 0 : Fin _) : Nat) = 64 * l + j := rfl
  have e1 : ((Lay.mk2 (a := 7168) (b := 128) (64 * l + j) t (by omega) ht 1 : Fin _) : Nat) = t := rfl
  rw [hW l t j _ hl hj e0 e1, e0, e1, show (64 * l + j) % 64 = j by omega, show (64 * l + j) / 64 = l by omega] at h
  exact h

variable {X0 X1 X2 : S2x128x56x64.Idx → EReal} {X3 X4 X5 : S2x128x56.Idx → EReal} {X6 X7 X8 : S2x128x56x64.Idx → EReal}
  {X9 : S2x56x64x64.Idx → EReal}

theorem reads_wide {A : Nat → Nat → EReal} {X : S2x128x56x64.Idx → EReal} {S : S2x128x56.Idx → EReal}
    (hA : Holds (F := Ideal) A (wide (F := Ideal) (lay4 X) (lay3 S))) : Reads A (scaled X S) := by
  refine reads hA fun l t j p hl hj h0 h1 => ?_
  show lay4 X p * lay3 S _ = _
  rw [lay4_at X p hl hj h0 h1, lay3_at S _ (show _ = l by show (p 0 : Nat) / 64 = l; omega) h1]
  rfl

theorem reads_decay {A : Nat → Nat → EReal} {X : S2x128x56x64.Idx → EReal}
    (hA : Holds (F := Ideal) A (Body.decay (F := Ideal) (lay4 X))) : Reads A (Args.decay X) := by
  refine reads hA fun l t j p hl hj h0 h1 => ?_
  show Ideal.exp (zero - Ideal.exp (lay4 X p)) = _
  rw [lay4_at X p hl hj h0 h1]
  rfl

theorem reads_negKey {A : Nat → Nat → EReal} {X : S2x128x56x64.Idx → EReal}
    (hA : Holds (F := Ideal) A (Body.negKey (F := Ideal) (lay4 X))) : Reads A (Args.negKey X) := by
  refine reads hA fun l t j p hl hj h0 h1 => ?_
  show zero - lay4 X p = _
  rw [lay4_at X p hl hj h0 h1]
  rfl

theorem reads_rate {A : Nat → Nat → EReal} {X Y : S2x128x56x64.Idx → EReal}
    (hA : Holds (F := Ideal) A (Body.rate (F := Ideal) (lay4 X) (lay4 Y))) : Reads A (Args.rate X Y) := by
  refine reads hA fun l t j p hl hj h0 h1 => ?_
  show lay4 X p * lay4 Y p = _
  rw [lay4_at X p hl hj h0 h1, lay4_at Y p hl hj h0 h1]
  rfl

/-- The output buffer, in the kernel's layout. -/
def outL (X0 X1 X2 : S2x128x56x64.Idx → EReal) (X3 X4 X5 : S2x128x56.Idx → EReal) (X6 X7 X8 : S2x128x56x64.Idx → EReal)
    (X9 : S2x56x64x64.Idx → EReal) : S7168x128.Idx → EReal := fun p =>
  Wkv.read (scaled X0 X3) (scaled X1 X4) (scaled X2 X5) (Args.decay X6) (Args.negKey X7) (Args.rate X7 X8) (start X9) (p 1)
    ((p 0 : Nat) / 64) ((p 0 : Nat) % 64)

/-- The final state's buffer, in the kernel's layout. -/
def finalL (X1 X2 : S2x128x56x64.Idx → EReal) (X4 X5 : S2x128x56.Idx → EReal) (X6 X7 X8 : S2x128x56x64.Idx → EReal)
    (X9 : S2x56x64x64.Idx → EReal) : S7168x64.Idx → EReal := fun p =>
  stateAt X1 X2 X4 X5 X6 X7 X8 X9 128 ((p 0 : Nat) / 64) (p 1) ((p 0 : Nat) % 64)

/-- The body leaves the recurrence's outputs and final state. -/
theorem post_eq {y : S7168x128.Idx → EReal} {z : S7168x64.Idx → EReal}
    (h : Post (F := Ideal) (lay4 X0) (lay4 X1) (lay4 X2) (lay3 X3) (lay3 X4) (lay3 X5) (lay4 X6) (lay4 X7) (lay4 X8) (layS X9) y z) :
    y = outL X0 X1 X2 X3 X4 X5 X6 X7 X8 X9 ∧ z = finalL X1 X2 X4 X5 X6 X7 X8 X9 := by
  obtain ⟨rr, kr, vr, wr, ar, br, st, hr, hk, hv, hw, ha, hb, hs, hy, hz⟩ := h
  have hr := reads_wide hr
  have hk := reads_wide hk
  have hv := reads_wide hv
  have hw := reads_decay hw
  have ha := reads_negKey ha
  have hb := reads_rate hb
  have hs : ∀ l < 112, ∀ j < 64, ∀ i < 64, st (64 * j + i) l = start X9 l j i := by
    intro l hl j hj i hi
    have h := hs (Lay.mk2 (64 * l + i) j (by omega) hj)
    have e0 : ((Lay.mk2 (a := 7168) (b := 64) (64 * l + i) j (by omega) hj 0 : Fin _) : Nat) = 64 * l + i := rfl
    have e1 : ((Lay.mk2 (a := 7168) (b := 64) (64 * l + i) j (by omega) hj 1 : Fin _) : Nat) = j := rfl
    rw [layS_at X9 _ hl hi e0 e1, e0, e1, show (64 * l + i) % 64 = i by omega, show (64 * l + i) / 64 = l by omega] at h
    exact h
  constructor
  · funext p
    have h0 : (p 0 : Nat) < 7168 := (p 0).isLt
    have h1 : (p 1 : Nat) < 128 := (p 1).isLt
    exact (hy p ⟨p 1, lt_of_lt_of_eq h1 Off.trips12.symm⟩ rfl).trans
      (Tok.out_at hr hk hv hw ha hb hs _ ((p 0 : Nat) / 64) ((p 0 : Nat) % 64) (by omega) (by omega))
  · funext p
    have h0 : (p 0 : Nat) < 7168 := (p 0).isLt
    have h1 : (p 1 : Nat) < 64 := (p 1).isLt
    exact (hz p).trans (Tok.stN_at hk hv hw ha hb hs 128 le_rfl ((p 0 : Nat) / 64) (by omega) (p 1) h1 ((p 0 : Nat) % 64) (by omega))

/-- The output buffer back in the arguments' layout. -/
theorem outL_back : transpose S2x128x56x64 [0, 3, 1, 2] (shapeCast S2x56x64x128 (outL X0 X1 X2 X3 X4 X5 X6 X7 X8 X9)
    shapeCasts_S7168x128_S2x56x64x128) transposes_S2x56x64x128_S2x128x56x64_0_3_1_2 = Args.out X0 X1 X2 X3 X4 X5 X6 X7 X8 X9 := by
  funext i
  have h0 : (i 0 : Nat) < 2 := (i 0).isLt
  have h1 : (i 1 : Nat) < 128 := (i 1).isLt
  have h2 : (i 2 : Nat) < 56 := (i 2).isLt
  have h3 : (i 3 : Nat) < 64 := (i 3).isLt
  refine (congrArg (shapeCast S2x56x64x128 (outL X0 X1 X2 X3 X4 X5 X6 X7 X8 X9) shapeCasts_S7168x128_S2x56x64x128)
    (Lay.ext4 (j := Lay.mk4 (i 0) (i 2) (i 3) (i 1) h0 h2 h3 h1) rfl rfl rfl rfl)).trans ?_
  refine (Lay.cast_at _ _ _ (Lay.mk2 (64 * (56 * (i 0 : Nat) + i 2) + i 3) (i 1) (by omega) h1) ?_).trans ?_
  · rw [Shape.rowMajor_val_four, Shape.rowMajor_val_two]
    show (64 * (56 * (i 0 : Nat) + (i 2 : Nat)) + (i 3 : Nat)) * 128 + (i 1 : Nat)
      = (((i 0 : Nat) * 56 + (i 2 : Nat)) * 64 + (i 3 : Nat)) * 128 + (i 1 : Nat)
    omega
  · show Wkv.read _ _ _ _ _ _ _ (i 1 : Nat) ((64 * (56 * (i 0 : Nat) + (i 2 : Nat)) + (i 3 : Nat)) / 64)
      ((64 * (56 * (i 0 : Nat) + (i 2 : Nat)) + (i 3 : Nat)) % 64) = _
    rw [show (64 * (56 * (i 0 : Nat) + (i 2 : Nat)) + (i 3 : Nat)) / 64 = 56 * (i 0 : Nat) + i 2 by omega,
      show (64 * (56 * (i 0 : Nat) + (i 2 : Nat)) + (i 3 : Nat)) % 64 = i 3 by omega]
    rfl

/-- The final state's buffer back in the arguments' layout. -/
theorem finalL_back : shapeCast S2x56x64x64 (finalL X1 X2 X4 X5 X6 X7 X8 X9) shapeCasts_S7168x64_S2x56x64x64
    = Args.final X1 X2 X4 X5 X6 X7 X8 X9 := by
  funext i
  have h0 : (i 0 : Nat) < 2 := (i 0).isLt
  have h1 : (i 1 : Nat) < 56 := (i 1).isLt
  have h2 : (i 2 : Nat) < 64 := (i 2).isLt
  have h3 : (i 3 : Nat) < 64 := (i 3).isLt
  refine (Lay.cast_at _ _ _ (Lay.mk2 (64 * (56 * (i 0 : Nat) + i 1) + i 2) (i 3) (by omega) h3) ?_).trans ?_
  · rw [Shape.rowMajor_val_four, Shape.rowMajor_val_two]
    show (64 * (56 * (i 0 : Nat) + (i 1 : Nat)) + (i 2 : Nat)) * 64 + (i 3 : Nat)
      = (((i 0 : Nat) * 56 + (i 1 : Nat)) * 64 + (i 2 : Nat)) * 64 + (i 3 : Nat)
    omega
  · show stateAt _ _ _ _ _ _ _ _ 128 ((64 * (56 * (i 0 : Nat) + (i 1 : Nat)) + (i 2 : Nat)) / 64) (i 3 : Nat)
      ((64 * (56 * (i 0 : Nat) + (i 1 : Nat)) + (i 2 : Nat)) % 64) = _
    rw [show (64 * (56 * (i 0 : Nat) + (i 1 : Nat)) + (i 2 : Nat)) / 64 = 56 * (i 0 : Nat) + i 1 by omega,
      show (64 * (56 * (i 0 : Nat) + (i 1 : Nat)) + (i 2 : Nat)) % 64 = i 2 by omega]
    rfl

end Cert.KernelIdeal.Body
-- ==== Proof.KerVal.lean ====
/-
  The kernel's two results, over the extended reals, as functions of its ten arguments.
-/
module

public import proofs.«01_k».proof.Proof.RunV
public import proofs.«01_k».proof.Proof.Args

@[expose] public section

set_option maxRecDepth 16384

noncomputable section

namespace Cert.KernelIdeal.RunV

open Cert.KernelIdeal Cert.KernelIdeal.Gen
open Idealize.ShloMosaic Idealize.ShloMosaic.TcCoe
open Idealize.SL.Sem
open Body

variable (m : (ℓ : Loc nD τ sig) → Buf (Elt Ideal) ℓ) (ρ : Dev nD → PrngReg)

/-- The body's outputs are the recurrence's, in the kernel's layout. -/
theorem determined : Determined m (fun c => outL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (fun c => finalL (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  intro c t y z h
  rw [block_0, V_0] at h
  rw [block_1, V_1] at h
  rw [block_2, V_2] at h
  rw [block_3, V_3] at h
  rw [block_4, V_4] at h
  rw [block_5, V_5] at h
  rw [block_6, V_6] at h
  rw [block_7, V_7] at h
  rw [block_8, V_8] at h
  rw [block_9, V_9] at h
  exact post_eq h

/-- Every run ends with the recurrence's outputs and final state, and its arguments as they were. -/
theorem values : θ_run (defs (F := Ideal)) (onTc (τ := τ) (main (F := Ideal))) ⟨m, fun _ => 0, ρ⟩ (fun r => ∀ c : Dev nD,
      r.2.mem ((c.tc : Thread nD τ).loc main_v21) = Args.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v22) = Args.final (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_v21 (Pipeline.mem_restRefs_of main_v21 (by decide) (by decide))).trans ((tail_21 m _ _ c).trans outL_back),
    ((h c).2 main_v22 (Pipeline.mem_restRefs_of main_v22 (by decide) (by decide))).trans ((tail_22 m _ _ c).trans finalL_back),
    ((h c).2 main_arg0 (Pipeline.mem_restRefs_of main_arg0 (by decide) (by decide))).trans (W_main_arg0 m _ c),
    ((h c).2 main_arg1 (Pipeline.mem_restRefs_of main_arg1 (by decide) (by decide))).trans (W_main_arg1 m _ c),
    ((h c).2 main_arg2 (Pipeline.mem_restRefs_of main_arg2 (by decide) (by decide))).trans (W_main_arg2 m _ c),
    ((h c).2 main_arg3 (Pipeline.mem_restRefs_of main_arg3 (by decide) (by decide))).trans (W_main_arg3 m _ c),
    ((h c).2 main_arg4 (Pipeline.mem_restRefs_of main_arg4 (by decide) (by decide))).trans (W_main_arg4 m _ c),
    ((h c).2 main_arg5 (Pipeline.mem_restRefs_of main_arg5 (by decide) (by decide))).trans (W_main_arg5 m _ c),
    ((h c).2 main_arg6 (Pipeline.mem_restRefs_of main_arg6 (by decide) (by decide))).trans (W_main_arg6 m _ c),
    ((h c).2 main_arg7 (Pipeline.mem_restRefs_of main_arg7 (by decide) (by decide))).trans (W_main_arg7 m _ c),
    ((h c).2 main_arg8 (Pipeline.mem_restRefs_of main_arg8 (by decide) (by decide))).trans (W_main_arg8 m _ c),
    ((h c).2 main_arg9 (Pipeline.mem_restRefs_of main_arg9 (by decide) (by decide))).trans (W_main_arg9 m _ c)⟩)
    (run_main m ρ (determined m))

end Cert.KernelIdeal.RunV
-- ==== Proof.RefBody.lean ====
/-
  The reference's body, run: its two output buffers as a loop over the tokens leaves them, in terms of its ten input buffers.
-/
module

public import proofs.«01_k».proof.Proof.Gen.ReferenceIdeal.Frame
public import proofs.«01_k».proof.Proof.Loop

@[expose] public section

set_option maxRecDepth 16384

noncomputable section

namespace Walk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type} [Preorder Lvl] {Λ : Labels}

local notation "𝕄" => MT nD τ sig Ix Val Name U Lvl

variable {defs : Defs nD τ sig Val Λ} {𝒱 : Variants} {bd : Option 𝒱.V} {E : Set Name}
variable {α β : Type}
variable {s : Shape} {e : EltTy}
variable {c : Dev nD} {cs : CoreSpace}

/-- A store, with the value left. -/
theorem Go.storev {R : sProp 𝕄} {m : Memref sig .tc cs s e} {r : Rect s} {w : r.shape.Idx → Val e}
    {hx : (m.access r).Stores Finset.univ} {hm : (Finset.univ : Finset r.shape.Idx) = Finset.univ ∨ ∀ a, r.stride a = 1}
    {X : s.Idx → Val e} {H' : (s.Idx → Val e) → sProp 𝕄}
    {k : PUnit → Prog (TpuEff nD τ sig Val Λ .tc) α} {Q : α → sProp 𝕄} [h : Acc (c := (c : Thread nD τ)) R m X H']
    (hk : Go defs 𝒱 bd E c (H' (r.overlay X w)) (k ⟨⟩) Q) :
    Go defs 𝒱 bd E c R (Prog.lift (.store m r w Finset.univ hx hm) >>= k) Q := by
  refine Go.of_run (v := ⟨⟩) (R₁ := H' (r.overlay X w)) ?_ hk
  have := Run.store (defs := defs) (𝒱 := 𝒱) (bd := bd) (E := E) (c := c) (R := R) (R' := H' (r.overlay X w)) (m := m) (r := r) (w := w)
    (hx := hx) (hm := hm) (X := X) (H' := H') (k := fun x => pure x) (u := ⟨⟩) Run.ret
  exact this

/-- A loop that carries a value and writes one buffer. -/
theorem Go.loopAcc {w : Nat} {A : Type} {l : Scf.Loop w} {hok : l.OK} {init : A}
    {body : Fin l.trips → A → Prog (TpuEff nD τ sig Val Λ .tc) A} {k : A → Prog (TpuEff nD τ sig Val Λ .tc) α}
    {Q : α → sProp 𝕄} {R : sProp 𝕄} (m : Memref sig .tc cs s e) {X : s.Idx → Val e} {H' : (s.Idx → Val e) → sProp 𝕄}
    [h : Acc (c := (c : Thread nD τ)) R m X H']
    (f : Fin l.trips → A → A) (g : Fin l.trips → A → (s.Idx → Val e) → s.Idx → Val e)
    (hb : ∀ (t : Fin l.trips) (a : A) (z : s.Idx → Val e), Run defs 𝒱 bd E c (H' z) (body t a) (f t a) (H' (g t a z)))
    (hk : ∀ p : A × (s.Idx → Val e), p = iter (fun t p => (f t p.1, g t p.1 p.2)) l.trips (init, X) →
      Go defs 𝒱 bd E c (H' p.2) (k p.1) Q) :
    Go defs 𝒱 bd E c R (Scf.Loop.for l hok init body >>= k) Q := by
  have hk := hk _ rfl
  unfold Go at *
  have hl := Scf.wp_for_bind frame (wpE defs 𝒱 (c : Thread nD τ) bd) E l.lb l.ub l.st hok init body
    (fun n a => iprop(⌜a = (iter (fun t p => (f t p.1, g t p.1 p.2)) n (init, X)).1⌝ ∗
      H' (iter (fun t p => (f t p.1, g t p.1 p.2)) n (init, X)).2)) (fun t acc => by
      iintro ⟨%ha, HR⟩
      have := hb t acc (iter (fun t p => (f t p.1, g t p.1 p.2)) t (init, X)).2
      unfold Run at this
      rw [iter_succ (fun t p => (f t p.1, g t p.1 p.2)) t (init, X)]
      have this := this (fun a => iprop(⌜a = f t (iter (fun t p => (f t p.1, g t p.1 p.2)) t (init, X)).1⌝ ∗
        H' (g t (iter (fun t p => (f t p.1, g t p.1 p.2)) t (init, X)).1 (iter (fun t p => (f t p.1, g t p.1 p.2)) t (init, X)).2))) (by
          subst ha
          iintro H
          isplitr
          · ipureintro; rfl
          · iexact H)
      iapply this
      iexact HR) (kk := k) (Q := Q)
  have h0 : R ⊢ iprop(⌜init = (iter (fun t p => (f t p.1, g t p.1 p.2)) 0 (init, X)).1⌝ ∗
      H' (iter (fun t p => (f t p.1, g t p.1 p.2)) 0 (init, X)).2) := by
    show R ⊢ iprop(⌜init = init⌝ ∗ H' X)
    iintro HR
    ihave ⟨H, HK⟩ := h.out $$ HR
    isplitr
    · ipureintro; rfl
    · iapply HK
      iexact H
  iintro HR
  ihave HI := h0 $$ HR
  iapply hl $$ HI
  iintro %acc ⟨%ha, HR⟩
  subst ha
  iapply hk
  iexact HR

end Walk

namespace Cert.ReferenceIdeal.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Walk

variable {F : FTy → Type} [FloatOps F]

local notation "𝕄" => MT nD τ sig Unit (Elt F) ℕ (UR sig nD τ) ℕ

/-- One token's rows of an operand. -/
def tok {e : EltTy} (X : Vec F S2x128x56x64 e) (t : Fin k0_t1_loop.trips) : Vec F S2x56x64 e :=
  shapeCast S2x56x64 (fun x => X ((Rect.unit (s := S2x128x56x64) (k0_off1 t) S2x1x56x64.size (k0_off1_inb t)).toLoadRect.idx x))
    shapeCasts_S2x1x56x64_S2x56x64

/-- One token's scales, along the columns. -/
def scl (S : Vec F S2x128x56 .f32) (t : Fin k0_t1_loop.trips) : FVec F S2x56x64 .f32 :=
  broadcastTo S2x56x64 (shapeCast S2x56x1 (shapeCast S2x56
    (fun x => S ((Rect.unit (s := S2x128x56) (k0_off2 t) S2x1x56.size (k0_off2_inb t)).toLoadRect.idx x))
    shapeCasts_S2x1x56_S2x56) shapeCasts_S2x56_S2x56x1) broadcasts_S2x56x1_S2x56x64

/-- A vector along the state's rows. -/
def col (x : FVec F S2x56x64 .f32) : FVec F S2x56x64x64 .f32 :=
  broadcastTo S2x56x64x64 (shapeCast S2x56x64x1 x shapeCasts_S2x56x64_S2x56x64x1) broadcasts_S2x56x64x1_S2x56x64x64

/-- A vector along the state's columns. -/
def row (x : FVec F S2x56x64 .f32) : FVec F S2x56x64x64 .f32 :=
  broadcastTo S2x56x64x64 (shapeCast S2x56x1x64 x shapeCasts_S2x56x64_S2x56x1x64) broadcasts_S2x56x1x64_S2x56x64x64

/-- The sum over the state's rows. -/
def red (x : FVec F S2x56x64x64 .f32) : FVec F S2x56x64 .f32 :=
  multiReduction .add [2] S2x56x64 x 0x00000000#32 reduces_S2x56x64x64_S2x56x64 (.inl rfl) rfl

/-- A stored operand times its scale. -/
def scaled (X : Vec F S2x128x56x64 .fp8e4m3) (S : Vec F S2x128x56 .f32) (t : Fin k0_t1_loop.trips) : FVec F S2x56x64 .f32 :=
  mulf (extf .f32 (tok X t) bitsLt_fp8e4m3_f32) (scl S t)

/-- A bf16 operand, widened. -/
def wide (X : Vec F S2x128x56x64 .bf16) (t : Fin k0_t1_loop.trips) : FVec F S2x56x64 .f32 := extf .f32 (tok X t) bitsLt_bf16_f32

/-- The decay. -/
def decay (X : Vec F S2x128x56x64 .bf16) (t : Fin k0_t1_loop.trips) : FVec F S2x56x64 .f32 :=
  exp (subf (broadcast S2x56x64 (Scalar.ofBits .f32 0x00000000#32)) (exp (wide X t)))

/-- The removal key, negated. -/
def negKey (X : Vec F S2x128x56x64 .bf16) (t : Fin k0_t1_loop.trips) : FVec F S2x56x64 .f32 :=
  subf (broadcast S2x56x64 (Scalar.ofBits .f32 0x00000000#32)) (wide X t)

/-- The removal key times its rate. -/
def rate (X Y : Vec F S2x128x56x64 .bf16) (t : Fin k0_t1_loop.trips) : FVec F S2x56x64 .f32 := mulf (wide X t) (wide Y t)

variable (X0 X1 X2 : Vec F S2x128x56x64 .fp8e4m3) (X3 X4 X5 : Vec F S2x128x56 .f32) (X6 X7 X8 : Vec F S2x128x56x64 .bf16)
  (X9 : Vec F S2x56x64x64 .f32)

/-- The state after a token. -/
def step (t : Fin k0_t1_loop.trips) (S : FVec F S2x56x64x64 .f32) : FVec F S2x56x64x64 .f32 :=
  addf (addf (mulf S (col (decay X6 t))) (mulf (col (rate X7 X8 t)) (row (red (mulf S (col (negKey X7 t)))))))
    (mulf (col (scaled X1 X4 t)) (row (scaled X2 X5 t)))

/-- The token's output, laid over the output buffer. -/
def put (t : Fin k0_t1_loop.trips) (S : FVec F S2x56x64x64 .f32) (Y : Vec F S2x128x56x64 .bf16) : Vec F S2x128x56x64 .bf16 :=
  (Rect.unit (s := S2x128x56x64) (k0_off1 t) S2x1x56x64.size (k0_off1_inb t)).overlay Y
    (shapeCast S2x1x56x64 (truncf .bf16 (red (mulf (step X1 X2 X4 X5 X6 X7 X8 t S) (col (scaled X0 X3 t)))) bitsLt_bf16_f32)
      shapeCasts_S2x56x64_S2x1x56x64)

/-- The state before the first token. -/
def start : FVec F S2x56x64x64 .f32 :=
  transpose S2x56x64x64 [0, 1, 3, 2]
    (fun x => X9 ((Rect.unit (s := S2x56x64x64) ![0, 0, 0, 0] S2x56x64x64.size inb_S2x56x64x64_S2x56x64x64_0_0_0_0).toLoadRect.idx x))
    transposes_S2x56x64x64_p0_1_3_2_S2x56x64x64

/-- The state and the output buffer after `n` tokens. -/
def after (Y : Vec F S2x128x56x64 .bf16) (n : Nat) : FVec F S2x56x64x64 .f32 × (S2x128x56x64.Idx → Elt F .bf16) :=
  iter (fun t p => (step X1 X2 X4 X5 X6 X7 X8 t p.1, put X0 X1 X2 X3 X4 X5 X6 X7 X8 t p.1 p.2)) n (start X9, Y)

/-- What the body leaves in its output buffers. -/
def Post (Y10 : Vec F S2x128x56x64 .bf16) (Y11 : Vec F S2x56x64x64 .f32) : Prop :=
  ∃ (Y : Vec F S2x128x56x64 .bf16) (Z : Vec F S2x56x64x64 .f32), Y10 = (after X0 X1 X2 X3 X4 X5 X6 X7 X8 X9 Y k0_t1_loop.trips).2 ∧
    Y11 = (Rect.unit (s := S2x56x64x64) ![0, 0, 0, 0] S2x56x64x64.size inb_S2x56x64x64_S2x56x64x64_0_0_0_0).overlay Z
      (transpose S2x56x64x64 [0, 1, 3, 2] (after X0 X1 X2 X3 X4 X5 X6 X7 X8 X9 Y k0_t1_loop.trips).1
        transposes_S2x56x64x64_p0_1_3_2_S2x56x64x64)

/-- The body's twelve buffers, with their contents. -/
def bodyR (c : Dev nD) (arg0 : Memref sig .tc .vmem S2x128x56x64 .fp8e4m3) (arg1 : Memref sig .tc .vmem S2x128x56x64 .fp8e4m3) (arg2 : Memref sig .tc .vmem S2x128x56x64 .fp8e4m3) (arg3 : Memref sig .tc .vmem S2x128x56 .f32) (arg4 : Memref sig .tc .vmem S2x128x56 .f32) (arg5 : Memref sig .tc .vmem S2x128x56 .f32) (arg6 : Memref sig .tc .vmem S2x128x56x64 .bf16) (arg7 : Memref sig .tc .vmem S2x128x56x64 .bf16) (arg8 : Memref sig .tc .vmem S2x128x56x64 .bf16) (arg9 : Memref sig .tc .vmem S2x56x64x64 .f32) (arg10 : Memref sig .tc .vmem S2x128x56x64 .bf16) (arg11 : Memref sig .tc .vmem S2x56x64x64 .f32) (X0 : Vec F S2x128x56x64 .fp8e4m3) (X1 : Vec F S2x128x56x64 .fp8e4m3) (X2 : Vec F S2x128x56x64 .fp8e4m3) (X3 : Vec F S2x128x56 .f32) (X4 : Vec F S2x128x56 .f32) (X5 : Vec F S2x128x56 .f32) (X6 : Vec F S2x128x56x64 .bf16) (X7 : Vec F S2x128x56x64 .bf16) (X8 : Vec F S2x128x56x64 .bf16) (X9 : Vec F S2x56x64x64 .f32) (X10 : Vec F S2x128x56x64 .bf16) (X11 : Vec F S2x56x64x64 .f32) : sProp 𝕄 :=
  iprop(owns (c : Thread nD τ) arg10 fullShare (X10 : Vec F S2x128x56x64 .bf16) ∗ owns (c : Thread nD τ) arg0 fullShare (X0 : Vec F S2x128x56x64 .fp8e4m3) ∗ owns (c : Thread nD τ) arg1 fullShare (X1 : Vec F S2x128x56x64 .fp8e4m3) ∗ owns (c : Thread nD τ) arg2 fullShare (X2 : Vec F S2x128x56x64 .fp8e4m3) ∗ owns (c : Thread nD τ) arg3 fullShare (X3 : Vec F S2x128x56 .f32) ∗ owns (c : Thread nD τ) arg4 fullShare (X4 : Vec F S2x128x56 .f32) ∗ owns (c : Thread nD τ) arg5 fullShare (X5 : Vec F S2x128x56 .f32) ∗ owns (c : Thread nD τ) arg6 fullShare (X6 : Vec F S2x128x56x64 .bf16) ∗ owns (c : Thread nD τ) arg7 fullShare (X7 : Vec F S2x128x56x64 .bf16) ∗ owns (c : Thread nD τ) arg8 fullShare (X8 : Vec F S2x128x56x64 .bf16) ∗ owns (c : Thread nD τ) arg9 fullShare (X9 : Vec F S2x56x64x64 .f32) ∗ owns (c : Thread nD τ) arg11 fullShare (X11 : Vec F S2x56x64x64 .f32))

set_option maxHeartbeats 0 in
/-- The body, from any contents of its buffers. -/
theorem body_go {c : Dev nD} {arg0 : Memref sig .tc .vmem S2x128x56x64 .fp8e4m3} {harg0 : arg0.IsWhole} {arg1 : Memref sig .tc .vmem S2x128x56x64 .fp8e4m3} {harg1 : arg1.IsWhole} {arg2 : Memref sig .tc .vmem S2x128x56x64 .fp8e4m3} {harg2 : arg2.IsWhole} {arg3 : Memref sig .tc .vmem S2x128x56 .f32} {harg3 : arg3.IsWhole} {arg4 : Memref sig .tc .vmem S2x128x56 .f32} {harg4 : arg4.IsWhole} {arg5 : Memref sig .tc .vmem S2x128x56 .f32} {harg5 : arg5.IsWhole} {arg6 : Memref sig .tc .vmem S2x128x56x64 .bf16} {harg6 : arg6.IsWhole} {arg7 : Memref sig .tc .vmem S2x128x56x64 .bf16} {harg7 : arg7.IsWhole} {arg8 : Memref sig .tc .vmem S2x128x56x64 .bf16} {harg8 : arg8.IsWhole} {arg9 : Memref sig .tc .vmem S2x56x64x64 .f32} {harg9 : arg9.IsWhole} {arg10 : Memref sig .tc .vmem S2x128x56x64 .bf16} {harg10 : arg10.IsWhole} {arg11 : Memref sig .tc .vmem S2x56x64x64 .f32} {harg11 : arg11.IsWhole}
    {X0 : Vec F S2x128x56x64 .fp8e4m3} {X1 : Vec F S2x128x56x64 .fp8e4m3} {X2 : Vec F S2x128x56x64 .fp8e4m3} {X3 : Vec F S2x128x56 .f32} {X4 : Vec F S2x128x56 .f32} {X5 : Vec F S2x128x56 .f32} {X6 : Vec F S2x128x56x64 .bf16} {X7 : Vec F S2x128x56x64 .bf16} {X8 : Vec F S2x128x56x64 .bf16} {X9 : Vec F S2x56x64x64 .f32} {X10 : Vec F S2x128x56x64 .bf16} {X11 : Vec F S2x56x64x64 .f32} :
    Go (defs₀ (F := F)) Variants.none none Set.univ c (bodyR c arg0 arg1 arg2 arg3 arg4 arg5 arg6 arg7 arg8 arg9 arg10 arg11 X0 X1 X2 X3 X4 X5 X6 X7 X8 X9 X10 X11) (cc0_reference arg0 harg0 arg1 harg1 arg2 harg2 arg3 harg3 arg4 harg4 arg5 harg5 arg6 harg6 arg7 harg7 arg8 harg8 arg9 harg9 arg10 harg10 arg11 harg11)
      (fun _ => iprop(∃ Y10 Y11, ⌜Post X0 X1 X2 X3 X4 X5 X6 X7 X8 X9 Y10 Y11⌝ ∗ bodyR c arg0 arg1 arg2 arg3 arg4 arg5 arg6 arg7 arg8 arg9 arg10 arg11 X0 X1 X2 X3 X4 X5 X6 X7 X8 X9 Y10 Y11)) := by
  delta bodyR cc0_reference
  with_reducible apply Go.loadv
  with_reducible apply Go.loopAcc arg10 (step X1 X2 X4 X5 X6 X7 X8) (put X0 X1 X2 X3 X4 X5 X6 X7 X8)
  case hb =>
    intro t a z
    delta k0_part1
    repeat' (first
      | (with_reducible apply Run.load)
      | (with_reducible apply Run.store)
      | (with_reducible apply Run.bind)
      | (with_reducible exact Run.ret)
      | exact Run.ret)
  case hk =>
  intro p hp
  with_reducible apply Go.loadv
  with_reducible apply Go.storev
  refine Go.ret ?_
  iintro H
  iexists _
  iexists _
  isplitr
  swap
  · iexact H
  · ipureintro
    subst hp
    exact ⟨_, _, rfl, rfl⟩

end Cert.ReferenceIdeal.Ref
-- ==== Proof.RefRun.lean ====
/-
  The reference's run with the values it leaves: if the body's outputs are determined by its input blocks, they are the
  program's two results.
-/
module

public import proofs.«01_k».proof.Proof.RefBody
public import Idealize.ShloMosaic.Lib.Pipeline.ValueKit
public import Idealize.ShloMosaic.Lib.StableHlo.RunRead

@[expose] public section

set_option maxRecDepth 16384

noncomputable section

namespace Cert.ReferenceIdeal.RunV

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Walk Ref

variable {F : FTy → Type} [FloatOps F]

local notation "𝕄" => MT nD τ sig Unit (Elt F) ℕ (UR sig nD τ) ℕ

/-- The body's run, as an entailment. -/
theorem body_wp {c : Dev nD} {arg0 : Memref sig .tc .vmem S2x128x56x64 .fp8e4m3} {harg0 : arg0.IsWhole} {arg1 : Memref sig .tc .vmem S2x128x56x64 .fp8e4m3} {harg1 : arg1.IsWhole} {arg2 : Memref sig .tc .vmem S2x128x56x64 .fp8e4m3} {harg2 : arg2.IsWhole} {arg3 : Memref sig .tc .vmem S2x128x56 .f32} {harg3 : arg3.IsWhole} {arg4 : Memref sig .tc .vmem S2x128x56 .f32} {harg4 : arg4.IsWhole} {arg5 : Memref sig .tc .vmem S2x128x56 .f32} {harg5 : arg5.IsWhole} {arg6 : Memref sig .tc .vmem S2x128x56x64 .bf16} {harg6 : arg6.IsWhole} {arg7 : Memref sig .tc .vmem S2x128x56x64 .bf16} {harg7 : arg7.IsWhole} {arg8 : Memref sig .tc .vmem S2x128x56x64 .bf16} {harg8 : arg8.IsWhole} {arg9 : Memref sig .tc .vmem S2x56x64x64 .f32} {harg9 : arg9.IsWhole} {arg10 : Memref sig .tc .vmem S2x128x56x64 .bf16} {harg10 : arg10.IsWhole} {arg11 : Memref sig .tc .vmem S2x56x64x64 .f32} {harg11 : arg11.IsWhole}
    {X0 : Vec F S2x128x56x64 .fp8e4m3} {X1 : Vec F S2x128x56x64 .fp8e4m3} {X2 : Vec F S2x128x56x64 .fp8e4m3} {X3 : Vec F S2x128x56 .f32} {X4 : Vec F S2x128x56 .f32} {X5 : Vec F S2x128x56 .f32} {X6 : Vec F S2x128x56x64 .bf16} {X7 : Vec F S2x128x56x64 .bf16} {X8 : Vec F S2x128x56x64 .bf16} {X9 : Vec F S2x56x64x64 .f32} {X10 : Vec F S2x128x56x64 .bf16} {X11 : Vec F S2x56x64x64 .f32} :
    (bodyR c arg0 arg1 arg2 arg3 arg4 arg5 arg6 arg7 arg8 arg9 arg10 arg11 X0 X1 X2 X3 X4 X5 X6 X7 X8 X9 X10 X11)
      ⊢ wp frame (wpE (defs₀ (F := F)) Variants.none (c : Thread nD τ) none) Set.univ
        (cc0_reference arg0 harg0 arg1 harg1 arg2 harg2 arg3 harg3 arg4 harg4 arg5 harg5 arg6 harg6 arg7 harg7 arg8 harg8 arg9 harg9 arg10 harg10 arg11 harg11)
        (fun _ => iprop(∃ Y10 Y11, ⌜Post X0 X1 X2 X3 X4 X5 X6 X7 X8 X9 Y10 Y11⌝ ∗ bodyR c arg0 arg1 arg2 arg3 arg4 arg5 arg6 arg7 arg8 arg9 arg10 arg11 X0 X1 X2 X3 X4 X5 X6 X7 X8 X9 Y10 Y11)) := by
  have h := body_go (arg0 := arg0) (harg0 := harg0) (arg1 := arg1) (harg1 := harg1) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (c := c) (X0 := X0) (X1 := X1) (X2 := X2) (X3 := X3) (X4 := X4) (X5 := X5) (X6 := X6) (X7 := X7) (X8 := X8) (X9 := X9) (X10 := X10) (X11 := X11)
  unfold Go at h
  exact h

variable (m : (ℓ : Loc nD τ sig) → Buf (Elt F) ℓ) (ρ : Dev nD → PrngReg)
variable (Y10 : Dev nD → Vec F S2x128x56x64 .bf16) (Y11 : Dev nD → Vec F S2x56x64x64 .f32)

/-- The proof data on core `c`: the arrays as the region finds them, the inputs' blocks kept, the outputs at the given
    contents. -/
def datsV (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Y10 c
    | ⟨11, _⟩ => Y11 c
  Φ _ := ΦA spec0 c
  q _ := fullShare
  owed _ := 0

theorem A_eq (c : Dev nD) (w : Fin cfg0.W) : (datsV m Y10 Y11 0 c).A w = V m c (Pipeline.arrRef spec0 w) := rfl
theorem after_0 (c : Dev nD) (t : Fin cfg0.N) : (datsV m Y10 Y11 0 c).after 0 t = iblk m c 0 t := by dsimp only [datsV]
theorem after_1 (c : Dev nD) (t : Fin cfg0.N) : (datsV m Y10 Y11 0 c).after 1 t = iblk m c 1 t := by dsimp only [datsV]
theorem after_2 (c : Dev nD) (t : Fin cfg0.N) : (datsV m Y10 Y11 0 c).after 2 t = iblk m c 2 t := by dsimp only [datsV]
theorem after_3 (c : Dev nD) (t : Fin cfg0.N) : (datsV m Y10 Y11 0 c).after 3 t = iblk m c 3 t := by dsimp only [datsV]
theorem after_4 (c : Dev nD) (t : Fin cfg0.N) : (datsV m Y10 Y11 0 c).after 4 t = iblk m c 4 t := by dsimp only [datsV]
theorem after_5 (c : Dev nD) (t : Fin cfg0.N) : (datsV m Y10 Y11 0 c).after 5 t = iblk m c 5 t := by dsimp only [datsV]
theorem after_6 (c : Dev nD) (t : Fin cfg0.N) : (datsV m Y10 Y11 0 c).after 6 t = iblk m c 6 t := by dsimp only [datsV]
theorem after_7 (c : Dev nD) (t : Fin cfg0.N) : (datsV m Y10 Y11 0 c).after 7 t = iblk m c 7 t := by dsimp only [datsV]
theorem after_8 (c : Dev nD) (t : Fin cfg0.N) : (datsV m Y10 Y11 0 c).after 8 t = iblk m c 8 t := by dsimp only [datsV]
theorem after_9 (c : Dev nD) (t : Fin cfg0.N) : (datsV m Y10 Y11 0 c).after 9 t = iblk m c 9 t := by dsimp only [datsV]
theorem after_10 (c : Dev nD) (t : Fin cfg0.N) : (datsV m Y10 Y11 0 c).after 10 t = Y10 c := by dsimp only [datsV]
theorem after_11 (c : Dev nD) (t : Fin cfg0.N) : (datsV m Y10 Y11 0 c).after 11 t = Y11 c := by dsimp only [datsV]
theorem before_0 (c : Dev nD) (t : Fin cfg0.N) (d) : (datsV m Y10 Y11 0 c).before 0 t d = iblk m c 0 t :=
  before0_0_of m (datsV m Y10 Y11 0 c) (A_eq m Y10 Y11 c 0) (after_0 m Y10 Y11 c) t d
theorem before_1 (c : Dev nD) (t : Fin cfg0.N) (d) : (datsV m Y10 Y11 0 c).before 1 t d = iblk m c 1 t :=
  before0_1_of m (datsV m Y10 Y11 0 c) (A_eq m Y10 Y11 c 1) (after_1 m Y10 Y11 c) t d
theorem before_2 (c : Dev nD) (t : Fin cfg0.N) (d) : (datsV m Y10 Y11 0 c).before 2 t d = iblk m c 2 t :=
  before0_2_of m (datsV m Y10 Y11 0 c) (A_eq m Y10 Y11 c 2) (after_2 m Y10 Y11 c) t d
theorem before_3 (c : Dev nD) (t : Fin cfg0.N) (d) : (datsV m Y10 Y11 0 c).before 3 t d = iblk m c 3 t :=
  before0_3_of m (datsV m Y10 Y11 0 c) (A_eq m Y10 Y11 c 3) (after_3 m Y10 Y11 c) t d
theorem before_4 (c : Dev nD) (t : Fin cfg0.N) (d) : (datsV m Y10 Y11 0 c).before 4 t d = iblk m c 4 t :=
  before0_4_of m (datsV m Y10 Y11 0 c) (A_eq m Y10 Y11 c 4) (after_4 m Y10 Y11 c) t d
theorem before_5 (c : Dev nD) (t : Fin cfg0.N) (d) : (datsV m Y10 Y11 0 c).before 5 t d = iblk m c 5 t :=
  before0_5_of m (datsV m Y10 Y11 0 c) (A_eq m Y10 Y11 c 5) (after_5 m Y10 Y11 c) t d
theorem before_6 (c : Dev nD) (t : Fin cfg0.N) (d) : (datsV m Y10 Y11 0 c).before 6 t d = iblk m c 6 t :=
  before0_6_of m (datsV m Y10 Y11 0 c) (A_eq m Y10 Y11 c 6) (after_6 m Y10 Y11 c) t d
theorem before_7 (c : Dev nD) (t : Fin cfg0.N) (d) : (datsV m Y10 Y11 0 c).before 7 t d = iblk m c 7 t :=
  before0_7_of m (datsV m Y10 Y11 0 c) (A_eq m Y10 Y11 c 7) (after_7 m Y10 Y11 c) t d
theorem before_8 (c : Dev nD) (t : Fin cfg0.N) (d) : (datsV m Y10 Y11 0 c).before 8 t d = iblk m c 8 t :=
  before0_8_of m (datsV m Y10 Y11 0 c) (A_eq m Y10 Y11 c 8) (after_8 m Y10 Y11 c) t d
theorem before_9 (c : Dev nD) (t : Fin cfg0.N) (d) : (datsV m Y10 Y11 0 c).before 9 t d = iblk m c 9 t :=
  before0_9_of m (datsV m Y10 Y11 0 c) (A_eq m Y10 Y11 c 9) (after_9 m Y10 Y11 c) t d

/-- The outputs are what the body leaves, whatever it leaves. -/
def Determined : Prop := ∀ (c : Dev nD) (t : Fin cfg0.N) (y : Vec F S2x128x56x64 .bf16) (z : Vec F S2x56x64x64 .f32),
  Post (iblk m c 0 t) (iblk m c 1 t) (iblk m c 2 t) (iblk m c 3 t) (iblk m c 4 t) (iblk m c 5 t) (iblk m c 6 t) (iblk m c 7 t) (iblk m c 8 t) (iblk m c 9 t) y z → y = Y10 c ∧ z = Y11 c

variable {Y10 Y11} in
/-- The body's run at the pipeline's one point. -/
theorem obligation (hY : Determined m Y10 Y11) (c : Dev nD) :
    BodyObligation (datsV (F := F) m Y10 Y11 0 c) (defs₀ (F := F)) Variants.none () Set.univ := fun t => by
  rw [bigSep_W0, bigSep_W0]
  sl_whnfR [defs₀, Defs.onTc]
  simp only [before_0, before_1, before_2, before_3, before_4, before_5, before_6, before_7, before_8, before_9]
  rw [show (datsV m Y10 Y11 0 c).Φ t.succ = (datsV m Y10 Y11 0 c).Φ t.castSucc from rfl,
    show (datsV m Y10 Y11 0 c).owesAt () t.succ = (datsV m Y10 Y11 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (wp_wand_r frame (wpE (defs₀ (F := F)) Variants.none (c : Thread nD τ) none) Set.univ)
  isplitl [H0 H1 H2 H3 H4 H5 H6 H7 H8 H9 H10 H11]
  · iapply (body_wp (c := c))
    unfold bodyR
    isplitl [H10]; · iexact H10
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H11
  iintro %_ ⟨%y10, %y11, %hp, H⟩
  obtain ⟨e10, e11⟩ := hY c t y10 y11 hp
  rw [e10, e11]
  unfold bodyR
  icases H with ⟨H10, H0, H1, H2, H3, H4, H5, H6, H7, H8, H9, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

set_option backward.isDefEq.respectTransparency.types false in
variable {Y10 Y11} in
/-- Every run of @main ends with the windows' arrays as the proof data say. -/
theorem run_main (hY : Determined m Y10 Y11) : θ_run defs (onTc (τ := τ) (main (F := F))) (s₀ m ρ)
    (Pipeline.FramePost cfgs (datsV m Y10 Y11) 0 (V m)) :=
  Pipeline.θ_run_frame (Q' := _) cfgs (datsV m Y10 Y11) (0 : Fin 1) launch0 defs₀ Variants.none m ρ main
    (hbody := fun c => (obligation m hY c).loose) (hshare := fun c => (datsV m Y10 Y11 0 c).share_full fun _ => rfl)
    (howed := fun _ _ => rfl) (V := V m) (hmain := hmain m Variants.none) (hA := fun _ _ => rfl) (hΦ := fun _ _ => rfl)

/-- The first output array after the run. -/
theorem final_10 (c : Dev nD) : (datsV m Y10 Y11 0 c).arrAt 10 cfg0.N = Y10 c := by
  refine (datsV m Y10 Y11 0 c).arrAt_eq_of_after_last 10 t0_0 (by decide +kernel) _ fun j => ?_
  blk_simp
  rw [after_10]

/-- The second output array after the run. -/
theorem final_11 (c : Dev nD) : (datsV m Y10 Y11 0 c).arrAt 11 cfg0.N = Y11 c := by
  refine (datsV m Y10 Y11 0 c).arrAt_eq_of_after_last 11 t0_0 (by decide +kernel) _ fun j => ?_
  blk_simp
  rw [after_11]

/-! ## The input blocks -/

/-- Every input window's block index at the one point is zero. -/
theorem idx : ∀ t : Fin cfg0.N, win0_0.index t = ![0, 0, 0, 0] ∧ win0_1.index t = ![0, 0, 0, 0] ∧ win0_2.index t = ![0, 0, 0, 0] ∧ win0_3.index t = ![0, 0, 0] ∧ win0_4.index t = ![0, 0, 0] ∧ win0_5.index t = ![0, 0, 0] ∧ win0_6.index t = ![0, 0, 0, 0] ∧ win0_7.index t = ![0, 0, 0, 0] ∧ win0_8.index t = ![0, 0, 0, 0] ∧ win0_9.index t = ![0, 0, 0, 0] :=
  (by decide +kernel : ∀ t : Fin grid0.N, _)

theorem block_0 (c : Dev nD) (t : Fin cfg0.N) : iblk m c 0 t = m ((c : Thread nD τ).loc main_arg0) := by
  obtain rfl := fin_N0 t
  have h := (idx t0_0).1
  refine Eq.trans ?_ (V_main_arg0 m c)
  blk_ext! [iblk, h]
theorem block_1 (c : Dev nD) (t : Fin cfg0.N) : iblk m c 1 t = m ((c : Thread nD τ).loc main_arg1) := by
  obtain rfl := fin_N0 t
  have h := (idx t0_0).2.1
  refine Eq.trans ?_ (V_main_arg1 m c)
  blk_ext! [iblk, h]
theorem block_2 (c : Dev nD) (t : Fin cfg0.N) : iblk m c 2 t = m ((c : Thread nD τ).loc main_arg2) := by
  obtain rfl := fin_N0 t
  have h := (idx t0_0).2.2.1
  refine Eq.trans ?_ (V_main_arg2 m c)
  blk_ext! [iblk, h]
theorem block_3 (c : Dev nD) (t : Fin cfg0.N) : iblk m c 3 t = m ((c : Thread nD τ).loc main_arg3) := by
  obtain rfl := fin_N0 t
  have h := (idx t0_0).2.2.2.1
  refine Eq.trans ?_ (V_main_arg3 m c)
  blk_ext! [iblk, h]
theorem block_4 (c : Dev nD) (t : Fin cfg0.N) : iblk m c 4 t = m ((c : Thread nD τ).loc main_arg4) := by
  obtain rfl := fin_N0 t
  have h := (idx t0_0).2.2.2.2.1
  refine Eq.trans ?_ (V_main_arg4 m c)
  blk_ext! [iblk, h]
theorem block_5 (c : Dev nD) (t : Fin cfg0.N) : iblk m c 5 t = m ((c : Thread nD τ).loc main_arg5) := by
  obtain rfl := fin_N0 t
  have h := (idx t0_0).2.2.2.2.2.1
  refine Eq.trans ?_ (V_main_arg5 m c)
  blk_ext! [iblk, h]
theorem block_6 (c : Dev nD) (t : Fin cfg0.N) : iblk m c 6 t = m ((c : Thread nD τ).loc main_arg6) := by
  obtain rfl := fin_N0 t
  have h := (idx t0_0).2.2.2.2.2.2.1
  refine Eq.trans ?_ (V_main_arg6 m c)
  blk_ext! [iblk, h]
theorem block_7 (c : Dev nD) (t : Fin cfg0.N) : iblk m c 7 t = m ((c : Thread nD τ).loc main_arg7) := by
  obtain rfl := fin_N0 t
  have h := (idx t0_0).2.2.2.2.2.2.2.1
  refine Eq.trans ?_ (V_main_arg7 m c)
  blk_ext! [iblk, h]
theorem block_8 (c : Dev nD) (t : Fin cfg0.N) : iblk m c 8 t = m ((c : Thread nD τ).loc main_arg8) := by
  obtain rfl := fin_N0 t
  have h := (idx t0_0).2.2.2.2.2.2.2.2.1
  refine Eq.trans ?_ (V_main_arg8 m c)
  blk_ext! [iblk, h]
theorem block_9 (c : Dev nD) (t : Fin cfg0.N) : iblk m c 9 t = m ((c : Thread nD τ).loc main_arg9) := by
  obtain rfl := fin_N0 t
  have h := (idx t0_0).2.2.2.2.2.2.2.2.2
  refine Eq.trans ?_ (V_main_arg9 m c)
  blk_ext! [iblk, h]

end Cert.ReferenceIdeal.RunV
-- ==== Proof.RefVal.lean ====
/-
  What the reference's body leaves, over the extended reals: the recurrence's outputs and final state.
-/
module

public import proofs.«01_k».proof.Proof.RefBody
public import proofs.«01_k».proof.Proof.Args
public import Idealize.ShloMosaic.PureOps.Ideal.Laws

@[expose] public section

set_option maxRecDepth 16384

noncomputable section

namespace Cert.ReferenceIdeal.Ref

open Cert.ReferenceIdeal Cert.ReferenceIdeal.Gen
open Idealize.ShloMosaic Walk
open Cert.Args (at4 at3 at4_eq at3_eq)

theorem trips_eq : k0_t1_loop.trips = 128 := by decide +kernel

theorem t_lt (t : Fin k0_t1_loop.trips) : (t : Nat) < 128 := lt_of_lt_of_eq t.isLt trips_eq

theorem off1_1 (t : Fin k0_t1_loop.trips) : k0_off1 t 1 = t := by rw [k0_off1_eq]; rfl
theorem off1_0 (t : Fin k0_t1_loop.trips) : k0_off1 t 0 = 0 := by rw [k0_off1_eq]; rfl
theorem off1_2 (t : Fin k0_t1_loop.trips) : k0_off1 t 2 = 0 := by rw [k0_off1_eq]; rfl
theorem off1_3 (t : Fin k0_t1_loop.trips) : k0_off1 t 3 = 0 := by rw [k0_off1_eq]; rfl
theorem off2_0 (t : Fin k0_t1_loop.trips) : k0_off2 t 0 = 0 := by rw [k0_off2_eq]; rfl
theorem off2_1 (t : Fin k0_t1_loop.trips) : k0_off2 t 1 = t := by rw [k0_off2_eq]; rfl
theorem off2_2 (t : Fin k0_t1_loop.trips) : k0_off2 t 2 = 0 := by rw [k0_off2_eq]; rfl

theorem tok_at (X : S2x128x56x64.Idx → EReal) (t : Fin k0_t1_loop.trips) (j : S2x56x64.Idx)
    (T : S2x56x64.Idx → EReal)
    (hT : T = shapeCast S2x56x64 (fun x => X ((Rect.unit (s := S2x128x56x64) (k0_off1 t) S2x1x56x64.size (k0_off1_inb t)).toLoadRect.idx x))
      shapeCasts_S2x1x56x64_S2x56x64) : T j = at4 X (j 0) t (j 1) (j 2) := by
  have h0 : (j 0 : Nat) < 2 := (j 0).isLt
  have h1 : (j 1 : Nat) < 56 := (j 1).isLt
  have h2 : (j 2 : Nat) < 64 := (j 2).isLt
  subst hT
  refine (Lay.cast_at _ _ j (Lay.mk4 (j 0) 0 (j 1) (j 2) h0 (by omega) h1 h2) ?_).trans ?_
  · rw [Shape.rowMajor_val_four, Shape.rowMajor_val_three]
    show (((j 0 : Nat) * 1 + 0) * 56 + (j 1 : Nat)) * 64 + (j 2 : Nat) = ((j 0 : Nat) * 56 + (j 1 : Nat)) * 64 + (j 2 : Nat)
    omega
  · refine at4_eq X _ ?_ ?_ ?_ ?_
    · show k0_off1 t 0 + 1 * (j 0 : Nat) = j 0
      rw [off1_0]; omega
    · show k0_off1 t 1 + 1 * 0 = t
      rw [off1_1]; omega
    · show k0_off1 t 2 + 1 * (j 1 : Nat) = j 1
      rw [off1_2]; omega
    · show k0_off1 t 3 + 1 * (j 2 : Nat) = j 2
      rw [off1_3]; omega

theorem tok8_at (X : S2x128x56x64.Idx → EReal) (t : Fin k0_t1_loop.trips) (j : S2x56x64.Idx) :
    tok (F := Ideal) (e := .fp8e4m3) X t j = at4 X (j 0) t (j 1) (j 2) := tok_at X t j _ rfl

theorem tok16_at (X : S2x128x56x64.Idx → EReal) (t : Fin k0_t1_loop.trips) (j : S2x56x64.Idx) :
    tok (F := Ideal) (e := .bf16) X t j = at4 X (j 0) t (j 1) (j 2) := tok_at X t j _ rfl

theorem scl_at (S : S2x128x56.Idx → EReal) (t : Fin k0_t1_loop.trips) (j : S2x56x64.Idx) :
    scl (F := Ideal) S t j = at3 S (j 0) t (j 1) := by
  have h0 : (j 0 : Nat) < 2 := (j 0).isLt
  have h1 : (j 1 : Nat) < 56 := (j 1).isLt
  unfold scl
  refine (congrArg (shapeCast S2x56x1 _ _) (Lay.ext3 (j := Lay.mk3 (a := 2) (b := 56) (c := 1) (j 0) (j 1) 0 h0 h1 (by omega)) rfl rfl rfl)).trans ?_
  refine (Lay.cast_at _ _ _ (Lay.mk2 (a := 2) (b := 56) (j 0) (j 1) h0 h1) ?_).trans ?_
  · rw [Shape.rowMajor_val_two, Shape.rowMajor_val_three]
    show (j 0 : Nat) * 56 + (j 1 : Nat) = ((j 0 : Nat) * 56 + (j 1 : Nat)) * 1 + 0
    omega
  refine (Lay.cast_at _ _ _ (Lay.mk3 (a := 2) (b := 1) (c := 56) (j 0) 0 (j 1) h0 (by omega) h1) ?_).trans ?_
  · rw [Shape.rowMajor_val_two, Shape.rowMajor_val_three]
    show ((j 0 : Nat) * 1 + 0) * 56 + (j 1 : Nat) = (j 0 : Nat) * 56 + (j 1 : Nat)
    omega
  · refine at3_eq S _ ?_ ?_ ?_
    · show k0_off2 t 0 + 1 * (j 0 : Nat) = j 0
      rw [off2_0]; omega
    · show k0_off2 t 1 + 1 * 0 = t
      rw [off2_1]; omega
    · show k0_off2 t 2 + 1 * (j 1 : Nat) = j 1
      rw [off2_2]; omega

theorem col_at (x : S2x56x64.Idx → EReal) (i : S2x56x64x64.Idx) {b h j : Nat} (h0 : (i 0 : Nat) = b) (h1 : (i 1 : Nat) = h)
    (h2 : (i 2 : Nat) = j) : col (F := Ideal) x i = at3 x b h j := by
  have l0 : (i 0 : Nat) < 2 := (i 0).isLt
  have l1 : (i 1 : Nat) < 56 := (i 1).isLt
  have l2 : (i 2 : Nat) < 64 := (i 2).isLt
  unfold col
  refine (congrArg (shapeCast S2x56x64x1 _ _) (Lay.ext4 (j := Lay.mk4 (a := 2) (b := 56) (c := 64) (d := 1) (i 0) (i 1) (i 2) 0 l0 l1 l2 (by omega)) rfl rfl rfl rfl)).trans ?_
  refine (Lay.cast_at _ _ _ (Lay.mk3 (a := 2) (b := 56) (c := 64) (i 0) (i 1) (i 2) l0 l1 l2) ?_).trans ?_
  · rw [Shape.rowMajor_val_four, Shape.rowMajor_val_three]
    show ((i 0 : Nat) * 56 + (i 1 : Nat)) * 64 + (i 2 : Nat) = (((i 0 : Nat) * 56 + (i 1 : Nat)) * 64 + (i 2 : Nat)) * 1 + 0
    omega
  · exact at3_eq x _ h0 h1 h2

theorem row_at (x : S2x56x64.Idx → EReal) (i : S2x56x64x64.Idx) {b h j : Nat} (h0 : (i 0 : Nat) = b) (h1 : (i 1 : Nat) = h)
    (h2 : (i 3 : Nat) = j) : row (F := Ideal) x i = at3 x b h j := by
  have l0 : (i 0 : Nat) < 2 := (i 0).isLt
  have l1 : (i 1 : Nat) < 56 := (i 1).isLt
  have l2 : (i 3 : Nat) < 64 := (i 3).isLt
  unfold row
  refine (congrArg (shapeCast S2x56x1x64 _ _) (Lay.ext4 (j := Lay.mk4 (a := 2) (b := 56) (c := 1) (d := 64) (i 0) (i 1) 0 (i 3) l0 l1 (by omega) l2) rfl rfl rfl rfl)).trans ?_
  refine (Lay.cast_at _ _ _ (Lay.mk3 (a := 2) (b := 56) (c := 64) (i 0) (i 1) (i 3) l0 l1 l2) ?_).trans ?_
  · rw [Shape.rowMajor_val_four, Shape.rowMajor_val_three]
    show ((i 0 : Nat) * 56 + (i 1 : Nat)) * 64 + (i 3 : Nat) = (((i 0 : Nat) * 56 + (i 1 : Nat)) * 1 + 0) * 64 + (i 3 : Nat)
    omega
  · exact at3_eq x _ h0 h1 h2

theorem red_at (x : S2x56x64x64.Idx → EReal) (j : S2x56x64.Idx) {b h i : Nat} (h0 : (j 0 : Nat) = b) (h1 : (j 1 : Nat) = h)
    (h2 : (j 2 : Nat) = i) : red (F := Ideal) x j = ∑ q ∈ Finset.range 64, at4 x b h q i := by
  unfold red
  refine (Ideal.multiReduction_add_single x _ _ _ _ j).trans ?_
  rw [Finset.sum_range]
  exact Finset.sum_congr rfl fun q _ => at4_eq x _ h0 h1 rfl h2

/-- Reading at coordinates in range is reading at an index. -/
theorem at4_of {a b c d : Nat} {X : (⟨4, ![a, b, c, d]⟩ : Shape).Idx → EReal} {x y z w : Nat} {v : EReal}
    (hx : x < a) (hy : y < b) (hz : z < c) (hw : w < d)
    (h : ∀ i : (⟨4, ![a, b, c, d]⟩ : Shape).Idx, (i 0 : Nat) = x → (i 1 : Nat) = y → (i 2 : Nat) = z → (i 3 : Nat) = w → X i = v) :
    at4 X x y z w = v := by
  exact (at4_eq X (Lay.mk4 x y z w hx hy hz hw) rfl rfl rfl rfl).symm.trans (h _ rfl rfl rfl rfl)

theorem at3_of {a b c : Nat} {X : (⟨3, ![a, b, c]⟩ : Shape).Idx → EReal} {x y z : Nat} {v : EReal}
    (hx : x < a) (hy : y < b) (hz : z < c)
    (h : ∀ i : (⟨3, ![a, b, c]⟩ : Shape).Idx, (i 0 : Nat) = x → (i 1 : Nat) = y → (i 2 : Nat) = z → X i = v) :
    at3 X x y z = v := by
  exact (at3_eq X (Lay.mk3 x y z hx hy hz) rfl rfl rfl).symm.trans (h _ rfl rfl rfl)

variable {b h : Nat} (hb : b < 2) (hh : h < 56)
include hb hh

theorem scaled_at (X : S2x128x56x64.Idx → EReal) (S : S2x128x56.Idx → EReal) (t : Fin k0_t1_loop.trips) {j : Nat} (hj : j < 64) :
    at3 (scaled (F := Ideal) X S t) b h j = Args.scaled X S (56 * b + h) t j := by
  refine at3_of hb hh hj fun i h0 h1 h2 => ?_
  show tok (F := Ideal) (e := .fp8e4m3) X t i * scl (F := Ideal) S t i = _
  rw [scl_at, tok8_at X t i, h0, h1, h2]
  unfold Args.scaled
  rw [show (56 * b + h) / 56 = b by omega, show (56 * b + h) % 56 = h by omega]

theorem decay_at (X : S2x128x56x64.Idx → EReal) (t : Fin k0_t1_loop.trips) {j : Nat} (hj : j < 64) :
    at3 (decay (F := Ideal) X t) b h j = Args.decay X (56 * b + h) t j := by
  refine at3_of hb hh hj fun i h0 h1 h2 => ?_
  show Ideal.exp (Args.zero - Ideal.exp (tok (F := Ideal) (e := .bf16) X t i)) = _
  rw [tok16_at X t i, h0, h1, h2]
  unfold Args.decay
  rw [show (56 * b + h) / 56 = b by omega, show (56 * b + h) % 56 = h by omega]

theorem negKey_at (X : S2x128x56x64.Idx → EReal) (t : Fin k0_t1_loop.trips) {j : Nat} (hj : j < 64) :
    at3 (negKey (F := Ideal) X t) b h j = Args.negKey X (56 * b + h) t j := by
  refine at3_of hb hh hj fun i h0 h1 h2 => ?_
  show Args.zero - tok (F := Ideal) (e := .bf16) X t i = _
  rw [tok16_at X t i, h0, h1, h2]
  unfold Args.negKey
  rw [show (56 * b + h) / 56 = b by omega, show (56 * b + h) % 56 = h by omega]

theorem rate_at (X Y : S2x128x56x64.Idx → EReal) (t : Fin k0_t1_loop.trips) {j : Nat} (hj : j < 64) :
    at3 (rate (F := Ideal) X Y t) b h j = Args.rate X Y (56 * b + h) t j := by
  refine at3_of hb hh hj fun i h0 h1 h2 => ?_
  show tok (F := Ideal) (e := .bf16) X t i * tok (F := Ideal) (e := .bf16) Y t i = _
  rw [tok16_at X t i, tok16_at Y t i, h0, h1, h2]
  unfold Args.rate
  rw [show (56 * b + h) / 56 = b by omega, show (56 * b + h) % 56 = h by omega]

theorem start_at (X : S2x56x64x64.Idx → EReal) {j i : Nat} (hj : j < 64) (hi : i < 64) :
    at4 (start (F := Ideal) X) b h j i = Args.start X (56 * b + h) j i := by
  refine at4_of hb hh hj hi fun p h0 h1 h2 h3 => ?_
  unfold Args.start
  rw [show (56 * b + h) / 56 = b by omega, show (56 * b + h) % 56 = h by omega]
  refine at4_eq X _ ?_ ?_ ?_ ?_
  · show 0 + 1 * (p 0 : Nat) = b
    omega
  · show 0 + 1 * (p 1 : Nat) = h
    omega
  · show 0 + 1 * (p 3 : Nat) = i
    omega
  · show 0 + 1 * (p 2 : Nat) = j
    omega

variable (X0 X1 X2 : S2x128x56x64.Idx → EReal) (X3 X4 X5 : S2x128x56.Idx → EReal) (X6 X7 X8 : S2x128x56x64.Idx → EReal)
  (X9 : S2x56x64x64.Idx → EReal)

/-- A token's step is the recurrence's. -/
theorem step_at (t : Fin k0_t1_loop.trips) (S : S2x56x64x64.Idx → EReal)
    (hS : ∀ j < 64, ∀ i < 64, at4 S b h j i = Args.stateAt X1 X2 X4 X5 X6 X7 X8 X9 t (56 * b + h) j i) {j i : Nat} (hj : j < 64)
    (hi : i < 64) : at4 (step (F := Ideal) X1 X2 X4 X5 X6 X7 X8 t S) b h j i
      = Args.stateAt X1 X2 X4 X5 X6 X7 X8 X9 ((t : Nat) + 1) (56 * b + h) j i := by
  refine at4_of hb hh hj hi fun p h0 h1 h2 h3 => ?_
  show (S p * col (F := Ideal) (decay (F := Ideal) X6 t) p + col (F := Ideal) (rate (F := Ideal) X7 X8 t) p *
      row (F := Ideal) (red (F := Ideal) (mulf (F := Ideal) (φ := .f32) S (col (F := Ideal) (negKey (F := Ideal) X7 t)))) p)
    + col (F := Ideal) (scaled (F := Ideal) X1 X4 t) p * row (F := Ideal) (scaled (F := Ideal) X2 X5 t) p = _
  rw [at4_eq S p h0 h1 h2 h3, hS j hj i hi, col_at _ p h0 h1 h2, decay_at hb hh _ _ hj, col_at _ p h0 h1 h2, rate_at hb hh _ _ _ hj,
    col_at _ p h0 h1 h2, scaled_at hb hh _ _ _ hj, row_at _ p h0 h1 h3, row_at _ p h0 h1 h3, scaled_at hb hh _ _ _ hi,
    at3_of hb hh hi fun q g0 g1 g2 => red_at _ q g0 g1 g2, Finset.sum_congr rfl fun q hq => by
      have hq := Finset.mem_range.mp hq
      refine at4_of hb hh hq hi fun u g0 g1 g2 g3 => ?_
      show S u * col (F := Ideal) (negKey (F := Ideal) X7 t) u = _
      rw [at4_eq S u g0 g1 g2 g3, hS q hq i hi, col_at _ u g0 g1 g2, negKey_at hb hh _ _ hq]]
  rfl

omit hb hh in
/-- One trip more. -/
theorem after_succ (Y : S2x128x56x64.Idx → EReal) (n : Nat) (hl : n < k0_t1_loop.trips) :
    after (F := Ideal) X0 X1 X2 X3 X4 X5 X6 X7 X8 X9 Y (n + 1)
      = (step (F := Ideal) X1 X2 X4 X5 X6 X7 X8 ⟨n, hl⟩ (after (F := Ideal) X0 X1 X2 X3 X4 X5 X6 X7 X8 X9 Y n).1,
        put (F := Ideal) X0 X1 X2 X3 X4 X5 X6 X7 X8 ⟨n, hl⟩ (after (F := Ideal) X0 X1 X2 X3 X4 X5 X6 X7 X8 X9 Y n).1
          (after (F := Ideal) X0 X1 X2 X3 X4 X5 X6 X7 X8 X9 Y n).2) :=
  iter_succ (fun t p => (step (F := Ideal) X1 X2 X4 X5 X6 X7 X8 t p.1, put (F := Ideal) X0 X1 X2 X3 X4 X5 X6 X7 X8 t p.1 p.2))
    ⟨n, hl⟩ (start (F := Ideal) X9, Y)

/-- The state after `n` tokens is the recurrence's. -/
theorem after_at (Y : S2x128x56x64.Idx → EReal) (n : Nat) (hn : n ≤ 128) : ∀ j < 64, ∀ i < 64,
    at4 (after (F := Ideal) X0 X1 X2 X3 X4 X5 X6 X7 X8 X9 Y n).1 b h j i
      = Args.stateAt X1 X2 X4 X5 X6 X7 X8 X9 n (56 * b + h) j i := by
  induction n with
  | zero => exact fun j hj i hi => start_at hb hh X9 hj hi
  | succ n ih =>
    intro j hj i hi
    have hl := lt_of_lt_of_eq (show n < 128 by omega) trips_eq.symm
    rw [after_succ X0 X1 X2 X3 X4 X5 X6 X7 X8 X9 Y n hl]
    exact step_at hb hh X1 X2 X4 X5 X6 X7 X8 X9 ⟨n, hl⟩ _ (ih (by omega)) hj hi

omit hb hh in
/-- A token's row laid over the output buffer, at its own places. -/
theorem overlay_tok (t : Fin k0_t1_loop.trips) (Y : S2x128x56x64.Idx → EReal) (w : S2x1x56x64.Idx → EReal) (p : S2x128x56x64.Idx)
    (hp : (p 1 : Nat) = t) :
    (Rect.unit (s := S2x128x56x64) (k0_off1 t) S2x1x56x64.size (k0_off1_inb t)).overlay Y w p
      = w (Lay.mk4 (a := 2) (b := 1) (c := 56) (d := 64) (p 0) 0 (p 2) (p 3) (p 0).isLt Nat.one_pos (p 2).isLt (p 3).isLt) := by
  refine overlay_at (Rect.unit (s := S2x128x56x64) (k0_off1 t) S2x1x56x64.size (k0_off1_inb t)) Y w _ ?_
  intro a
  fin_cases a
  · show (p 0 : Nat) = k0_off1 t 0 + 1 * (p 0 : Nat)
    rw [off1_0]; omega
  · show (p 1 : Nat) = k0_off1 t 1 + 1 * 0
    rw [off1_1]; omega
  · show (p 2 : Nat) = k0_off1 t 2 + 1 * (p 2 : Nat)
    rw [off1_2]; omega
  · show (p 3 : Nat) = k0_off1 t 3 + 1 * (p 3 : Nat)
    rw [off1_3]; omega

omit hb hh in
/-- The token's own place in the output buffer. -/
theorem put_in (t : Fin k0_t1_loop.trips) (S : S2x56x64x64.Idx → EReal) (Y : S2x128x56x64.Idx → EReal) (p : S2x128x56x64.Idx)
    (hp : (p 1 : Nat) = t) {x y z : Nat} (hx : (p 0 : Nat) = x) (hy : (p 2 : Nat) = y) (hz : (p 3 : Nat) = z) :
    put (F := Ideal) X0 X1 X2 X3 X4 X5 X6 X7 X8 t S Y p = ∑ q ∈ Finset.range 64,
      at4 (mulf (F := Ideal) (φ := .f32) (step (F := Ideal) X1 X2 X4 X5 X6 X7 X8 t S) (col (F := Ideal) (scaled (F := Ideal) X0 X3 t))) x y q z := by
  have h0 : (p 0 : Nat) < 2 := (p 0).isLt
  have h2 : (p 2 : Nat) < 56 := (p 2).isLt
  have h3 : (p 3 : Nat) < 64 := (p 3).isLt
  unfold put
  refine (overlay_tok t Y _ p hp).trans ?_
  refine (Lay.cast_at _ _ _ (Lay.mk3 (a := 2) (b := 56) (c := 64) (p 0) (p 2) (p 3) h0 h2 h3) ?_).trans ?_
  · rw [Shape.rowMajor_val_four, Shape.rowMajor_val_three]
    show ((p 0 : Nat) * 56 + (p 2 : Nat)) * 64 + (p 3 : Nat) = (((p 0 : Nat) * 1 + 0) * 56 + (p 2 : Nat)) * 64 + (p 3 : Nat)
    omega
  exact red_at _ _ hx hy hz

omit hb hh in
/-- The other places of the output buffer. -/
theorem put_out (t : Fin k0_t1_loop.trips) (S : S2x56x64x64.Idx → EReal) (Y : S2x128x56x64.Idx → EReal) (p : S2x128x56x64.Idx)
    (hp : (p 1 : Nat) ≠ t) : put (F := Ideal) X0 X1 X2 X3 X4 X5 X6 X7 X8 t S Y p = Y p := by
  unfold put
  refine overlay_out _ _ _ 1 ?_
  intro k hk
  have hk : k < 1 := hk
  show (p 1 : Nat) ≠ k0_off1 t 1 + 1 * k
  rw [off1_1]
  omega

/-- A token's row of the output buffer, once its trip has run. -/
theorem after_out (Y : S2x128x56x64.Idx → EReal) (n : Nat) (hn : n ≤ 128) (t : Nat) (ht : t < n) (i : Nat) (hi : i < 64) :
    at4 (after (F := Ideal) X0 X1 X2 X3 X4 X5 X6 X7 X8 X9 Y n).2 b t h i
      = Wkv.read (Args.scaled X0 X3) (Args.scaled X1 X4) (Args.scaled X2 X5) (Args.decay X6) (Args.negKey X7) (Args.rate X7 X8)
          (Args.start X9) t (56 * b + h) i := by
  induction n with
  | zero => omega
  | succ n ih =>
    have hl := lt_of_lt_of_eq (show n < 128 by omega) trips_eq.symm
    rw [after_succ X0 X1 X2 X3 X4 X5 X6 X7 X8 X9 Y n hl]
    have hA := after_at hb hh X0 X1 X2 X3 X4 X5 X6 X7 X8 X9 Y n (by omega)
    have ih := ih (by omega)
    generalize (after (F := Ideal) X0 X1 X2 X3 X4 X5 X6 X7 X8 X9 Y n).1 = S at hA ⊢
    generalize (after (F := Ideal) X0 X1 X2 X3 X4 X5 X6 X7 X8 X9 Y n).2 = Z at ih ⊢
    have ht' : t < 128 := by omega
    dsimp only
    generalize hW : put (F := Ideal) X0 X1 X2 X3 X4 X5 X6 X7 X8 ⟨n, hl⟩ S Z = W
    refine at4_of hb ht' hh hi fun p h0 h1 h2 h3 => ?_
    subst hW
    by_cases htn : t = n
    · subst htn
      refine (put_in X0 X1 X2 X3 X4 X5 X6 X7 X8 ⟨t, hl⟩ S Z p h1 h0 h2 h3).trans ?_
      unfold Wkv.read
      refine Finset.sum_congr rfl fun q hq => ?_
      have hq := Finset.mem_range.mp hq
      refine at4_of hb hh hq hi fun u g0 g1 g2 g3 => ?_
      show step (F := Ideal) X1 X2 X4 X5 X6 X7 X8 ⟨t, hl⟩ S u * col (F := Ideal) (scaled (F := Ideal) X0 X3 ⟨t, hl⟩) u = _
      rw [col_at _ u g0 g1 g2, scaled_at hb hh _ _ _ hq, at4_eq (step (F := Ideal) X1 X2 X4 X5 X6 X7 X8 ⟨t, hl⟩ S) u g0 g1 g2 g3]
      exact congrArg (· * _) (step_at hb hh X1 X2 X4 X5 X6 X7 X8 X9 ⟨t, hl⟩ S hA hq hi)
    · refine (put_out X0 X1 X2 X3 X4 X5 X6 X7 X8 ⟨n, hl⟩ S Z p fun h => htn (h1.symm.trans h)).trans ?_
      exact (at4_eq _ p h0 h1 h2 h3).trans (ih (by omega))

omit hb hh in
/-- The body leaves the recurrence's outputs and final state. -/
theorem post_eq {y : S2x128x56x64.Idx → EReal} {z : S2x56x64x64.Idx → EReal}
    (H : Post (F := Ideal) X0 X1 X2 X3 X4 X5 X6 X7 X8 X9 y z) :
    y = Args.out X0 X1 X2 X3 X4 X5 X6 X7 X8 X9 ∧ z = Args.final X1 X2 X4 X5 X6 X7 X8 X9 := by
  obtain ⟨Y, Z, hy, hz⟩ := H
  rw [trips_eq] at hy hz
  constructor
  · have key := fun b hb h hh => after_out (b := b) (h := h) hb hh X0 X1 X2 X3 X4 X5 X6 X7 X8 X9 Y 128 le_rfl
    generalize (after (F := Ideal) X0 X1 X2 X3 X4 X5 X6 X7 X8 X9 Y 128).2 = B at hy key
    subst hy
    funext p
    have h0 : (p 0 : Nat) < 2 := (p 0).isLt
    have h1 : (p 1 : Nat) < 128 := (p 1).isLt
    have h2 : (p 2 : Nat) < 56 := (p 2).isLt
    have h3 : (p 3 : Nat) < 64 := (p 3).isLt
    exact (at4_eq _ p rfl rfl rfl rfl).trans (key _ h0 _ h2 _ h1 _ h3)
  · have key := fun b hb h hh => after_at (b := b) (h := h) hb hh X0 X1 X2 X3 X4 X5 X6 X7 X8 X9 Y 128 le_rfl
    generalize (after (F := Ideal) X0 X1 X2 X3 X4 X5 X6 X7 X8 X9 Y 128).1 = B at hz key
    subst hz
    funext p
    have h0 : (p 0 : Nat) < 2 := (p 0).isLt
    have h1 : (p 1 : Nat) < 56 := (p 1).isLt
    have h2 : (p 2 : Nat) < 64 := (p 2).isLt
    have h3 : (p 3 : Nat) < 64 := (p 3).isLt
    refine (overlay_at _ _ _ p ?_).trans ?_
    · intro a
      fin_cases a
      · show (p 0 : Nat) = 0 + 1 * (p 0 : Nat); omega
      · show (p 1 : Nat) = 0 + 1 * (p 1 : Nat); omega
      · show (p 2 : Nat) = 0 + 1 * (p 2 : Nat); omega
      · show (p 3 : Nat) = 0 + 1 * (p 3 : Nat); omega
    · exact (at4_eq B _ rfl rfl rfl rfl).trans (key _ h0 _ h1 _ h3 _ h2)

end Cert.ReferenceIdeal.Ref
-- ==== Proof.RefOut.lean ====
/-
  The reference's two results, over the extended reals, as functions of its ten arguments.
-/
module

public import proofs.«01_k».proof.Proof.RefRun
public import proofs.«01_k».proof.Proof.RefVal

@[expose] public section

set_option maxRecDepth 16384

noncomputable section

namespace Cert.ReferenceIdeal.RunV

open Cert.ReferenceIdeal Cert.ReferenceIdeal.Gen
open Idealize.ShloMosaic Idealize.ShloMosaic.TcCoe
open Idealize.SL.Sem
open Ref

variable (m : (ℓ : Loc nD τ sig) → Buf (Elt Ideal) ℓ) (ρ : Dev nD → PrngReg)

/-- The body's outputs are the recurrence's. -/
theorem determined : Determined m (fun c => Args.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
    (fun c => Args.final (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  intro c t y z h
  rw [block_0] at h
  rw [block_1] at h
  rw [block_2] at h
  rw [block_3] at h
  rw [block_4] at h
  rw [block_5] at h
  rw [block_6] at h
  rw [block_7] at h
  rw [block_8] at h
  rw [block_9] at h
  exact post_eq _ _ _ _ _ _ _ _ _ _ h

/-- Every run ends with the recurrence's outputs and final state, and its arguments as they were. -/
theorem values : θ_run (defs (F := Ideal)) (onTc (τ := τ) (main (F := Ideal))) ⟨m, fun _ => 0, ρ⟩ (fun r => ∀ c : Dev nD,
      r.2.mem ((c.tc : Thread nD τ).loc main_v0_0) = Args.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v0_1) = Args.final (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    (Pipeline.FramePost.out_eq h c 10).trans (final_10 m _ _ c),
    (Pipeline.FramePost.out_eq h c 11).trans (final_11 m _ _ c),
    (Pipeline.FramePost.in_eq h c 0 rfl).trans (V_main_arg0 m c),
    (Pipeline.FramePost.in_eq h c 1 rfl).trans (V_main_arg1 m c),
    (Pipeline.FramePost.in_eq h c 2 rfl).trans (V_main_arg2 m c),
    (Pipeline.FramePost.in_eq h c 3 rfl).trans (V_main_arg3 m c),
    (Pipeline.FramePost.in_eq h c 4 rfl).trans (V_main_arg4 m c),
    (Pipeline.FramePost.in_eq h c 5 rfl).trans (V_main_arg5 m c),
    (Pipeline.FramePost.in_eq h c 6 rfl).trans (V_main_arg6 m c),
    (Pipeline.FramePost.in_eq h c 7 rfl).trans (V_main_arg7 m c),
    (Pipeline.FramePost.in_eq h c 8 rfl).trans (V_main_arg8 m c),
    (Pipeline.FramePost.in_eq h c 9 rfl).trans (V_main_arg9 m c)⟩)
    (run_main m ρ (determined m))

end Cert.ReferenceIdeal.RunV
-- ==== Proof.lean ====
/-
  The claims of Defs.lean: the three programs run to the end with their arguments as they were, every rewrite the
  idealized program was printed under is one its rule proves, and over the extended reals the kernel's two results are the
  reference's.
-/
module

public import proofs.«01_k».proof.Defs
public import proofs.«01_k».proof.Proof.FrameK
public import proofs.«01_k».proof.Proof.FrameI
public import proofs.«01_k».proof.Proof.KerVal
public import proofs.«01_k».proof.Proof.RefOut
public import proofs.«01_k».proof.Proof.Gen.ReferenceIdeal.Frame
public import Idealize.ShloMosaic.Lib.Bf16PairInverse

@[expose] public section

namespace Cert.Proof

open Idealize.ShloMosaic

/-- Every rewrite of the idealized program is one its rule proves. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _, IdealRules.truncf_extf.statement _ _ _,
    IdealRules.bf16_pair.packStatement _⟩

/-- Over the extended reals the kernel and the reference end with the same results: both with the recurrence's outputs and
    final state, of the same arguments. -/
theorem algebraic [Cert.KernelIdeal.Facts] [Cert.ReferenceIdeal.Facts] : Cert.algebraic_KernelIdeal_ReferenceIdeal := by
  intro m g m' g' _ hm
  refine ⟨_, _, Cert.KernelIdeal.RunV.values m g, ?_⟩
  refine (θ_run _ _ _).mono (fun r h c => ?_) (Cert.ReferenceIdeal.RunV.values m' g')
  obtain ⟨h0, h1, hk⟩ := h c
  obtain ⟨e0, e1, e2, e3, e4, e5, e6, e7, e8, e9⟩ := hm c
  refine ⟨h0.trans ?_, h1.trans ?_, hk⟩
  · rw [e0, e1, e2, e3, e4, e5, e6, e7, e8, e9]
  · rw [e1, e2, e4, e5, e6, e7, e8, e9]

theorem claim : Cert.Claim :=
  ⟨Cert.Kernel.Gen.facts, Cert.KernelIdeal.Gen.facts, Cert.ReferenceIdeal.Gen.facts, fun m g _ => Cert.Kernel.Run.frame_w m g,
    fun m g _ => Cert.KernelIdeal.Run.frame_w m g, fun m g _ => Cert.ReferenceIdeal.Gen.frame m g, preserves, algebraic⟩

end Cert.Proof
